-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12_0)) (v1 : (c : Dev Cert.FfnIdeal.nD) → Buf (Elt Ideal) ((c.tc : Thread Cert.FfnIdeal.nD Cert.FfnIdeal.τ).loc Cert.FfnIdeal.main_v12_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12_0) = v0 c
          ∧ r.2.mem ((c.tc : Thread Cert.FfnIdeal.nD Cert.FfnIdeal.τ).loc Cert.FfnIdeal.main_v12_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v60) = v0 c
          ∧ r.2.mem ((c.tc : Thread Cert.FfnReferenceIdeal.nD Cert.FfnReferenceIdeal.τ).loc Cert.FfnReferenceIdeal.main_v62) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
-- ==== Pre_finite_scores.lean ====
abbrev S8192x2048 : Shape := ⟨2, ![8192, 2048]⟩
abbrev S1x8192x2048 : Shape := ⟨3, ![1, 8192, 2048]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  bcast_S_S1x8192x2048 : S_.BroadcastsInDim S1x8192x2048 (![] : Fin 0 → Fin S1x8192x2048.rank)
  bcast_S_S16 : S_.BroadcastsInDim S16 (![] : Fin 0 → Fin S16.rank)

variable [Facts]

def fn {F : FTy → Type} [FloatOps F] (main_arg0 : FVec F S8192x2048 .f32) (main_arg1 : FVec F S1x8192x2048 .f32) (main_arg2 : FVec F S1x8192x2048 .f32) (main_arg3 : FVec F S16 .f32) : IVec S8192x2048 1 × IVec S1x8192x2048 1 × IVec S16 1 :=
  let main_cst : FVec F S_ .f32 := constant S_ .f32 0x7F800000#32
  let main_v0 : FVec F S8192x2048 .f32 := broadcastInDim S8192x2048 ![] bcast_S_S8192x2048 main_cst
  let main_v1 : IVec S8192x2048 1 := cmpf .olt main_arg0 main_v0
  let main_cst_0 : FVec F S_ .f32 := constant S_ .f32 0xFF800000#32
  let main_v2 : FVec F S8192x2048 .f32 := broadcastInDim S8192x2048 ![] bcast_S_S8192x2048 main_cst_0
  let main_v3 : IVec S8192x2048 1 := cmpf .ogt main_arg0 main_v2
  let main_v4 : IVec S8192x2048 1 := andi main_v1 main_v3
  let main_cst_1 : FVec F S_ .f32 := constant S_ .f32 0x7F800000#32
  let main_v5 : FVec F S1x8192x2048 .f32 := broadcastInDim S1x8192x2048 ![] bcast_S_S1x8192x2048 main_cst_1
  let main_v6 : IVec S1x8192x2048 1 := cmpf .olt main_arg1 main_v5
  let main_cst_2 : FVec F S_ .f32 := constant S_ .f32 0xFF800000#32
  let main_v7 : FVec F S1x8192x2048 .f32 := broadcastInDim S1x8192x2048 ![] bcast_S_S1x8192x2048 main_cst_2
  let main_v8 : IVec S1x8192x2048 1 := cmpf .ogt main_arg1 main_v7
  let main_v9 : IVec S1x8192x2048 1 := andi main_v6 main_v8
  let main_cst_3 : FVec F S_ .f32 := constant S_ .f32 0x7F800000#32
  let main_v10 : FVec F S16 .f32 := broadcastInDim S16 ![] bcast_S_S16 main_cst_3
  let main_v11 : IVec S16 1 := cmpf .olt main_arg3 main_v10
  let main_cst_4 : FVec F S_ .f32 := constant S_ .f32 0xFF800000#32
  let main_v12 : FVec F S16 .f32 := broadcastInDim S16 ![] bcast_S_S16 main_cst_4
  let main_v13 : IVec S16 1 := cmpf .ogt main_arg3 main_v12
  let main_v14 : IVec S16 1 := andi main_v11 main_v13
  (main_v4, main_v9, main_v14)
-- ==== Kernel.lean ====
abbrev S8192x2048 : Shape := ⟨2, ![8192, 2048]⟩
abbrev S1x8192x2048 : Shape := ⟨3, ![1, 8192, 2048]⟩
abbrev S16 : Shape := ⟨1, ![16]⟩
abbrev S_ : Shape := ⟨0, ![]⟩
abbrev S256x256 : Shape := ⟨2, ![256, 256]⟩
abbrev S512x256 : Shape := ⟨2, ![512, 256]⟩
abbrev S1x4096x256 : Shape := ⟨3, ![1, 4096, 256]⟩
abbrev S4096x256 : Shape := ⟨2, ![4096, 256]⟩
abbrev S2x512x1 : Shape := ⟨3, ![2, 512, 1]⟩
abbrev S256x128 : Shape := ⟨2, ![256, 128]⟩
abbrev S1 : Shape := ⟨1, ![1]⟩
abbrev S1x256x1 : Shape := ⟨3, ![1, 256, 1]⟩
abbrev S256x1 : Shape := ⟨2, ![256, 1]⟩
abbrev S256 : Shape := ⟨1, ![256]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩

abbrev nBuf : Space → Nat
  | .hbm => 16
  | .vmem => 13
  | .smem => 1
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S1x8192x2048, .f32⟩
  | .hbm, ⟨3, _⟩ => ⟨S16, .f32⟩
  | .hbm, ⟨4, _⟩ => ⟨S_, .bf16⟩
  | .hbm, ⟨5, _⟩ => ⟨S256x256, .bf16⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .bf16⟩
  | .hbm, ⟨13, _⟩ => ⟨S256x256, .bf16⟩
  | .hbm, ⟨14, _⟩ => ⟨S256x256, .bf16⟩
  | .hbm, ⟨15, _⟩ => ⟨S8192x2048, .bf16⟩
  | .local _ .vmem, ⟨0, _⟩ => ⟨S256x256, .bf16⟩
  | .local _ .vmem, ⟨1, _⟩ => ⟨S512x256, .f32⟩
  | .local _ .vmem, ⟨2, _⟩ => ⟨S512x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S512x256, .bf16⟩
  | .local _ .vmem, ⟨8, _⟩ => ⟨S512x256, .bf16⟩
  | .local _ .vmem, ⟨9, _⟩ => ⟨S4096x256, .bf16⟩
  | .local _ .vmem, ⟨10, _⟩ => ⟨S4096x256, .bf16⟩
  | .local _ .vmem, ⟨11, _⟩ => ⟨S2x512x1, .f32⟩
  | .local _ .vmem, ⟨12, _⟩ => ⟨S512x256, .f32⟩
  | .local _ .smem, ⟨0, _⟩ => ⟨S16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c2_i32 : BitVec 32 := 2#32
  let v13 : BitVec 32 := Scalar.muli arg2 c2_i32
  let c1_i32 : BitVec 32 := 1#32
  let v14 : BitVec 32 := Scalar.addi v13 c1_i32
  let c256_i32 : BitVec 32 := 256#32
  let v15 : BitVec 32 := Scalar.muli v14 c256_i32
  v15
def k0_off1 (i : grid0.Coords) (c1_i32 : BitVec 32) : Fin 2 → Nat :=
  let arg2 : BitVec 32 := BitVec.ofNat 32 (i 2).val
  let c2_i32 : BitVec 32 := 2#32
  let v13 : BitVec 32 := Scalar.muli arg2 c2_i32
  let v14 : BitVec 32 := Scalar.addi v13 c1_i32
  let c256_i32 : BitVec 32 := 256#32
  let v15 : BitVec 32 := Scalar.muli v14 c256_i32
  let v16 : BitVec 32 := v15
  let v31 : Index := Scalar.indexCast v16
  let c0_12 : Index := 0#32
  ![v31.toNat, 0]
def k0_off2 (i : grid0.Coords) (c0_i32_15 : BitVec 32) : Fin 1 → Nat :=
  let arg1 : BitVec 32 := BitVec.ofNat 32 (i 1).val
  let c2_i32_14 : BitVec 32 := 2#32
  let v34 : BitVec 32 := Scalar.muli arg1 c2_i32_14
  let v35 : BitVec 32 := Scalar.addi v34 c0_i32_15
  let v36 : Index := Scalar.indexCast v35
  ![v36.toNat]
def k0_off3 (i : grid0.Coords) (c1_i32 : BitVec 32) : Fin 2 → Nat :=
  let arg2 : BitVec 32 := BitVec.ofNat 32 (i 2).val
  let c2_i32 : BitVec 32 := 2#32
  let v13 : BitVec 32 := Scalar.muli arg2 c2_i32
  let v14 : BitVec 32 := Scalar.addi v13 c1_i32
  let c256_i32 : BitVec 32 := 256#32
  let v15 : BitVec 32 := Scalar.muli v14 c256_i32
  let v16 : BitVec 32 := v15
  let v45 : Index := Scalar.indexCast v16
  let c128_19 : Index := 128#32
  ![v45.toNat, 128]
def k0_mult2 (i : grid0.Coords) : BitVec 32 :=
  let arg2 : BitVec 32 := BitVec.ofNat 32 (i 2).val
  let c2_i32_69 : BitVec 32 := 2#32
  let v139 : BitVec 32 := Scalar.muli arg2 c2_i32_69
  let c0_i32_70 : BitVec 32 := 0#32
  let v140 : BitVec 32 := Scalar.addi v139 c0_i32_70
  let c256_i32_71 : BitVec 32 := 256#32
  let v141 : BitVec 32 := Scalar.muli v140 c256_i32_71
  v141
@[reducible] def k0_t1_loop (i : grid0.Coords) : Scf.Loop 32 :=
  let c0_i32_139 : BitVec 32 := 0#32
  let arg2 : BitVec 32 := BitVec.ofNat 32 (i 2).val
  let c2_i32_137 : BitVec 32 := 2#32
  let v265 : BitVec 32 := Scalar.muli arg2 c2_i32_137
  let v266 : BitVec 32 := Scalar.subi v265 c0_i32_139
  let c1_i32_140 : BitVec 32 := 1#32
  let v268 : BitVec 32 := Scalar.divsi v266 c1_i32_140
  let v269 : BitVec 32 := Scalar.muli v268 c1_i32_140
  let v270 : BitVec 32 := Scalar.addi c0_i32_139 v269
  let c1_i32_141 : BitVec 32 := 1#32
  ⟨c0_i32_139, v270, c1_i32_141⟩
def k0_mult3 (i : grid0.Coords) (k0_t1 : Fin (k0_t1_loop i).trips) : BitVec 32 :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c1_i32_141 : BitVec 32 := 1#32
  let arg13 : BitVec 32 := Scf.iv c0_i32_139 c1_i32_141 k0_t1
  let v276 : BitVec 32 := Scalar.subi v275 arg13
  let c256_i32_149 : BitVec 32 := 256#32
  let v277 : BitVec 32 := Scalar.muli v276 c256_i32_149
  v277
def k0_off4 (i : grid0.Coords) (k0_t1 : Fin (k0_t1_loop i).trips) : Fin 2 → Nat :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c1_i32_141 : BitVec 32 := 1#32
  let arg13 : BitVec 32 := Scf.iv c0_i32_139 c1_i32_141 k0_t1
  let v276 : BitVec 32 := Scalar.subi v275 arg13
  let c256_i32_149 : BitVec 32 := 256#32
  let v277 : BitVec 32 := Scalar.muli v276 c256_i32_149
  let v278 : BitVec 32 := v277
  let v283 : Index := Scalar.indexCast v278
  let c0_153 : Index := 0#32
  ![v283.toNat, 0]
def k0_off5 (i : grid0.Coords) (c0_i32_156 : BitVec 32) : Fin 1 → Nat :=
  let arg1 : BitVec 32 := BitVec.ofNat 32 (i 1).val
  let c2_i32_155 : BitVec 32 := 2#32
  let v286 : BitVec 32 := Scalar.muli arg1 c2_i32_155
  let v287 : BitVec 32 := Scalar.addi v286 c0_i32_156
  let v288 : Index := Scalar.indexCast v287
  ![v288.toNat]
def k0_off6 (i : grid0.Coords) (k0_t1 : Fin (k0_t1_loop i).trips) : Fin 2 → Nat :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c1_i32_141 : BitVec 32 := 1#32
  let arg13 : BitVec 32 := Scf.iv c0_i32_139 c1_i32_141 k0_t1
  let v276 : BitVec 32 := Scalar.subi v275 arg13
  let c256_i32_149 : BitVec 32 := 256#32
  let v277 : BitVec 32 := Scalar.muli v276 c256_i32_149
  let v278 : BitVec 32 := v277
  let v297 : Index := Scalar.indexCast v278
  let c128_161 : Index := 128#32
  ![v297.toNat, 128]
@[reducible] def k0_t2_loop (i : grid0.Coords) : Scf.Loop 32 :=
  let c0_i32_139 : BitVec 32 := 0#32
  let arg2 : BitVec 32 := BitVec.ofNat 32 (i 2).val
  let c2_i32_137 : BitVec 32 := 2#32
  let v265 : BitVec 32 := Scalar.muli arg2 c2_i32_137
  let v266 : BitVec 32 := Scalar.subi v265 c0_i32_139
  let c1_i32_140 : BitVec 32 := 1#32
  let v268 : BitVec 32 := Scalar.divsi v266 c1_i32_140
  let v269 : BitVec 32 := Scalar.muli v268 c1_i32_140
  let v270 : BitVec 32 := Scalar.addi c0_i32_139 v269
  let v267 : BitVec 32 := Scalar.addi c0_i32_139 v266
  let c1_i32_142 : BitVec 32 := 1#32
  ⟨v270, v267, c1_i32_142⟩
def k0_mult4 (i : grid0.Coords) (k0_t2 : Fin (k0_t2_loop i).trips) : BitVec 32 :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c2_i32_137 : BitVec 32 := 2#32
  let v265 : BitVec 32 := Scalar.muli arg2 c2_i32_137
  let v266 : BitVec 32 := Scalar.subi v265 c0_i32_139
  let c1_i32_140 : BitVec 32 := 1#32
  let v268 : BitVec 32 := Scalar.divsi v266 c1_i32_140
  let v269 : BitVec 32 := Scalar.muli v268 c1_i32_140
  let v270 : BitVec 32 := Scalar.addi c0_i32_139 v269
  let c1_i32_142 : BitVec 32 := 1#32
  let arg13 : BitVec 32 := Scf.iv v270 c1_i32_142 k0_t2
  let v276 : BitVec 32 := Scalar.subi v275 arg13
  let c256_i32_149 : BitVec 32 := 256#32
  let v277 : BitVec 32 := Scalar.muli v276 c256_i32_149
  v277
def k0_off7 (i : grid0.Coords) (k0_t2 : Fin (k0_t2_loop i).trips) : Fin 2 → Nat :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c2_i32_137 : BitVec 32 := 2#32
  let v265 : BitVec 32 := Scalar.muli arg2 c2_i32_137
  let v266 : BitVec 32 := Scalar.subi v265 c0_i32_139
  let c1_i32_140 : BitVec 32 := 1#32
  let v268 : BitVec 32 := Scalar.divsi v266 c1_i32_140
  let v269 : BitVec 32 := Scalar.muli v268 c1_i32_140
  let v270 : BitVec 32 := Scalar.addi c0_i32_139 v269
  let c1_i32_142 : BitVec 32 := 1#32
  let arg13 : BitVec 32 := Scf.iv v270 c1_i32_142 k0_t2
  let v276 : BitVec 32 := Scalar.subi v275 arg13
  let c256_i32_149 : BitVec 32 := 256#32
  let v277 : BitVec 32 := Scalar.muli v276 c256_i32_149
  let v278 : BitVec 32 := v277
  let v283 : Index := Scalar.indexCast v278
  let c0_153 : Index := 0#32
  ![v283.toNat, 0]
def k0_off8 (i : grid0.Coords) (c0_i32_156 : BitVec 32) : Fin 1 → Nat :=
  let arg1 : BitVec 32 := BitVec.ofNat 32 (i 1).val
  let c2_i32_155 : BitVec 32 := 2#32
  let v286 : BitVec 32 := Scalar.muli arg1 c2_i32_155
  let v287 : BitVec 32 := Scalar.addi v286 c0_i32_156
  let v288 : Index := Scalar.indexCast v287
  ![v288.toNat]
def k0_off9 (i : grid0.Coords) (k0_t2 : Fin (k0_t2_loop i).trips) : Fin 2 → Nat :=
  let arg2 : BitVec 32 := BitVec.ofNat 32 (i 2).val
  let c2_i32_147 : BitVec 32 := 2#32
  let v274 : BitVec 32 := Scalar.muli arg2 c2_i32_147
  let c1_i32_148 : BitVec 32 := 1#32
  let v275 : BitVec 32 := Scalar.subi v274 c1_i32_148
  let c0_i32_139 : BitVec 32 := 0#32
  let c2_i32_137 : BitVec 32 := 2#32
  let v265 : BitVec 32 := Scalar.muli arg2 c2_i32_137
  let v266 : BitVec 32 := Scalar.subi v265 c0_i32_139
  let c1_i32_140 : BitVec 32 := 1#32
  let v268 : BitVec 32 := Scalar.divsi v266 c1_i32_140
  let v269 : BitVec 32 := Scalar.muli v268 c1_i32_140
  let v270 : BitVec 32 := Scalar.addi c0_i32_139 v269
  let c1_i32_142 : BitVec 32 := 1#32
  let arg13 : BitVec 32 := Scf.iv v270 c1_i32_142 k0_t2
  let v276 : BitVec 32 := Scalar.subi v275 arg13
  let c256_i32_149 : BitVec 32 := 256#32
  let v277 : BitVec 32 := Scalar.muli v276 c256_i32_149
  let v278 : BitVec 32 := v277
  let v297 : Index := Scalar.indexCast v278
  let c128_161 : Index := 128#32
  ![v297.toNat, 128]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale" => some (((Real.sqrt 128)⁻¹ * (Real.log 2)⁻¹ : ℝ) : EReal)
  | _ => none
-- ==== ReferenceIdeal.lean ====
abbrev S8192x2048 : Shape := ⟨2, ![8192, 2048]⟩
abbrev S1x8192x2048 : Shape := ⟨3, ![1, 8192, 2048]⟩
abbrev S16 : Shape := ⟨1, ![16]⟩
abbrev S2x4096x16x128 : Shape := ⟨4, ![2, 4096, 16, 128]⟩
abbrev S2x16x4096x4096 : Shape := ⟨4, ![2, 16, 4096, 4096]⟩
abbrev S_ : Shape := ⟨0, ![]⟩
abbrev S1x16x1x1 : Shape := ⟨4, ![1, 16, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x128x4096 : Shape := ⟨4, ![2, 16, 128, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S1x8192x2048, .f32⟩
  | .hbm, ⟨3, _⟩ => ⟨S16, .f32⟩
  | .hbm, ⟨4, _⟩ => ⟨S2x4096x16x128, .f32⟩
  | .hbm, ⟨5, _⟩ => ⟨S2x4096x16x128, .f32⟩
  | .hbm, ⟨6, _⟩ => ⟨S2x4096x16x128, .f32⟩
  | .hbm, ⟨7, _⟩ => ⟨S2x16x4096x4096, .f32⟩
  | .hbm, ⟨8, _⟩ => ⟨S_, .f32⟩
  | .hbm, ⟨9, _⟩ => ⟨S_, .f32⟩
  | .hbm, ⟨10, _⟩ => ⟨S2x16x4096x4096, .f32⟩
  | .hbm, ⟨11, _⟩ => ⟨S2x16x4096x4096, .f32⟩
  | .hbm, ⟨12, _⟩ => ⟨S1x16x1x1, .f32⟩
  | .hbm, ⟨13, _⟩ => ⟨S2x16x4096x4096, .f32⟩
  | .hbm, ⟨14, _⟩ => ⟨S2x16x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S2x16x4096x4096, .f32⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S_, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S_, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .i1⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S_, .f32⟩
  | .hbm, ⟨66, _⟩ => ⟨S_, .f32⟩
  | .hbm, ⟨67, _⟩ => ⟨S2x16x4096x4096, .i1⟩
  | .hbm, ⟨68, _⟩ => ⟨S2x16x4096x4096, .f32⟩
  | .hbm, ⟨69, _⟩ => ⟨S2x16x4096x4096, .f32⟩
  | .hbm, ⟨70, _⟩ => ⟨S2x16x128x4096, .f32⟩
  | .hbm, ⟨71, _⟩ => ⟨S2x4096x16x128, .f32⟩
  | .hbm, ⟨72, _⟩ => ⟨S8192x2048, .f32⟩
  | .hbm, ⟨73, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Ffn.lean ====
abbrev S2x4096x2048 : Shape := ⟨3, ![2, 4096, 2048]⟩
abbrev S2048 : Shape := ⟨1, ![2048]⟩
abbrev S1x2048x11264 : Shape := ⟨3, ![1, 2048, 11264]⟩
abbrev S3x5632 : Shape := ⟨2, ![3, 5632]⟩
abbrev S5632 : Shape := ⟨1, ![5632]⟩
abbrev S1x5632x2048 : Shape := ⟨3, ![1, 5632, 2048]⟩
abbrev S_ : Shape := ⟨0, ![]⟩
abbrev S2x0x2048 : Shape := ⟨3, ![2, 0, 2048]⟩
abbrev S2x16x2048 : Shape := ⟨3, ![2, 16, 2048]⟩
abbrev S2x1x16x2048 : Shape := ⟨4, ![2, 1, 16, 2048]⟩
abbrev S2x8x512x2048 : Shape := ⟨4, ![2, 8, 512, 2048]⟩
abbrev S2x7x16x2048 : Shape := ⟨4, ![2, 7, 16, 2048]⟩
abbrev S2x8x16x2048 : Shape := ⟨4, ![2, 8, 16, 2048]⟩
abbrev S2x2x5632 : Shape := ⟨3, ![2, 2, 5632]⟩
abbrev S2x16x5632 : Shape := ⟨3, ![2, 16, 5632]⟩
abbrev S1x2048 : Shape := ⟨2, ![1, 2048]⟩
abbrev S1x5632 : Shape := ⟨2, ![1, 5632]⟩
abbrev S2x8x8x5632 : Shape := ⟨4, ![2, 8, 8, 5632]⟩
abbrev S1x512x2048 : Shape := ⟨3, ![1, 512, 2048]⟩
abbrev S1x1x16x2048 : Shape := ⟨4, ![1, 1, 16, 2048]⟩
abbrev S1x16x512 : Shape := ⟨3, ![1, 16, 512]⟩
abbrev S1x2048x512 : Shape := ⟨3, ![1, 2048, 512]⟩
abbrev S3x512 : Shape := ⟨2, ![3, 512]⟩
abbrev S1x512 : Shape := ⟨2, ![1, 512]⟩
abbrev S1x1x8x512 : Shape := ⟨4, ![1, 1, 8, 512]⟩
abbrev S528x2048 : Shape := ⟨2, ![528, 2048]⟩
abbrev S1x528x512 : Shape := ⟨3, ![1, 528, 512]⟩
abbrev S2x512x512 : Shape := ⟨3, ![2, 512, 512]⟩
abbrev S1x512x1 : Shape := ⟨3, ![1, 512, 1]⟩
abbrev S1x1x2048 : Shape := ⟨3, ![1, 1, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S512x512 : Shape := ⟨2, ![512, 512]⟩
abbrev S1x512x512 : Shape := ⟨3, ![1, 512, 512]⟩
abbrev S2048x512 : Shape := ⟨2, ![2048, 512]⟩
abbrev S528x512 : Shape := ⟨2, ![528, 512]⟩
abbrev S1x1x512 : Shape := ⟨3, ![1, 1, 512]⟩
abbrev S1x8x512 : Shape := ⟨3, ![1, 8, 512]⟩

abbrev nBuf : Space → Nat
  | .hbm => 26
  | .vmem => 25
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x11264, .f32⟩
  | .hbm, ⟨3, _⟩ => ⟨S3x5632, .f32⟩
  | .hbm, ⟨4, _⟩ => ⟨S5632, .f32⟩
  | .hbm, ⟨5, _⟩ => ⟨S1x5632x2048, .f32⟩
  | .hbm, ⟨6, _⟩ => ⟨S_, .f32⟩
  | .hbm, ⟨7, _⟩ => ⟨S2x0x2048, .f32⟩
  | .hbm, ⟨8, _⟩ => ⟨S_, .i32⟩
  | .hbm, ⟨9, _⟩ => ⟨S_, .f32⟩
  | .hbm, ⟨10, _⟩ => ⟨S2x16x2048, .f32⟩
  | .hbm, ⟨11, _⟩ => ⟨S2x1x16x2048, .f32⟩
  | .hbm, ⟨12, _⟩ => ⟨S2x8x512x2048, .f32⟩
  | .hbm, ⟨13, _⟩ => ⟨S2x7x16x2048, .f32⟩
  | .hbm, ⟨14, _⟩ => ⟨S2x8x16x2048, .f32⟩
  | .hbm, ⟨15, _⟩ => ⟨S_, .f32⟩
  | .hbm, ⟨16, _⟩ => ⟨S2x2x5632, .f32⟩
  | .hbm, ⟨17, _⟩ => ⟨S_, .i32⟩
  | .hbm, ⟨18, _⟩ => ⟨S_, .f32⟩
  | .hbm, ⟨19, _⟩ => ⟨S2x16x5632, .f32⟩
  | .hbm, ⟨20, _⟩ => ⟨S1x2048, .f32⟩
  | .hbm, ⟨21, _⟩ => ⟨S1x2048x11264, .bf16⟩
  | .hbm, ⟨22, _⟩ => ⟨S1x5632, .f32⟩
  | .hbm, ⟨23, _⟩ => ⟨S1x5632x2048, .bf16⟩
  | .hbm, ⟨24, _⟩ => ⟨S2x4096x2048, .f32⟩
  | .hbm, ⟨25, _⟩ => ⟨S2x8x8x5632, .f32⟩
  | .local _ .vmem, ⟨0, _⟩ => ⟨S1x512x2048, .f32⟩
  | .local _ .vmem, ⟨1, _⟩ => ⟨S1x512x2048, .f32⟩
  | .local _ .vmem, ⟨2, _⟩ => ⟨S1x1x16x2048, .f32⟩
  | .local _ .vmem, ⟨3, _⟩ => ⟨S1x1x16x2048, .f32⟩
  | .local _ .vmem, ⟨4, _⟩ => ⟨S1x16x512, .f32⟩
  | .local _ .vmem, ⟨5, _⟩ => ⟨S1x16x512, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S1x512x2048, .f32⟩
  | .local _ .vmem, ⟨19, _⟩ => ⟨S1x512x2048, .f32⟩
  | .local _ .vmem, ⟨20, _⟩ => ⟨S1x1x8x512, .f32⟩
  | .local _ .vmem, ⟨21, _⟩ => ⟨S1x1x8x512, .f32⟩
  | .local _ .vmem, ⟨22, _⟩ => ⟨S528x2048, .bf16⟩
  | .local _ .vmem, ⟨23, _⟩ => ⟨S1x528x512, .f32⟩
  | .local _ .vmem, ⟨24, _⟩ => ⟨S2x512x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c_1 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![2, 8, 11], ![false, false, false]⟩

def k0_off1 (i : grid0.Coords) : Fin 3 → Nat :=
  let arg2 : BitVec 32 := BitVec.ofNat 32 (i 2).val
  let c1_i32 : BitVec 32 := 1#32
  let v15 : BitVec 32 := Scalar.addi arg2 c1_i32
  let c2_i32 : BitVec 32 := 2#32
  let c0_i32_12 : BitVec 32 := 0#32
  let v16 : BitVec 1 := Scalar.cmpi .eq c2_i32 c0_i32_12
  let c1_i32_13 : BitVec 32 := 1#32
  let v17 : BitVec 32 := Scalar.select v16 c1_i32_13 c2_i32
  let v18 : BitVec 32 := Scalar.remsi v15 v17
  let c0_i32_15 : BitVec 32 := 0#32
  let v20 : BitVec 1 := Scalar.cmpi .slt v18 c0_i32_15
  let c0_i32_16 : BitVec 32 := 0#32
  let v21 : BitVec 1 := Scalar.cmpi .slt v17 c0_i32_16
  let v22 : BitVec 1 := Scalar.xori v20 v21
  let c0_i32_14 : BitVec 32 := 0#32
  let v19 : BitVec 1 := Scalar.cmpi .ne v18 c0_i32_14
  let v23 : BitVec 1 := Scalar.andi v22 v19
  let v24 : BitVec 32 := Scalar.addi v18 v17
  let v25 : BitVec 32 := Scalar.select v23 v24 v18
  let v26 : Index := Scalar.indexCast v25
  let c0_17 : Index := 0#32
  let c0_18 : Index := 0#32
  ![v26.toNat, 0, 0]
def k0_off2 (i : grid0.Coords) : Fin 3 → Nat :=
  let arg2 : BitVec 32 := BitVec.ofNat 32 (i 2).val
  let c2_i32_52 : BitVec 32 := 2#32
  let c0_i32_53 : BitVec 32 := 0#32
  let v85 : BitVec 1 := Scalar.cmpi .eq c2_i32_52 c0_i32_53
  let c1_i32_54 : BitVec 32 := 1#32
  let v86 : BitVec 32 := Scalar.select v85 c1_i32_54 c2_i32_52
  let v87 : BitVec 32 := Scalar.remsi arg2 v86
  let c0_i32_56 : BitVec 32 := 0#32
  let v89 : BitVec 1 := Scalar.cmpi .slt v87 c0_i32_56
  let c0_i32_57 : BitVec 32 := 0#32
  let v90 : BitVec 1 := Scalar.cmpi .slt v86 c0_i32_57
  let v91 : BitVec 1 := Scalar.xori v89 v90
  let c0_i32_55 : BitVec 32 := 0#32
  let v88 : BitVec 1 := Scalar.cmpi .ne v87 c0_i32_55
  let v92 : BitVec 1 := Scalar.andi v91 v88
  let v93 : BitVec 32 := Scalar.addi v87 v86
  let v94 : BitVec 32 := Scalar.select v92 v93 v87
  let v95 : Index := Scalar.indexCast v94
  let c0_58 : Index := 0#32
  let c0_59 : Index := 0#32
  ![v95.toNat, 0, 0]
def k0_cond2 (i : grid0.Coords) : BitVec 1 :=
  let arg2 : BitVec 32 := BitVec.ofNat 32 (i 2).val
  let c10_i32 : BitVec 32 := 10#32
  let v103 : BitVec 1 := Scalar.cmpi .eq arg2 c10_i32
  let v104 : BitVec 32 := Scalar.extui v103
  let c0_i32_66 : BitVec 32 := 0#32
  let v105 : BitVec 1 := Scalar.cmpi .ne v104 c0_i32_66
  v105

def k0_off3 (i : grid0.Coords) : Fin 3 → Nat :=
  let arg2 : BitVec 32 := BitVec.ofNat 32 (i 2).val
  let c2_i32_70 : BitVec 32 := 2#32
  let c0_i32_71 : BitVec 32 := 0#32
  let v108 : BitVec 1 := Scalar.cmpi .eq c2_i32_70 c0_i32_71
  let c1_i32_72 : BitVec 32 := 1#32
  let v109 : BitVec 32 := Scalar.select v108 c1_i32_72 c2_i32_70
  let v110 : BitVec 32 := Scalar.remsi arg2 v109
  let c0_i32_74 : BitVec 32 := 0#32
  let v112 : BitVec 1 := Scalar.cmpi .slt v110 c0_i32_74
  let c0_i32_75 : BitVec 32 := 0#32
  let v113 : BitVec 1 := Scalar.cmpi .slt v109 c0_i32_75
  let v114 : BitVec 1 := Scalar.xori v112 v113
  let c0_i32_73 : BitVec 32 := 0#32
  let v111 : BitVec 1 := Scalar.cmpi .ne v110 c0_i32_73
  let v115 : BitVec 1 := Scalar.andi v114 v111
  let v116 : BitVec 32 := Scalar.addi v110 v109
  let v117 : BitVec 32 := Scalar.select v115 v116 v110
  let v118 : Index := Scalar.indexCast v117
  let c0_76 : Index := 0#32
  let c0_77 : Index := 0#32
  ![v118.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S1x512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== FfnReferenceIdeal.lean ====
abbrev S2x4096x2048 : Shape := ⟨3, ![2, 4096, 2048]⟩
abbrev S2048 : Shape := ⟨1, ![2048]⟩
abbrev S1x2048x11264 : Shape := ⟨3, ![1, 2048, 11264]⟩
abbrev S3x5632 : Shape := ⟨2, ![3, 5632]⟩
abbrev S5632 : Shape := ⟨1, ![5632]⟩
abbrev S1x5632x2048 : Shape := ⟨3, ![1, 5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S5632x2048 : Shape := ⟨2, ![5632, 2048]⟩
abbrev S2x8x512x5632 : Shape := ⟨4, ![2, 8, 512, 5632]⟩
abbrev S2x8x8x5632 : Shape := ⟨4, ![2, 8, 8, 5632]⟩

abbrev nBuf : Space → Nat
  | .hbm => 78
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S1x2048x11264, .f32⟩
  | .hbm, ⟨3, _⟩ => ⟨S3x5632, .f32⟩
  | .hbm, ⟨4, _⟩ => ⟨S5632, .f32⟩
  | .hbm, ⟨5, _⟩ => ⟨S1x5632x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2048x11264, .f32⟩
  | .hbm, ⟨23, _⟩ => ⟨S2x4096x11264, .f32⟩
  | .hbm, ⟨24, _⟩ => ⟨S2x4096x5632, .f32⟩
  | .hbm, ⟨25, _⟩ => ⟨S2x4096x5632, .f32⟩
  | .hbm, ⟨26, _⟩ => ⟨S_, .f32⟩
  | .hbm, ⟨27, _⟩ => ⟨S2x2x5632, .f32⟩
  | .hbm, ⟨28, _⟩ => ⟨S2x4098x5632, .f32⟩
  | .hbm, ⟨29, _⟩ => ⟨S2x4096x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S1x1x5632, .f32⟩
  | .hbm, ⟨53, _⟩ => ⟨S2x4096x5632, .f32⟩
  | .hbm, ⟨54, _⟩ => ⟨S2x4096x5632, .f32⟩
  | .hbm, ⟨55, _⟩ => ⟨S2x4096x5632, .f32⟩
  | .hbm, ⟨56, _⟩ => ⟨S2x4096x5632, .f32⟩
  | .hbm, ⟨57, _⟩ => ⟨S_, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S_, .f32⟩
  | .hbm, ⟨62, _⟩ => ⟨S2x4096x5632, .f32⟩
  | .hbm, ⟨63, _⟩ => ⟨S2x4096x5632, .f32⟩
  | .hbm, ⟨64, _⟩ => ⟨S2x4096x5632, .f32⟩
  | .hbm, ⟨65, _⟩ => ⟨S_, .f32⟩
  | .hbm, ⟨66, _⟩ => ⟨S2x4096x5632, .f32⟩
  | .hbm, ⟨67, _⟩ => ⟨S2x4096x5632, .f32⟩
  | .hbm, ⟨68, _⟩ => ⟨S_, .f32⟩
  | .hbm, ⟨69, _⟩ => ⟨S2x4096x5632, .f32⟩
  | .hbm, ⟨70, _⟩ => ⟨S2x4096x5632, .f32⟩
  | .hbm, ⟨71, _⟩ => ⟨S2x4096x5632, .f32⟩
  | .hbm, ⟨72, _⟩ => ⟨S2x4096x5632, .f32⟩
  | .hbm, ⟨73, _⟩ => ⟨S5632x2048, .f32⟩
  | .hbm, ⟨74, _⟩ => ⟨S2x4096x2048, .f32⟩
  | .hbm, ⟨75, _⟩ => ⟨S2x4096x2048, .f32⟩
  | .hbm, ⟨76, _⟩ => ⟨S2x8x512x5632, .f32⟩
  | .hbm, ⟨77, _⟩ => ⟨S2x8x8x5632, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Proof.AttnFrames.lean ====
/- The attention call's frames, and what its idealization keeps: both kernels end with their arguments unchanged and every
   counter at zero, so does the reference, and the two named constants are the reals their words round. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.AttnClaims

/-- The kernel as printed ends, its arguments unchanged. -/
theorem frame_p : Cert.quiescent_Kernel := fun m ρ _ => Cert.Kernel.Gen.frame m ρ
/-- The idealized kernel ends, its arguments unchanged. -/
theorem frame_pi : Cert.quiescent_KernelIdeal := fun m ρ _ => Cert.KernelIdeal.Gen.frame m ρ
/-- The reference ends, its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants: the score's scale and the base-two logarithm of `e`. -/
theorem preserves : Cert.preserves_Kernel_KernelIdeal :=
  ⟨IdealRules.named_const.statement Cert.KernelIdeal.κ "scale" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl⟩

end Cert.Proof.AttnClaims

end
-- ==== Proof.AttnMath.lean ====
/- The arithmetic of one row of stick-breaking attention, over the reals and the extended reals: the logarithm of one
   minus a sigmoid, the weights of the earlier keys, and how a block of 256 keys extends the running sums. -/
module

public import Idealize.ShloMosaic.PureOps.Ideal.Laws
public import Idealize.ShloMosaic.Lib.ValueIdx

@[expose] public section

noncomputable section

namespace Cert.Attn

open Idealize.ShloMosaic

/-- The reciprocal of `log 2`: what turns a natural logarithm into one of base two. -/
def l2e : ℝ := (Real.log 2)⁻¹

theorem log2_pos : 0 < Real.log 2 := Real.log_pos (by norm_num)

/-- Two to the power `x / log 2` is `e` to the power `x`. -/
theorem rpow_two (x : ℝ) : Real.rpow 2 (l2e * x) = Real.exp x := by
  show (2 : ℝ) ^ (l2e * x) = _
  rw [Real.rpow_def_of_pos (by norm_num), l2e, ← mul_assoc, mul_inv_cancel₀ log2_pos.ne', one_mul]

/-- The logarithm of one minus the sigmoid of `z`. -/
def lstay (z : ℝ) : ℝ := -Real.log (1 + Real.exp z)

/-- `1 + e ^ (min z (-z))`, brought back by the smaller of `-z` and zero, is the logarithm of one minus the sigmoid. -/
theorem lstay_min (z : ℝ) : min (-z) 0 - Real.log (1 + Real.exp (min z (-z))) = lstay z := by
  unfold lstay
  rcases le_total z 0 with h | h
  · rw [min_eq_right (by linarith), min_eq_left (by linarith)]; ring
  · rw [min_eq_left (by linarith), min_eq_right (by linarith)]
    have e : 1 + Real.exp z = Real.exp z * (1 + Real.exp (-z)) := by
      rw [mul_add, ← Real.exp_add, add_neg_cancel, Real.exp_zero, mul_one, add_comm]
    rw [e, Real.log_mul (Real.exp_pos z).ne' (by positivity), Real.log_exp]; ring

/-- The same quantity as the host's stable form states it, at the negated argument. -/
theorem lstay_max (z : ℝ) : -(max z 0 + Real.log (1 + Real.exp (-|z|))) = lstay z := by
  rw [← lstay_min]
  have e : -|z| = min z (-z) := by
    rcases le_total z 0 with h | h
    · rw [abs_of_nonpos h, min_eq_left (by linarith)]; ring
    · rw [abs_of_nonneg h, min_eq_right (by linarith)]
  have e' : max z 0 = -min (-z) 0 := by
    rcases le_total z 0 with h | h
    · rw [max_eq_right h, min_eq_right (by linarith)]; ring
    · rw [max_eq_left h, min_eq_left (by linarith)]; ring
  rw [e, e']; ring

/-- The logarithm of the sigmoid of `z` is `z` plus the logarithm of one minus it. -/
theorem lstay_neg (z : ℝ) : lstay (-z) = z + lstay z := by
  unfold lstay
  have e : 1 + Real.exp z = Real.exp z * (1 + Real.exp (-z)) := by
    rw [mul_add, ← Real.exp_add, add_neg_cancel, Real.exp_zero, mul_one, add_comm]
  rw [e, Real.log_mul (Real.exp_pos z).ne' (by positivity), Real.log_exp]; ring

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_min (a b : ℝ) : min (a : EReal) (b : EReal) = ((min a b : ℝ) : EReal) :=
  (EReal.coe_strictMono.monotone.map_min).symm

theorem coe_max (a b : ℝ) : max (a : EReal) (b : EReal) = ((max a b : ℝ) : EReal) :=
  (EReal.coe_strictMono.monotone.map_max).symm

/-- The logarithm of a positive real, at the extended reals. -/
theorem log_coe {r : ℝ} (h : 0 < r) : Ideal.log (r : EReal) = (Real.log r : EReal) := by
  show (if r ≤ 0 then ⊥ else (Real.log r : EReal)) = _
  rw [if_neg (not_le.2 h)]

/-- The kernel's base-two log of one minus the sigmoid, from a base-two score. -/
theorem stay_elt (z : ℝ) :
    min (0 - ((l2e * z : ℝ) : EReal)) 0
      - Ideal.log (1 + Ideal.exp2 (min ((l2e * z : ℝ) : EReal) (0 - ((l2e * z : ℝ) : EReal)))) * (l2e : EReal)
      = ((l2e * lstay z : ℝ) : EReal) := by
  have hp : 0 ≤ l2e := inv_nonneg.2 log2_pos.le
  rw [zero_sub, ← EReal.coe_neg, coe_min, ← EReal.coe_zero, coe_min, Ideal.exp2_coe]
  have e : min (l2e * z) (-(l2e * z)) = l2e * min z (-z) := by rw [mul_min_of_nonneg _ _ hp]; ring_nf
  have e' : min (-(l2e * z)) 0 = l2e * min (-z) 0 := by rw [mul_min_of_nonneg _ _ hp]; ring_nf
  rw [e, e', rpow_two, ← EReal.coe_one, ← EReal.coe_add, log_coe (by positivity), ← EReal.coe_mul, ← EReal.coe_sub,
    ← lstay_min]
  congr 1; ring

/-- The host's log-sigmoid of `x`, in the stable form that it prints: the smaller argument exponentiated. -/
theorem logSigmoid_elt (x : ℝ) :
    -(max (-(x : EReal)) 0 + Ideal.log1p (Ideal.exp (-(max (-(x : EReal) - 0) (-(-(x : EReal) - 0)))))) = (lstay (-x) : EReal) := by
  rw [sub_zero, ← EReal.coe_neg, ← EReal.coe_neg, coe_max, ← EReal.coe_neg, ← EReal.coe_zero, coe_max]
  show -(_ + Ideal.log (1 + ((Real.exp _ : ℝ) : EReal))) = _
  rw [← EReal.coe_one, ← EReal.coe_add, log_coe (by positivity), ← EReal.coe_add, ← EReal.coe_neg, ← lstay_max]
  rfl

section Row

variable (z : ℕ → ℝ) (v : ℕ → EReal) (p : ℕ)

/-- The log of what key `s` leaves of the stick for the row at position `p`: only earlier keys break it. -/
def stay (s : ℕ) : ℝ := if s < p then lstay (z s) else 0

/-- The weight of key `t` in the row at position `p`: its own share of what the keys after it leave. -/
def weight (t : ℕ) : ℝ :=
  if t < p then Real.exp (lstay (-z t) + ∑ s ∈ Finset.Ico (t + 1) 4096, stay z p s) else 0

/-- The running log of the stick once the keys from `K` on are read, base two. -/
def carryAt (K : ℕ) : ℝ := l2e * ∑ s ∈ Finset.Ico K 4096, stay z p s

/-- The running output once the keys from `K` on are read. -/
def accAt (K : ℕ) : EReal := ∑ t ∈ Finset.Ico K 4096, (weight z p t : EReal) * v t

theorem sum_block {M : Type} [AddCommMonoid M] (f : ℕ → M) (K : ℕ) (hK : K + 256 ≤ 4096) :
    ∑ t ∈ Finset.Ico K 4096, f t = ∑ t ∈ Finset.Ico (K + 256) 4096, f t + ∑ x : Fin 256, f (K + x.val) := by
  rw [← Finset.sum_Ico_consecutive f (Nat.le_add_right K 256) hK, add_comm]
  congr 1
  rw [Finset.sum_Ico_eq_sum_range, Nat.add_sub_cancel_left, Finset.sum_range]

/-- A block of 256 keys extends the running log of the stick by the sum of its own. -/
theorem carryAt_step (K : ℕ) (hK : K + 256 ≤ 4096) (ls : Fin 256 → EReal)
    (hls : ∀ x, ls x = ((l2e * stay z p (K + x.val) : ℝ) : EReal)) :
    (carryAt z p (K + 256) : EReal) + ∑ x, ls x = (carryAt z p K : EReal) := by
  simp only [hls]
  rw [← coe_sum, ← EReal.coe_add, carryAt, carryAt, sum_block (fun s => stay z p s) K hK, ← Finset.mul_sum, mul_add]

/-- Within a block, a strict lower triangle of ones sums the keys after each key. -/
theorem suffix_block (K : ℕ) (hK : K + 256 ≤ 4096) (x : Fin 256) :
    ∑ s ∈ Finset.Ico (K + x.val + 1) 4096, stay z p s
      = (∑ y : Fin 256, if x.val < y.val then stay z p (K + y.val) else 0) + ∑ s ∈ Finset.Ico (K + 256) 4096, stay z p s := by
  have e : ∑ s ∈ Finset.Ico (K + x.val + 1) 4096, stay z p s
      = ∑ s ∈ Finset.Ico K 4096, if K + x.val < s then stay z p s else 0 := by
    rw [← Finset.sum_filter]
    refine Finset.sum_congr ?_ fun _ _ => rfl
    ext s; simp only [Finset.mem_Ico, Finset.mem_filter]; omega
  rw [e, sum_block _ K hK, add_comm]
  congr 1
  · exact Finset.sum_congr rfl fun y _ => by simp only [Nat.add_lt_add_iff_left]
  · exact Finset.sum_congr rfl fun s hs => if_pos (by have := (Finset.mem_Ico.1 hs).1; have := x.isLt; omega)

/-- The kernel's sum over the block against the triangle: the base-two logs of the keys after `x` in the block. -/
theorem tri_sum (K : ℕ) (x : Fin 256) (ls : Fin 256 → EReal) (tri : Fin 256 → Fin 256 → EReal)
    (hls : ∀ y, ls y = ((l2e * stay z p (K + y.val) : ℝ) : EReal))
    (htri : ∀ y x : Fin 256, tri y x = if x.val < y.val then 1 else 0) :
    ∑ y, ls y * tri y x = ((l2e * ∑ y : Fin 256, if x.val < y.val then stay z p (K + y.val) else 0 : ℝ) : EReal) := by
  rw [Finset.mul_sum, coe_sum]
  refine Finset.sum_congr rfl fun y _ => ?_
  rw [hls, htri]
  split
  · rw [mul_one]
  · rw [mul_zero, mul_zero, EReal.coe_zero]

/-- The weight that the kernel computes for an earlier key from the block's sum and the running log. -/
theorem weight_elt (K : ℕ) (hK : K + 256 ≤ 4096) (x : Fin 256) (ls : Fin 256 → EReal) (tri : Fin 256 → Fin 256 → EReal)
    (hls : ∀ y, ls y = ((l2e * stay z p (K + y.val) : ℝ) : EReal))
    (htri : ∀ y x : Fin 256, tri y x = if x.val < y.val then 1 else 0) (hx : K + x.val < p) :
    Ideal.exp2 ((((l2e * z (K + x.val) : ℝ) : EReal) + ((l2e * lstay (z (K + x.val)) : ℝ) : EReal)) + ∑ y, ls y * tri y x
        + (carryAt z p (K + 256) : EReal)) = (weight z p (K + x.val) : EReal) := by
  rw [tri_sum z p K x ls tri hls htri, ← EReal.coe_add, ← EReal.coe_add, ← EReal.coe_add, Ideal.exp2_coe, weight,
    if_pos hx, suffix_block z p K hK x, carryAt, lstay_neg, ← mul_add, ← mul_add, ← mul_add, rpow_two]
  congr 2; ring

/-- A block of 256 keys extends the running output by its own weighted values. -/
theorem accAt_step (K : ℕ) (hK : K + 256 ≤ 4096) (w : Fin 256 → EReal) (u : Fin 256 → EReal)
    (hw : ∀ x, w x = (weight z p (K + x.val) : EReal)) (hu : ∀ x, u x = v (K + x.val)) :
    accAt z v p (K + 256) + ∑ x, w x * u x = accAt z v p K := by
  simp only [hw, hu]
  exact (sum_block (fun t => (weight z p t : EReal) * v t) K hK).symm

/-- Past the row's position nothing is kept: no key from there on breaks the stick or has a weight. -/
theorem carryAt_late (K : ℕ) (hK : p ≤ K) : carryAt z p K = 0 := by
  unfold carryAt
  rw [Finset.sum_eq_zero, mul_zero]
  intro s hs
  exact if_neg (by have := (Finset.mem_Ico.1 hs).1; omega)

theorem accAt_late (K : ℕ) (hK : p ≤ K) : accAt z v p K = 0 := by
  unfold accAt
  refine Finset.sum_eq_zero fun s hs => ?_
  rw [weight, if_neg (by have := (Finset.mem_Ico.1 hs).1; omega), EReal.coe_zero, zero_mul]

/-- The host's weight: the log-sigmoid of the score plus the sum over the keys from `t` on, less the key's own. -/
theorem weight_ref (t : ℕ) (ht : t < 4096) :
    (weight z p t : EReal) = if t < p then Ideal.exp ((lstay (-z t) : EReal)
      + (((∑ s ∈ Finset.Ico t 4096, stay z p s : ℝ) : EReal) - (stay z p t : EReal))) else 0 := by
  unfold weight
  split
  · rw [← EReal.coe_sub, ← EReal.coe_add, Finset.sum_eq_sum_Ico_succ_bot ht, add_sub_cancel_left]; rfl
  · exact EReal.coe_zero

end Row

end Cert.Attn

end
-- ==== Proof.AttnBody.lean ====
/- What one grid point of the attention kernel stores, as plain functions of vectors: the running logs and the running
   output after each key block of each head, and the block stored at the end. -/
module

public import proofs.«01_k».proof.Proof.Gen.KernelIdeal.Value
public import Idealize.ShloMosaic.Lib.VecWindow

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The running logs (per head and row) and the running output (both heads' lanes) of a query tile. -/
abbrev St (F : FTy → Type) := Vec F S2x512x1 .f32 × Vec F S512x256 .f32

/-- A load of one word of the bias row. -/
def biasAt (b : Vec F S16 .f32) (off : Fin 1 → ℕ) (inb : ∀ a, off a + S1.size a ≤ S16.size a) : Elt F .f32 :=
  VecWindow.window b off S1.size inb (Shape.Idx.first (show 0 < S1.numel by decide))

/-- The block's sums over the keys after each key: the logs against the triangle. -/
def sumsW (tri : FVec F S256x256 .bf16) (l : FVec F S512x256 .f32) : FVec F S512x256 .f32 :=
  matmul dot_S512x256_S256x256_S512x256_1_0_0_1_n_n none (truncf .bf16 l bitsLt_bf16_f32) tri (constant S512x256 .f32 0x00000000#32)

/-- The block's weights, before any mask. -/
def weightsW (tri : FVec F S256x256 .bf16) (z l ls : FVec F S512x256 .f32) (c : Vec F S1x512x1 .f32) : FVec F S512x256 .f32 :=
  exp2 (addf (addf (addf z l) (sumsW tri ls))
    (broadcastTo S512x256 (shapeCast S512x1 c shapeCasts_S1x512x1_S512x1) broadcasts_S512x1_S512x256))

/-- A mask: zero where the key is not an earlier one. -/
def maskW (k : IVec S512x256 1) (x : FVec F S512x256 .f32) : FVec F S512x256 .f32 :=
  select k x (broadcast S512x256 (Scalar.ofBits .f32 0x00000000#32))

/-- One head's step over a block of 256 keys, for all 512 rows of the tile. -/
def head (mk : FVec F S512x256 .f32 → FVec F S512x256 .f32) (b : Elt F .f32) (tri : FVec F S256x256 .bf16) (q : Vec F S512x256 .f32)
    (kk vv : Vec F S4096x256 .bf16) (qo : Fin 2 → ℕ) (hq : ∀ a, qo a + S512x128.size a ≤ S512x256.size a)
    (co : Fin 3 → ℕ) (hc : ∀ a, co a + S1x512x1.size a ≤ S2x512x1.size a)
    (ko : Fin 2 → ℕ) (hk : ∀ a, ko a + S256x128.size a ≤ S4096x256.size a) (s : St F) : St F :=
  (VecWindow.put s.1 co S1x512x1.size
      (k0_pay3 (mk (k0_pay15 (k0_pay9 (VecWindow.window q qo S512x128.size hq) (VecWindow.window kk ko S256x128.size hk) b)))
        (VecWindow.window s.1 co S1x512x1.size hc)),
    VecWindow.put s.2 qo S512x128.size
      (k0_pay2 (mk (weightsW tri
          (k0_pay9 (VecWindow.window q qo S512x128.size hq) (VecWindow.window kk ko S256x128.size hk) b)
          (k0_pay15 (k0_pay9 (VecWindow.window q qo S512x128.size hq) (VecWindow.window kk ko S256x128.size hk) b))
          (mk (k0_pay15 (k0_pay9 (VecWindow.window q qo S512x128.size hq) (VecWindow.window kk ko S256x128.size hk) b)))
          (VecWindow.window s.1 co S1x512x1.size hc)))
        (VecWindow.window s.2 qo S512x128.size hq) (VecWindow.window vv ko S256x128.size hk)))

/-- The logs of what each key leaves, for the last 256 rows of the tile. -/
def stayH (z : FVec F S256x256 .f32) : FVec F S256x256 .f32 :=
  k0_pay45 (subf (broadcast S256x256 (Scalar.ofBits .f32 0x00000000#32)) z)
    (exp2 (minimumf z (subf (broadcast S256x256 (Scalar.ofBits .f32 0x00000000#32)) z))) (Scalar.ofBits .f32 0x3F800000#32)

/-- The block's sums over the keys after each key, for the last 256 rows of the tile. -/
def sumsH (tri : FVec F S256x256 .bf16) (l : FVec F S256x256 .f32) : FVec F S256x256 .f32 :=
  matmul dot_S256x256_S256x256_S256x256_1_0_0_1_n_n none (truncf .bf16 l bitsLt_bf16_f32) tri (constant S256x256 .f32 0x00000000#32)

/-- The block's weights for the last 256 rows of the tile, before the mask. -/
def weightsH (tri : FVec F S256x256 .bf16) (z l ls : FVec F S256x256 .f32) (c : Vec F S1x256x1 .f32) : FVec F S256x256 .f32 :=
  exp2 (addf (addf (addf z l) (sumsH tri ls))
    (broadcastTo S256x256 (shapeCast S256x1 c shapeCasts_S1x256x1_S256x1) broadcasts_S256x1_S256x256))

/-- The mask over the last 256 rows of the tile. -/
def maskH (k : IVec S256x256 1) (x : FVec F S256x256 .f32) : FVec F S256x256 .f32 :=
  select k x (broadcast S256x256 (Scalar.ofBits .f32 0x00000000#32))

/-- The last 256 rows' output with a block's weighted values added. -/
def outH (w : FVec F S256x256 .f32) (a : Vec F S256x128 .f32) (v : Vec F S256x128 .bf16) : FVec F S256x128 .f32 :=
  k0_pay51 (addf a (matmul dot_S256x256_S256x128_S256x128_1_0_0_1_n_n none (truncf .bf16 w bitsLt_bf16_f32) v (constant S256x128 .f32 0x00000000#32)))

/-- One head's step over the tile's last block of 256 keys, for the last 256 rows of the tile. -/
def headH (k : IVec S256x256 1) (b : Elt F .f32) (tri : FVec F S256x256 .bf16) (q : Vec F S512x256 .f32)
    (kk vv : Vec F S4096x256 .bf16) (qo : Fin 2 → ℕ) (hq : ∀ a, qo a + S256x128.size a ≤ S512x256.size a)
    (co : Fin 3 → ℕ) (hc : ∀ a, co a + S1x256x1.size a ≤ S2x512x1.size a)
    (ko : Fin 2 → ℕ) (hk : ∀ a, ko a + S256x128.size a ≤ S4096x256.size a) (s : St F) : St F :=
  (VecWindow.put s.1 co S1x256x1.size
      (k0_pay52 (maskH k (stayH (k0_pay39 (VecWindow.window q qo S256x128.size hq) (VecWindow.window kk ko S256x128.size hk) b)))
        (VecWindow.window s.1 co S1x256x1.size hc)),
    VecWindow.put s.2 qo S256x128.size
      (outH (maskH k (weightsH tri
          (k0_pay39 (VecWindow.window q qo S256x128.size hq) (VecWindow.window kk ko S256x128.size hk) b)
          (stayH (k0_pay39 (VecWindow.window q qo S256x128.size hq) (VecWindow.window kk ko S256x128.size hk) b))
          (maskH k (stayH (k0_pay39 (VecWindow.window q qo S256x128.size hq) (VecWindow.window kk ko S256x128.size hk) b)))
          (VecWindow.window s.1 co S1x256x1.size hc)))
        (VecWindow.window s.2 qo S256x128.size hq) (VecWindow.window vv ko S256x128.size hk)))

/-- Both heads over the tile's last block of 256 keys: only the last 256 rows see it. -/
def stepLast (i : grid0.Coords) (b : Vec F S16 .f32) (tri : FVec F S256x256 .bf16) (q : Vec F S512x256 .f32) (kk vv : Vec F S4096x256 .bf16)
    (s : St F) : St F :=
  headH (k0_pay36 i) (biasAt b (k0_off2 i 1#32) (k0_off2_inb i 1)) tri q kk vv ![256, 128] inb_S512x256_S256x128_256_128 ![1, 256, 0] inb_S2x512x1_S1x256x1_1_256_0
    (k0_off3 i 1#32) (k0_off3_inb i 1)
    (headH (k0_pay36 i) (biasAt b (k0_off2 i 0#32) (k0_off2_inb i 0)) tri q kk vv ![256, 0] inb_S512x256_S256x128_256_0 ![0, 256, 0] inb_S2x512x1_S1x256x1_0_256_0
      (k0_off1 i 1#32) (k0_off1_inb i 1) s)

/-- The mask of the tile's first block of 256 keys. -/
def maskFirst (i : grid0.Coords) : IVec S512x256 1 :=
  k0_pay54 (Scalar.addi (Scalar.muli (BitVec.ofNat 32 (i 2).val) 2#32) 0#32)
    (Scalar.addi (Scalar.muli (BitVec.ofNat 32 (i 2).val) 512#32) 0#32) (iota .tc S512x256 32 [0] iota_S512x256_d0_w32)

/-- Both heads over the tile's first block of 256 keys. -/
def stepFirst (i : grid0.Coords) (b : Vec F S16 .f32) (tri : FVec F S256x256 .bf16) (q : Vec F S512x256 .f32) (kk vv : Vec F S4096x256 .bf16)
    (s : St F) : St F :=
  head (maskW (maskFirst i)) (biasAt b (k0_off2 i 1#32) (k0_off2_inb i 1)) tri q kk vv ![0, 128] inb_S512x256_S512x128_0_128 ![1, 0, 0] inb_S2x512x1_S1x512x1_1_0_0
    (k0_off3 i 0#32) (k0_off3_inb i 0)
    (head (maskW (maskFirst i)) (biasAt b (k0_off2 i 0#32) (k0_off2_inb i 0)) tri q kk vv ![0, 0] inb_S512x256_S512x128_0_0 ![0, 0, 0] inb_S2x512x1_S1x512x1_0_0_0
      (k0_off1 i 0#32) (k0_off1_inb i 0) s)

/-- Both heads over one block of keys before the tile: no mask. -/
def stepEarlier (i : grid0.Coords) (k : Fin (k0_t1_loop i).trips) (b : Vec F S16 .f32) (tri : FVec F S256x256 .bf16) (q : Vec F S512x256 .f32)
    (kk vv : Vec F S4096x256 .bf16) (s : St F) : St F :=
  head id (biasAt b (k0_off5 i 1#32) (k0_off5_inb i 1)) tri q kk vv ![0, 128] inb_S512x256_S512x128_0_128 ![1, 0, 0] inb_S2x512x1_S1x512x1_1_0_0
    (k0_off6 i k) (k0_off6_inb i k)
    (head id (biasAt b (k0_off5 i 0#32) (k0_off5_inb i 0)) tri q kk vv ![0, 0] inb_S512x256_S512x128_0_0 ![0, 0, 0] inb_S2x512x1_S1x512x1_0_0_0
      (k0_off4 i k) (k0_off4_inb i k) s)

/-- The first `n` blocks before the tile, latest first. -/
def earlier (i : grid0.Coords) (b : Vec F S16 .f32) (tri : FVec F S256x256 .bf16) (q : Vec F S512x256 .f32) (kk vv : Vec F S4096x256 .bf16)
    (s : St F) : ℕ → St F
  | 0 => s
  | n + 1 => if h : n < (k0_t1_loop i).trips then stepEarlier i ⟨n, h⟩ b tri q kk vv (earlier i b tri q kk vv s n) else earlier i b tri q kk vv s n

/-- The block a grid point stores, from the bias row, the triangle, the query tile and the copied keys and values. -/
def tileOut (i : grid0.Coords) (b : Vec F S16 .f32) (tri : Vec F S256x256 .bf16) (q : Vec F S512x256 .f32) (kk vv : Vec F S4096x256 .bf16) :
    FVec F S512x256 .bf16 :=
  k0_pay8 (earlier i b (k0_pay33 tri) q kk vv
    (stepFirst i b (k0_pay33 tri) q kk vv (stepLast i b (k0_pay33 tri) q kk vv (k0_pay34, k0_pay35))) (k0_t1_loop i).trips).2

section Run

theorem readAt_window {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = VecWindow.window (v.read Val f) off size inb := rfl

theorem readCov_window {sig : RefSig} {κ : Kind} {sp : Space} {s : Shape} {e : EltTy} {Val : EltTy → Type} [∀ e, Nonempty (Val e)] (v : View sig κ sp s e)
    (L : List (View.Piece Val s e)) {off size : Fin s.rank → ℕ} (inb : ∀ a, off a + size a ≤ s.size a) :
    v.readCov L (Rect.unit off size inb).toLoadRect = VecWindow.window (v.read Val (v.writes Val v.junk L)) off size inb := rfl

theorem read_writes_put {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A store of a whole buffer leaves what was stored. -/
theorem put_whole {s : Shape} {α : Type} (x : s.Idx → α) (off : Fin s.rank → ℕ) (hz : ∀ a, off a = 0) (w : s.Idx → α) :
    VecWindow.put x off s.size w = w := by
  funext y
  unfold VecWindow.put
  rw [dif_pos fun a => by have := (y a).isLt; have := hz a; omega]
  exact congrArg w (funext fun a => Fin.ext (by rw [Rect.unitLocal_val, hz a]; rfl))

/-- A load of a whole buffer reads what it holds. -/
theorem window_whole {s : Shape} {α : Type} (x : s.Idx → α) (off : Fin s.rank → ℕ) (inb : ∀ a, off a + s.size a ≤ s.size a) :
    VecWindow.window x off s.size inb = x :=
  funext fun y => congrArg x (Rect.emb_unit_full inb y)

theorem zero2 : ∀ a : Fin 2, (![0, 0] : Fin 2 → ℕ) a = 0 := by decide
theorem zero3 : ∀ a : Fin 3, (![0, 0, 0] : Fin 3 → ℕ) a = 0 := by decide

theorem full_carry (x w : Vec F S2x512x1 .f32) : VecWindow.put (s := S2x512x1) x ![0, 0, 0] ![2, 512, 1] w = w :=
  put_whole (s := S2x512x1) x _ zero3 w
theorem full_out (x w : Vec F S512x256 .f32) : VecWindow.put (s := S512x256) x ![0, 0] ![512, 256] w = w :=
  put_whole (s := S512x256) x _ zero2 w
theorem full_keys (x w : Vec F S4096x256 .bf16) : VecWindow.put (s := S4096x256) x ![0, 0] ![4096, 256] w = w :=
  put_whole (s := S4096x256) x _ zero2 w
theorem full_tri (x : Vec F S256x256 .bf16) (inb) : VecWindow.window (s := S256x256) x ![0, 0] ![256, 256] inb = x :=
  window_whole (s := S256x256) x _ inb
theorem full_rows (x : Vec F S1x4096x256 .f32) (inb) : VecWindow.window (s := S1x4096x256) x ![0, 0, 0] ![1, 4096, 256] inb = x :=
  window_whole (s := S1x4096x256) x _ inb

/-- The first head's step leaves the second head's running logs. -/
theorem head_other_carry (mk : FVec F S512x256 .f32 → FVec F S512x256 .f32) (b : Elt F .f32) (tri : FVec F S256x256 .bf16) (q : Vec F S512x256 .f32)
    (kk vv : Vec F S4096x256 .bf16) {qo hq hc ko hk} (s : St F) :
    VecWindow.window (head mk b tri q kk vv qo hq ![0, 0, 0] hc ko hk s).1 ![1, 0, 0] S1x512x1.size inb_S2x512x1_S1x512x1_1_0_0
      = VecWindow.window s.1 ![1, 0, 0] S1x512x1.size inb_S2x512x1_S1x512x1_1_0_0 :=
  VecWindow.window_put_of_disjoint (s := S2x512x1) _ _ _ ![1, 0, 0] S1x512x1.size _ _ (0 : Fin 3) (.inr (by decide))

/-- The first head's step leaves the second head's output. -/
theorem head_other_out (mk : FVec F S512x256 .f32 → FVec F S512x256 .f32) (b : Elt F .f32) (tri : FVec F S256x256 .bf16) (q : Vec F S512x256 .f32)
    (kk vv : Vec F S4096x256 .bf16) {hq co hc ko hk} (s : St F) :
    VecWindow.window (head mk b tri q kk vv ![0, 0] hq co hc ko hk s).2 ![0, 128] S512x128.size inb_S512x256_S512x128_0_128
      = VecWindow.window s.2 ![0, 128] S512x128.size inb_S512x256_S512x128_0_128 :=
  VecWindow.window_put_of_disjoint (s := S512x256) _ _ _ ![0, 128] S512x128.size _ _ (1 : Fin 2) (.inr (by decide))

/-- One trip of the loop over the earlier blocks is one step of both heads. -/
theorem trip_step  (𝒱 : Variants) (c : Dev nD) (bd : Option 𝒱.V) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (arg1 : BitVec 32) (arg2 : BitVec 32) (v4 : FVec F S256x256 .bf16) (X_arg3 : BufTy.Contents (Elt F) arg3.view.ty) (X_arg5 : BufTy.Contents (Elt F) arg5.view.ty) (X_arg9 : BufTy.Contents (Elt F) arg9.view.ty) (X_arg10 : BufTy.Contents (Elt F) arg10.view.ty) (k : Fin (k0_t1_loop i).trips)  (f_arg11 f_arg12) :
    (arg11.view.read (Elt F) (arg11.view.writes (Elt F) f_arg11 ((trip_k0_t1 (F := F) 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 k).1 f_arg11 f_arg12)),
      arg12.view.read (Elt F) (arg12.view.writes (Elt F) f_arg12 ((trip_k0_t1 (F := F) 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 k).2.1 f_arg11 f_arg12)))
      = stepEarlier i k (arg3.view.read (Elt F) X_arg3) v4 (arg5.view.read (Elt F) X_arg5) (arg9.view.read (Elt F) X_arg9) (arg10.view.read (Elt F) X_arg10)
          (arg11.view.read (Elt F) f_arg11, arg12.view.read (Elt F) f_arg12) := by
  unfold trip_k0_t1
  dsimp only
  simp only [read_writes_put, View.writes_nil, readAt_window]
  rw [stepEarlier, head, head_other_carry, head_other_out]
  rfl

/-- The loop over the earlier blocks, from any contents of the running logs and output. -/
theorem pb_earlier  (𝒱 : Variants) (c : Dev nD) (bd : Option 𝒱.V) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (arg1 : BitVec 32) (arg2 : BitVec 32) (v4 : FVec F S256x256 .bf16) (X_arg3 : BufTy.Contents (Elt F) arg3.view.ty) (X_arg5 : BufTy.Contents (Elt F) arg5.view.ty) (X_arg9 : BufTy.Contents (Elt F) arg9.view.ty) (X_arg10 : BufTy.Contents (Elt F) arg10.view.ty)  (G_arg11 G_arg12) (n : ℕ) (hn : n ≤ (k0_t1_loop i).trips) :
    (arg11.view.read (Elt F) (arg11.view.writes (Elt F) G_arg11 (pb_k0_t1 (F := F) 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 G_arg11 G_arg12 n).1),
      arg12.view.read (Elt F) (arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 G_arg11 G_arg12 n).2))
      = earlier i (arg3.view.read (Elt F) X_arg3) v4 (arg5.view.read (Elt F) X_arg5) (arg9.view.read (Elt F) X_arg9) (arg10.view.read (Elt F) X_arg10)
          (arg11.view.read (Elt F) G_arg11, arg12.view.read (Elt F) G_arg12) n := by
  induction n with
  | zero => rfl
  | succ n ih =>
    rw [pb_k0_t1_succ 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 G_arg11 G_arg12 ⟨n, hn⟩]
    dsimp only
    rw [View.writes_append, View.writes_append]
    refine (trip_step 𝒱 c bd i arg3 harg3 arg4 harg4 arg5 harg5 arg6 harg6 arg7 harg7 arg8 harg8 arg9 harg9 arg10 harg10 arg11 harg11 arg12 harg12 arg1 arg2 v4 X_arg3 X_arg5 X_arg9 X_arg10 ⟨n, hn⟩ _ _).trans ?_
    rw [ih (Nat.le_of_succ_le hn)]
    rw [earlier, dif_pos (show n < (k0_t1_loop i).trips from hn)]

/-- The loop over the keys past the tile's own blocks makes no trip. -/
theorem trips_rest (i : grid0.Coords) : Scf.trips (k0_t2_loop i).lb (k0_t2_loop i).ub (k0_t2_loop i).st = 0 :=
  (by decide +kernel : ∀ x : Fin 8, Scf.trips (0#32 + (Scalar.muli (Scalar.divsi (Scalar.subi (Scalar.muli (BitVec.ofNat 32 x.val) 2#32) 0#32) 1#32) 1#32))
    (Scalar.addi 0#32 (Scalar.subi (Scalar.muli (BitVec.ofNat 32 x.val) 2#32) 0#32)) 1#32 = 0) (i 2)

set_option backward.isDefEq.respectTransparency false in
set_option maxHeartbeats 1000000 in
/-- What a grid point stores, case A. -/
theorem run_A  (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : cond0_0 i)    (x0 : Vec F S16 .f32) (x1 : Vec F S256x256 .bf16) (x2 : Vec F S512x256 .f32) (x3 : Vec F S1x4096x256 .f32) (x4 : Vec F S1x4096x256 .f32)  :
    (kernelRun0_A (F := F) c i arg3 harg3 arg4 harg4 arg5 harg5 arg6 harg6 arg7 harg7 arg8 harg8 arg9 harg9 arg10 harg10 arg11 harg11 arg12 harg12 hc0 x0 x1 x2 x3 x4).1
      = [⟨Rect.unit ![0, 0] S512x256.size inb_S512x256_S512x256_0_0, tileOut i x0 x1 x2 (k0_pay31 x3) (k0_pay32 x4)⟩] := by
  unfold kernelRun0_A
  dsimp only
  refine congrArg (fun x : Vec F S512x256 .f32 => ([⟨Rect.unit ![0, 0] S512x256.size inb_S512x256_S512x256_0_0, k0_pay8 x⟩] :
    List (View.Piece (Elt F) S512x256 .bf16))) ?_
  unfold kernelRun0_A.sl.v271
  refine (View.readAt_full _ _ _).trans ?_
  rw [trips_rest i]
  unfold pb_k0_t2
  dsimp only
  rw [List.nil_append, View.writes_append]
  refine (congrArg Prod.snd (pb_earlier (F := F) Variants.none c none i arg3 harg3 arg4 harg4 arg5 harg5 arg6 harg6 arg7 harg7 arg8 harg8 arg9 harg9 arg10 harg10 arg11 harg11 arg12 harg12 _ _ _ _ _ _ _ _ _ _ (Nat.le_refl _))).trans ?_
  refine congrArg Prod.snd ?_
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  sl_unfold_words
  simp only [read_writes_put, readCov_window, readAt_window, e0, e1, e2, e3, e4,]
  repeat rw [full_tri]
  repeat rw [full_keys]
  repeat rw [full_rows]
  repeat rw [full_carry]
  repeat rw [full_out]
  rfl

set_option backward.isDefEq.respectTransparency false in
set_option maxHeartbeats 1000000 in
/-- What a grid point stores, case B. -/
theorem run_B  (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : ¬cond0_0 i)    (x0 : Vec F S16 .f32) (x1 : Vec F S256x256 .bf16) (x2 : Vec F S512x256 .f32) (x3 : Vec F S1x4096x256 .f32) (x4 : Vec F S1x4096x256 .f32) (xs0 : Vec F S4096x256 .bf16) (xs1 : Vec F S4096x256 .bf16)  :
    (kernelRun0_B (F := F) c i arg3 harg3 arg4 harg4 arg5 harg5 arg6 harg6 arg7 harg7 arg8 harg8 arg9 harg9 arg10 harg10 arg11 harg11 arg12 harg12 hc0 x0 x1 x2 x3 x4 xs0 xs1).1
      = [⟨Rect.unit ![0, 0] S512x256.size inb_S512x256_S512x256_0_0, tileOut i x0 x1 x2 xs0 xs1⟩] := by
  unfold kernelRun0_B
  dsimp only
  refine congrArg (fun x : Vec F S512x256 .f32 => ([⟨Rect.unit ![0, 0] S512x256.size inb_S512x256_S512x256_0_0, k0_pay8 x⟩] :
    List (View.Piece (Elt F) S512x256 .bf16))) ?_
  unfold kernelRun0_B.sl.v271
  refine (View.readAt_full _ _ _).trans ?_
  rw [trips_rest i]
  unfold pb_k0_t2
  dsimp only
  rw [List.nil_append, View.writes_append]
  refine (congrArg Prod.snd (pb_earlier (F := F) Variants.none c none i arg3 harg3 arg4 harg4 arg5 harg5 arg6 harg6 arg7 harg7 arg8 harg8 arg9 harg9 arg10 harg10 arg11 harg11 arg12 harg12 _ _ _ _ _ _ _ _ _ _ (Nat.le_refl _))).trans ?_
  refine congrArg Prod.snd ?_
  have e0 := harg3.read_unread (Val := Elt F) x0
  have e1 := harg4.read_unread (Val := Elt F) x1
  have e2 := harg5.read_unread (Val := Elt F) x2
  have e3 := harg9.read_unread (Val := Elt F) xs0
  have e4 := harg10.read_unread (Val := Elt F) xs1
  sl_unfold_words
  simp only [read_writes_put, readCov_window, readAt_window, e0, e1, e2, e3, e4,]
  repeat rw [full_tri]
  repeat rw [full_carry]
  repeat rw [full_out]
  rfl

end Run

end Cert.KernelIdeal.Gen

end
-- ==== Proof.AttnOps.lean ====
/- The attention block's operations at the extended reals, element by element: scores, the logs of what each key leaves,
   the sums after each key, the weights, and a block's step for the rows of one head. -/
module

public import proofs.«01_k».proof.Proof.AttnMath
public import proofs.«01_k».proof.Proof.AttnBody
public import Idealize.ShloMosaic.Lib.Pipeline.Value
public import Idealize.ShloMosaic.Lib.ValueIdx

@[expose] public section

set_option maxRecDepth 16384

noncomputable section

namespace Cert.KernelIdeal.Gen

open Cert.KernelIdeal Idealize.ShloMosaic Idealize.ShloMosaic.ValueIdx Cert.Attn

/-- A one-axis contraction into zeros, as a sum over that axis. -/
theorem dot_sum {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) :
    matmul D none l r (constant so .f32 0x00000000#32) j = ∑ k, (l (L k) : EReal) * r (R k) := by
  refine (Ideal.matmul_constant_zero_apply D none l r j).trans ?_
  rw [← Equiv.sum_comp (contrEquiv1 D n hr hs).symm]
  exact Finset.sum_congr rfl fun k _ => by rw [hL, hR]

/-- The named scale is one over the root of 128, times one over `log 2`. -/
theorem scale_val : Named.named (F := Ideal) κ "scale" (φ := .f32) 0x3E0293EE#32 = (((Real.sqrt 128)⁻¹ * (Real.log 2)⁻¹ : ℝ) : EReal) :=
  IdealRules.named_const.ideal_named_scalar _ _ _ _ rfl

theorem log2e_val : Named.named (F := Ideal) κ "log2e" (φ := .f32) 0x3FB8AA3B#32 = ((l2e : ℝ) : EReal) :=
  IdealRules.named_const.ideal_named_scalar _ _ _ _ rfl

theorem one_val : (Scalar.ofBits .f32 0x3F800000#32 : Ideal .f32) = (1 : EReal) := by
  show Ideal.ofBits .f32 0x3F800000#32 = 1
  simp [Ideal.ofBits, Ideal.ieee, -EReal.coe_mul]
  norm_num

theorem zero_val : (Scalar.ofBits .f32 0x00000000#32 : Ideal .f32) = (0 : EReal) := Ideal.ofBits_zero_f32

/-- A score: the scaled query against the key, plus the bias, base two. -/
theorem k0_pay9_apply (q : Vec Ideal S512x128 .f32) (k : Vec Ideal S256x128 .bf16) (b : Elt Ideal .f32) (r : Fin 512) (x : Fin 256) :
    (k0_pay9 (F := Ideal) q k b (ix2 r x) : EReal)
      = (∑ d : Fin 128, (q (ix2 r d) : EReal) * (((Real.sqrt 128)⁻¹ * (Real.log 2)⁻¹ : ℝ) : EReal) * k (ix2 x d)) + (b : EReal) * (l2e : EReal) := by
  refine congrArg₂ (fun u w : EReal => u + w) ?_ ?_
  · refine (dot_sum (φ₁ := .bf16) (φ₂ := .bf16) dot_S512x128_S256x128_S512x256_1_1_0_0_n_n 128 rfl rfl _ _ _ (fun d => ix2 r d) (fun d => ix2 x d)
      (fun d => ?_) (fun d => ?_)).trans ?_
    · refine funext fun a => ?_
      match a with
      | ⟨0, _⟩ => rfl
      | ⟨1, _⟩ => rfl
    · refine funext fun a => ?_
      match a with
      | ⟨0, _⟩ => rfl
      | ⟨1, _⟩ => rfl
    · refine Finset.sum_congr rfl fun d _ => ?_
      exact congrArg (fun u : EReal => (q (ix2 r d) : EReal) * u * k (ix2 x d)) scale_val
  · exact congrArg (fun u : EReal => (b : EReal) * u) log2e_val

/-- The log of what a key leaves, base two, from its score. -/
theorem k0_pay15_apply (z : FVec Ideal S512x256 .f32) (i : S512x256.Idx) :
    (k0_pay15 (F := Ideal) z i : EReal) = min (0 - (z i : EReal)) 0
      - Ideal.log (1 + Ideal.exp2 (min (z i : EReal) (0 - (z i : EReal)))) * (l2e : EReal) := by
  have h : (k0_pay15 (F := Ideal) z i : EReal)
      = min ((Scalar.ofBits .f32 0x00000000#32 : Ideal .f32) - (z i : EReal)) (Scalar.ofBits .f32 0x00000000#32 : Ideal .f32)
        - Ideal.log ((Scalar.ofBits .f32 0x3F800000#32 : Ideal .f32)
          + Ideal.exp2 (min (z i : EReal) ((Scalar.ofBits .f32 0x00000000#32 : Ideal .f32) - (z i : EReal))))
          * Named.named (F := Ideal) κ "log2e" (φ := .f32) 0x3FB8AA3B#32 := rfl
  rw [h, zero_val, one_val, log2e_val]

/-- The sums over the keys after each key. -/
theorem sumsW_apply (tri : FVec Ideal S256x256 .bf16) (l : FVec Ideal S512x256 .f32) (r : Fin 512) (x : Fin 256) :
    (sumsW (F := Ideal) tri l (ix2 r x) : EReal) = ∑ y : Fin 256, (l (ix2 r y) : EReal) * tri (ix2 y x) := by
  refine dot_sum dot_S512x256_S256x256_S512x256_1_0_0_1_n_n 256 rfl rfl _ _ _ (fun y => ix2 r y) (fun y => ix2 y x) (fun d => ?_) (fun d => ?_)
  · refine funext fun a => ?_
    match a with
    | ⟨0, _⟩ => rfl
    | ⟨1, _⟩ => rfl
  · refine funext fun a => ?_
    match a with
    | ⟨0, _⟩ => rfl
    | ⟨1, _⟩ => rfl

/-- A weight before the mask. -/
theorem weightsW_apply (tri : FVec Ideal S256x256 .bf16) (z l ls : FVec Ideal S512x256 .f32) (c : Vec Ideal S1x512x1 .f32)
    (r : Fin 512) (x : Fin 256) :
    (weightsW (F := Ideal) tri z l ls c (ix2 r x) : EReal)
      = Ideal.exp2 (((z (ix2 r x) : EReal) + l (ix2 r x)) + (∑ y : Fin 256, (ls (ix2 r y) : EReal) * tri (ix2 y x)) + c (ix3 (0 : Fin 1) r (0 : Fin 1))) := by
  show Ideal.exp2 (((z (ix2 r x) : EReal) + l (ix2 r x)) + sumsW (F := Ideal) tri ls (ix2 r x) + broadcastTo S512x256 _ _ (ix2 r x)) = _
  rw [sumsW_apply]
  refine congrArg Ideal.exp2 (congrArg₂ (fun u w : EReal => u + w) rfl ?_)
  rw [broadcastTo_apply _ _ _ (ix2 r (0 : Fin 1)) (fun a => by match a with | ⟨0, _⟩ => rfl | ⟨1, _⟩ => rfl)]
  exact shapeCast_apply _ _ _ _ (by rw [Shape.rowMajor_val_three, Shape.rowMajor_val_two]; show _ = _; simp [ix2, ix3])

/-- The running log extended by a block's. -/
theorem k0_pay3_apply (ls : FVec Ideal S512x256 .f32) (c : Vec Ideal S1x512x1 .f32) (r : Fin 512) :
    (k0_pay3 (F := Ideal) ls c (ix3 (0 : Fin 1) r (0 : Fin 1)) : EReal) = (c (ix3 (0 : Fin 1) r (0 : Fin 1)) : EReal) + ∑ x : Fin 256, (ls (ix2 r x) : EReal) := by
  unfold k0_pay3
  rw [shapeCast_apply _ _ _ (ix2 r (0 : Fin 1)) (by rw [Shape.rowMajor_val_three, Shape.rowMajor_val_two]; show _ = _; simp [ix2, ix3])]
  refine congrArg₂ (fun u w : EReal => u + w) ?_ ?_
  · exact shapeCast_apply _ _ _ _ (by rw [Shape.rowMajor_val_three, Shape.rowMajor_val_two]; show _ = _; simp [ix2, ix3])
  · refine (shapeCast_apply _ _ _ (ix1 r) (by rw [Shape.rowMajor_val_one, Shape.rowMajor_val_two]; show _ = _; simp [ix1, ix2])).trans ?_
    refine (Ideal.multiReduction_add_single _ _ _ _ _ _).trans ?_
    refine Finset.sum_congr rfl fun x _ => congrArg ls ?_
    refine funext fun a => ?_
    match a with
    | ⟨0, _⟩ => rfl
    | ⟨1, _⟩ => rfl

/-- The running output extended by a block's weighted values. -/
theorem k0_pay2_apply (w : FVec Ideal S512x256 .f32) (a : Vec Ideal S512x128 .f32) (v : Vec Ideal S256x128 .bf16) (r : Fin 512) (d : Fin 128) :
    (k0_pay2 (F := Ideal) w a v (ix2 r d) : EReal) = (a (ix2 r d) : EReal) + ∑ x : Fin 256, (w (ix2 r x) : EReal) * v (ix2 x d) := by
  unfold k0_pay2
  rw [shapeCast_self]
  refine congrArg (fun u : EReal => (a (ix2 r d) : EReal) + u) ?_
  refine dot_sum dot_S512x256_S256x128_S512x128_1_0_0_1_n_n 256 rfl rfl _ _ _ (fun x => ix2 r x) (fun x => ix2 x d) (fun k => ?_) (fun k => ?_)
  · refine funext fun a => ?_
    match a with
    | ⟨0, _⟩ => rfl
    | ⟨1, _⟩ => rfl
  · refine funext fun a => ?_
    match a with
    | ⟨0, _⟩ => rfl
    | ⟨1, _⟩ => rfl

/-- One head's step over the block of keys from `K`, at every row. -/
theorem slab512 (z : Fin 512 → ℕ → ℝ) (v : Fin 128 → ℕ → EReal) (P : Fin 512 → ℕ) (K : ℕ) (hK : K + 256 ≤ 4096)
    (Z : FVec Ideal S512x256 .f32) (mk : FVec Ideal S512x256 .f32 → FVec Ideal S512x256 .f32) (tri : FVec Ideal S256x256 .bf16)
    (C : Vec Ideal S1x512x1 .f32) (A : Vec Ideal S512x128 .f32) (V : Vec Ideal S256x128 .bf16)
    (hZ : ∀ r x, (Z (ix2 r x) : EReal) = ((l2e * z r (K + x.val) : ℝ) : EReal))
    (hmk : ∀ f r x, (mk f (ix2 r x) : EReal) = if K + x.val < P r then f (ix2 r x) else 0)
    (htri : ∀ y x : Fin 256, (tri (ix2 y x) : EReal) = if x.val < y.val then 1 else 0)
    (hV : ∀ x d, (V (ix2 x d) : EReal) = v d (K + x.val))
    (hC : ∀ r, (C (ix3 (0 : Fin 1) r (0 : Fin 1)) : EReal) = (carryAt (z r) (P r) (K + 256) : EReal))
    (hA : ∀ r d, (A (ix2 r d) : EReal) = accAt (z r) (v d) (P r) (K + 256)) :
    (∀ r, (k0_pay3 (F := Ideal) (mk (k0_pay15 Z)) C (ix3 (0 : Fin 1) r (0 : Fin 1)) : EReal) = (carryAt (z r) (P r) K : EReal))
      ∧ ∀ r d, (k0_pay2 (F := Ideal) (mk (weightsW tri Z (k0_pay15 Z) (mk (k0_pay15 Z)) C)) A V (ix2 r d) : EReal) = accAt (z r) (v d) (P r) K := by
  have hl : ∀ r x, (k0_pay15 (F := Ideal) Z (ix2 r x) : EReal) = ((l2e * lstay (z r (K + x.val)) : ℝ) : EReal) := fun r x => by
    rw [k0_pay15_apply, hZ, stay_elt]
  have hls : ∀ r x, (mk (k0_pay15 Z) (ix2 r x) : EReal) = ((l2e * stay (z r) (P r) (K + x.val) : ℝ) : EReal) := fun r x => by
    rw [hmk, stay]
    split
    · exact hl r x
    · rw [mul_zero, EReal.coe_zero]
  constructor
  · intro r
    rw [k0_pay3_apply, hC]
    exact carryAt_step (z r) (P r) K hK _ (hls r)
  · intro r d
    rw [k0_pay2_apply, hA]
    refine accAt_step (z r) (v d) (P r) K hK _ _ (fun x => ?_) (fun x => hV x d)
    rw [hmk]
    split
    · next h =>
      rw [weightsW_apply, hZ, hl, hC]
      exact weight_elt (z r) (P r) K hK x _ (fun y x => tri (ix2 y x)) (hls r) htri h
    · next h => rw [weight, if_neg h, EReal.coe_zero]

/-- A score: the scaled query against the key, plus the bias, base two. -/
theorem k0_pay39_apply (q : Vec Ideal S256x128 .f32) (k : Vec Ideal S256x128 .bf16) (b : Elt Ideal .f32) (r : Fin 256) (x : Fin 256) :
    (k0_pay39 (F := Ideal) q k b (ix2 r x) : EReal)
      = (∑ d : Fin 128, (q (ix2 r d) : EReal) * (((Real.sqrt 128)⁻¹ * (Real.log 2)⁻¹ : ℝ) : EReal) * k (ix2 x d)) + (b : EReal) * (l2e : EReal) := by
  refine congrArg₂ (fun u w : EReal => u + w) ?_ ?_
  · refine (dot_sum (φ₁ := .bf16) (φ₂ := .bf16) dot_S256x128_S256x128_S256x256_1_1_0_0_n_n 128 rfl rfl _ _ _ (fun d => ix2 r d) (fun d => ix2 x d)
      (fun d => ?_) (fun d => ?_)).trans ?_
    · refine funext fun a => ?_
      match a with
      | ⟨0, _⟩ => rfl
      | ⟨1, _⟩ => rfl
    · refine funext fun a => ?_
      match a with
      | ⟨0, _⟩ => rfl
      | ⟨1, _⟩ => rfl
    · refine Finset.sum_congr rfl fun d _ => ?_
      exact congrArg (fun u : EReal => (q (ix2 r d) : EReal) * u * k (ix2 x d)) scale_val
  · exact congrArg (fun u : EReal => (b : EReal) * u) log2e_val

/-- The log of what a key leaves, base two, from its score. -/
theorem stayH_apply (z : FVec Ideal S256x256 .f32) (i : S256x256.Idx) :
    (stayH (F := Ideal) z i : EReal) = min (0 - (z i : EReal)) 0
      - Ideal.log (1 + Ideal.exp2 (min (z i : EReal) (0 - (z i : EReal)))) * (l2e : EReal) := by
  have h : (stayH (F := Ideal) z i : EReal)
      = min ((Scalar.ofBits .f32 0x00000000#32 : Ideal .f32) - (z i : EReal)) (Scalar.ofBits .f32 0x00000000#32 : Ideal .f32)
        - Ideal.log ((Scalar.ofBits .f32 0x3F800000#32 : Ideal .f32)
          + Ideal.exp2 (min (z i : EReal) ((Scalar.ofBits .f32 0x00000000#32 : Ideal .f32) - (z i : EReal))))
          * Named.named (F := Ideal) κ "log2e" (φ := .f32) 0x3FB8AA3B#32 := rfl
  rw [h, zero_val, one_val, log2e_val]

/-- The sums over the keys after each key. -/
theorem sumsH_apply (tri : FVec Ideal S256x256 .bf16) (l : FVec Ideal S256x256 .f32) (r : Fin 256) (x : Fin 256) :
    (sumsH (F := Ideal) tri l (ix2 r x) : EReal) = ∑ y : Fin 256, (l (ix2 r y) : EReal) * tri (ix2 y x) := by
  refine dot_sum dot_S256x256_S256x256_S256x256_1_0_0_1_n_n 256 rfl rfl _ _ _ (fun y => ix2 r y) (fun y => ix2 y x) (fun d => ?_) (fun d => ?_)
  · refine funext fun a => ?_
    match a with
    | ⟨0, _⟩ => rfl
    | ⟨1, _⟩ => rfl
  · refine funext fun a => ?_
    match a with
    | ⟨0, _⟩ => rfl
    | ⟨1, _⟩ => rfl

/-- A weight before the mask. -/
theorem weightsH_apply (tri : FVec Ideal S256x256 .bf16) (z l ls : FVec Ideal S256x256 .f32) (c : Vec Ideal S1x256x1 .f32)
    (r : Fin 256) (x : Fin 256) :
    (weightsH (F := Ideal) tri z l ls c (ix2 r x) : EReal)
      = Ideal.exp2 (((z (ix2 r x) : EReal) + l (ix2 r x)) + (∑ y : Fin 256, (ls (ix2 r y) : EReal) * tri (ix2 y x)) + c (ix3 (0 : Fin 1) r (0 : Fin 1))) := by
  show Ideal.exp2 (((z (ix2 r x) : EReal) + l (ix2 r x)) + sumsH (F := Ideal) tri ls (ix2 r x) + broadcastTo S256x256 _ _ (ix2 r x)) = _
  rw [sumsH_apply]
  refine congrArg Ideal.exp2 (congrArg₂ (fun u w : EReal => u + w) rfl ?_)
  rw [broadcastTo_apply _ _ _ (ix2 r (0 : Fin 1)) (fun a => by match a with | ⟨0, _⟩ => rfl | ⟨1, _⟩ => rfl)]
  exact shapeCast_apply _ _ _ _ (by rw [Shape.rowMajor_val_three, Shape.rowMajor_val_two]; show _ = _; simp [ix2, ix3])

/-- The running log extended by a block's. -/
theorem k0_pay52_apply (ls : FVec Ideal S256x256 .f32) (c : Vec Ideal S1x256x1 .f32) (r : Fin 256) :
    (k0_pay52 (F := Ideal) ls c (ix3 (0 : Fin 1) r (0 : Fin 1)) : EReal) = (c (ix3 (0 : Fin 1) r (0 : Fin 1)) : EReal) + ∑ x : Fin 256, (ls (ix2 r x) : EReal) := by
  unfold k0_pay52
  rw [shapeCast_apply _ _ _ (ix2 r (0 : Fin 1)) (by rw [Shape.rowMajor_val_three, Shape.rowMajor_val_two]; show _ = _; simp [ix2, ix3])]
  refine congrArg₂ (fun u w : EReal => u + w) ?_ ?_
  · exact shapeCast_apply _ _ _ _ (by rw [Shape.rowMajor_val_three, Shape.rowMajor_val_two]; show _ = _; simp [ix2, ix3])
  · refine (shapeCast_apply _ _ _ (ix1 r) (by rw [Shape.rowMajor_val_one, Shape.rowMajor_val_two]; show _ = _; simp [ix1, ix2])).trans ?_
    refine (Ideal.multiReduction_add_single _ _ _ _ _ _).trans ?_
    refine Finset.sum_congr rfl fun x _ => congrArg ls ?_
    refine funext fun a => ?_
    match a with
    | ⟨0, _⟩ => rfl
    | ⟨1, _⟩ => rfl

/-- The running output extended by a block's weighted values. -/
theorem outH_apply (w : FVec Ideal S256x256 .f32) (a : Vec Ideal S256x128 .f32) (v : Vec Ideal S256x128 .bf16) (r : Fin 256) (d : Fin 128) :
    (outH (F := Ideal) w a v (ix2 r d) : EReal) = (a (ix2 r d) : EReal) + ∑ x : Fin 256, (w (ix2 r x) : EReal) * v (ix2 x d) := by
  unfold outH k0_pay51
  rw [shapeCast_self]
  refine congrArg (fun u : EReal => (a (ix2 r d) : EReal) + u) ?_
  refine dot_sum dot_S256x256_S256x128_S256x128_1_0_0_1_n_n 256 rfl rfl _ _ _ (fun x => ix2 r x) (fun x => ix2 x d) (fun k => ?_) (fun k => ?_)
  · refine funext fun a => ?_
    match a with
    | ⟨0, _⟩ => rfl
    | ⟨1, _⟩ => rfl
  · refine funext fun a => ?_
    match a with
    | ⟨0, _⟩ => rfl
    | ⟨1, _⟩ => rfl

/-- One head's step over the block of keys from `K`, at every row. -/
theorem slab256 (z : Fin 256 → ℕ → ℝ) (v : Fin 128 → ℕ → EReal) (P : Fin 256 → ℕ) (K : ℕ) (hK : K + 256 ≤ 4096)
    (Z : FVec Ideal S256x256 .f32) (mk : FVec Ideal S256x256 .f32 → FVec Ideal S256x256 .f32) (tri : FVec Ideal S256x256 .bf16)
    (C : Vec Ideal S1x256x1 .f32) (A : Vec Ideal S256x128 .f32) (V : Vec Ideal S256x128 .bf16)
    (hZ : ∀ r x, (Z (ix2 r x) : EReal) = ((l2e * z r (K + x.val) : ℝ) : EReal))
    (hmk : ∀ f r x, (mk f (ix2 r x) : EReal) = if K + x.val < P r then f (ix2 r x) else 0)
    (htri : ∀ y x : Fin 256, (tri (ix2 y x) : EReal) = if x.val < y.val then 1 else 0)
    (hV : ∀ x d, (V (ix2 x d) : EReal) = v d (K + x.val))
    (hC : ∀ r, (C (ix3 (0 : Fin 1) r (0 : Fin 1)) : EReal) = (carryAt (z r) (P r) (K + 256) : EReal))
    (hA : ∀ r d, (A (ix2 r d) : EReal) = accAt (z r) (v d) (P r) (K + 256)) :
    (∀ r, (k0_pay52 (F := Ideal) (mk (stayH Z)) C (ix3 (0 : Fin 1) r (0 : Fin 1)) : EReal) = (carryAt (z r) (P r) K : EReal))
      ∧ ∀ r d, (outH (F := Ideal) (mk (weightsH tri Z (stayH Z) (mk (stayH Z)) C)) A V (ix2 r d) : EReal) = accAt (z r) (v d) (P r) K := by
  have hl : ∀ r x, (stayH (F := Ideal) Z (ix2 r x) : EReal) = ((l2e * lstay (z r (K + x.val)) : ℝ) : EReal) := fun r x => by
    rw [stayH_apply, hZ, stay_elt]
  have hls : ∀ r x, (mk (stayH Z) (ix2 r x) : EReal) = ((l2e * stay (z r) (P r) (K + x.val) : ℝ) : EReal) := fun r x => by
    rw [hmk, stay]
    split
    · exact hl r x
    · rw [mul_zero, EReal.coe_zero]
  constructor
  · intro r
    rw [k0_pay52_apply, hC]
    exact carryAt_step (z r) (P r) K hK _ (hls r)
  · intro r d
    rw [outH_apply, hA]
    refine accAt_step (z r) (v d) (P r) K hK _ _ (fun x => ?_) (fun x => hV x d)
    rw [hmk]
    split
    · next h =>
      rw [weightsH_apply, hZ, hl, hC]
      exact weight_elt (z r) (P r) K hK x _ (fun y x => tri (ix2 y x)) (hls r) htri h
    · next h => rw [weight, if_neg h, EReal.coe_zero]

end Cert.KernelIdeal.Gen

end
-- ==== Proof.AttnTile.lean ====
/- What one grid point of the attention kernel stores: row by row, head by head, the stick-breaking attention of the
   row's query over the keys before it. The blocks of keys are read from the latest to the first; after each of them the
   running log and the running output of a head are those of the keys from that block on. -/
module

public import proofs.«01_k».proof.Proof.AttnOps
public import Idealize.ShloMosaic.Lib.WordCmp

@[expose] public section

set_option maxRecDepth 16384

noncomputable section

namespace Cert.KernelIdeal.Gen

open Cert.KernelIdeal Idealize.ShloMosaic Idealize.ShloMosaic.ValueIdx Cert.Attn

section Windows

variable {α : Type}

theorem window2 {n m p w : ℕ} (x : (⟨2, ![n, m]⟩ : Shape).Idx → α) (off : Fin 2 → ℕ)
    (inb : ∀ a, off a + (⟨2, ![p, w]⟩ : Shape).size a ≤ (⟨2, ![n, m]⟩ : Shape).size a) (r : Fin p) (c : Fin w) (r' : Fin n) (c' : Fin m)
    (h0 : off 0 + r.val = r'.val) (h1 : off 1 + c.val = c'.val) :
    VecWindow.window (s := ⟨2, ![n, m]⟩) x off (⟨2, ![p, w]⟩ : Shape).size inb (ix2 r c) = x (ix2 r' c') := by
  refine congrArg x (funext fun a => Fin.ext ?_)
  match a with
  | ⟨0, _⟩ => exact (by show off 0 + 1 * r.val = r'.val; omega)
  | ⟨1, _⟩ => exact (by show off 1 + 1 * c.val = c'.val; omega)

theorem put2_in {n m p w : ℕ} (x : (⟨2, ![n, m]⟩ : Shape).Idx → α) (off : Fin 2 → ℕ) (y : (⟨2, ![p, w]⟩ : Shape).Idx → α)
    (r : Fin p) (c : Fin w) (r' : Fin n) (c' : Fin m) (h0 : off 0 + r.val = r'.val) (h1 : off 1 + c.val = c'.val) :
    VecWindow.put (s := ⟨2, ![n, m]⟩) x off (⟨2, ![p, w]⟩ : Shape).size y (ix2 r' c') = y (ix2 r c) := by
  unfold VecWindow.put
  have h : ∀ a : Fin 2, off a ≤ ((ix2 r' c' : (⟨2, ![n, m]⟩ : Shape).Idx) a).val
      ∧ ((ix2 r' c' : (⟨2, ![n, m]⟩ : Shape).Idx) a).val < off a + (⟨2, ![p, w]⟩ : Shape).size a := fun a => by
    match a with
    | ⟨0, _⟩ => exact (by show off 0 ≤ r'.val ∧ r'.val < off 0 + p; have := r.isLt; omega)
    | ⟨1, _⟩ => exact (by show off 1 ≤ c'.val ∧ c'.val < off 1 + w; have := c.isLt; omega)
  rw [dif_pos h]
  refine congrArg y (funext fun a => Fin.ext ?_)
  match a with
  | ⟨0, _⟩ => exact (by show r'.val - off 0 = r.val; omega)
  | ⟨1, _⟩ => exact (by show c'.val - off 1 = c.val; omega)

theorem put2_out {n m p w : ℕ} (x : (⟨2, ![n, m]⟩ : Shape).Idx → α) (off : Fin 2 → ℕ) (y : (⟨2, ![p, w]⟩ : Shape).Idx → α)
    (r' : Fin n) (c' : Fin m) (h : ¬((off 0 ≤ r'.val ∧ r'.val < off 0 + p) ∧ off 1 ≤ c'.val ∧ c'.val < off 1 + w)) :
    VecWindow.put (s := ⟨2, ![n, m]⟩) x off (⟨2, ![p, w]⟩ : Shape).size y (ix2 r' c') = x (ix2 r' c') := by
  unfold VecWindow.put
  exact dif_neg fun hall => h ⟨hall 0, hall 1⟩

theorem window3 {n m p : ℕ} (x : (⟨3, ![n, m, 1]⟩ : Shape).Idx → α) (off : Fin 3 → ℕ)
    (inb : ∀ a, off a + (⟨3, ![1, p, 1]⟩ : Shape).size a ≤ (⟨3, ![n, m, 1]⟩ : Shape).size a) (r : Fin p) (j : Fin n) (r' : Fin m)
    (h0 : off 0 = j.val) (h1 : off 1 + r.val = r'.val) :
    VecWindow.window (s := ⟨3, ![n, m, 1]⟩) x off (⟨3, ![1, p, 1]⟩ : Shape).size inb (ix3 (0 : Fin 1) r (0 : Fin 1)) = x (ix3 j r' (0 : Fin 1)) := by
  refine congrArg x (funext fun a => Fin.ext ?_)
  match a with
  | ⟨0, _⟩ => exact (by show off 0 + 1 * 0 = j.val; omega)
  | ⟨1, _⟩ => exact (by show off 1 + 1 * r.val = r'.val; omega)
  | ⟨2, _⟩ => exact (by show off 2 + 1 * 0 = 0; have : off 2 + 1 ≤ 1 := inb 2; omega)

theorem put3_in {n m p : ℕ} (x : (⟨3, ![n, m, 1]⟩ : Shape).Idx → α) (off : Fin 3 → ℕ) (y : (⟨3, ![1, p, 1]⟩ : Shape).Idx → α)
    (r : Fin p) (j : Fin n) (r' : Fin m) (h0 : off 0 = j.val) (h1 : off 1 + r.val = r'.val) (h2 : off 2 = 0) :
    VecWindow.put (s := ⟨3, ![n, m, 1]⟩) x off (⟨3, ![1, p, 1]⟩ : Shape).size y (ix3 j r' (0 : Fin 1)) = y (ix3 (0 : Fin 1) r (0 : Fin 1)) := by
  unfold VecWindow.put
  have h : ∀ a : Fin 3, off a ≤ ((ix3 j r' (0 : Fin 1) : (⟨3, ![n, m, 1]⟩ : Shape).Idx) a).val
      ∧ ((ix3 j r' (0 : Fin 1) : (⟨3, ![n, m, 1]⟩ : Shape).Idx) a).val < off a + (⟨3, ![1, p, 1]⟩ : Shape).size a := fun a => by
    match a with
    | ⟨0, _⟩ => exact (by show off 0 ≤ j.val ∧ j.val < off 0 + 1; omega)
    | ⟨1, _⟩ => exact (by show off 1 ≤ r'.val ∧ r'.val < off 1 + p; have := r.isLt; omega)
    | ⟨2, _⟩ => exact (by show off 2 ≤ 0 ∧ 0 < off 2 + 1; omega)
  rw [dif_pos h]
  refine congrArg y (funext fun a => Fin.ext ?_)
  match a with
  | ⟨0, _⟩ => exact (by show j.val - off 0 = 0; omega)
  | ⟨1, _⟩ => exact (by show r'.val - off 1 = r.val; omega)
  | ⟨2, _⟩ => exact (by show 0 - off 2 = 0; omega)

theorem put3_out {n m p : ℕ} (x : (⟨3, ![n, m, 1]⟩ : Shape).Idx → α) (off : Fin 3 → ℕ) (y : (⟨3, ![1, p, 1]⟩ : Shape).Idx → α)
    (j : Fin n) (r' : Fin m) (h : ¬(off 0 = j.val ∧ off 1 ≤ r'.val ∧ r'.val < off 1 + p)) :
    VecWindow.put (s := ⟨3, ![n, m, 1]⟩) x off (⟨3, ![1, p, 1]⟩ : Shape).size y (ix3 j r' (0 : Fin 1)) = x (ix3 j r' (0 : Fin 1)) := by
  unfold VecWindow.put
  refine dif_neg fun hall => h ⟨?_, hall 1⟩
  have h0 : off 0 ≤ j.val ∧ j.val < off 0 + 1 := hall 0
  omega

end Windows

/-- A score over the reals: the kernel's folded scale and bias are those of the score itself, base two. -/
theorem score_real (a k : Fin 128 → ℝ) (s b : ℝ) :
    (∑ d, (a d : EReal) * ((s * (Real.log 2)⁻¹ : ℝ) : EReal) * (k d : EReal)) + (b : EReal) * (l2e : EReal)
      = ((l2e * ((∑ d, a d * k d) * s + b) : ℝ) : EReal) := by
  simp only [← EReal.coe_mul]
  rw [← coe_sum, ← EReal.coe_add]
  congr 1
  rw [mul_add, Finset.sum_mul, Finset.mul_sum, mul_comm b]
  congr 1
  exact Finset.sum_congr rfl fun d _ => by unfold l2e; ring

section Tile

variable (qr kr : ℕ → ℕ → ℝ) (bj : ℕ → ℝ) (vr : ℕ → ℕ → EReal) (g : ℕ)

/-- The score of row `r` against key `s` in head `j` of the tile. -/
def zs (j r s : ℕ) : ℝ := (∑ d : Fin 128, qr r (128 * j + d.val) * kr s (128 * j + d.val)) * (Real.sqrt 128)⁻¹ + bj j

/-- Head `j` has read the keys from `K` on. -/
def HInv (j : Fin 2) (K : ℕ) (s : St Ideal) : Prop :=
  ∀ r : Fin 512, (s.1 (ix3 j r (0 : Fin 1)) : EReal) = (carryAt (zs qr kr bj j.val r.val) (g * 512 + r.val) K : EReal)
    ∧ ∀ (d : Fin 128) (e : Fin 256), e.val = 128 * j.val + d.val →
        (s.2 (ix2 r e) : EReal) = accAt (zs qr kr bj j.val r.val) (fun t => vr t (128 * j.val + d.val)) (g * 512 + r.val) K

variable (b : Elt Ideal .f32) (tri : FVec Ideal S256x256 .bf16) (q : Vec Ideal S512x256 .f32) (kk vv : Vec Ideal S4096x256 .bf16)
  (hq : ∀ r c, (q (ix2 r c) : EReal) = (qr r.val c.val : EReal)) (hk : ∀ r c, (kk (ix2 r c) : EReal) = (kr r.val c.val : EReal))
  (hv : ∀ r c, (vv (ix2 r c) : EReal) = vr r.val c.val)
  (htri : ∀ y x : Fin 256, (tri (ix2 y x) : EReal) = if x.val < y.val then 1 else 0)

include hq hk hv htri

theorem head_score (j : Fin 2) (K : ℕ) (hK : K + 256 ≤ 4096) (hb : (b : EReal) = (bj j.val : EReal)) (qo : Fin 2 → ℕ) (hqo : qo = ![0, 128 * j.val])
    (ko : Fin 2 → ℕ) (hko : ko = ![K, 128 * j.val]) (hq' : ∀ a, qo a + S512x128.size a ≤ S512x256.size a)
    (hk' : ∀ a, ko a + S256x128.size a ≤ S4096x256.size a) (r : Fin 512) (x : Fin 256) :
    (k0_pay9 (F := Ideal) (VecWindow.window q qo S512x128.size hq') (VecWindow.window kk ko S256x128.size hk') b (ix2 r x) : EReal)
      = ((l2e * zs qr kr bj j.val r.val (K + x.val) : ℝ) : EReal) := by
  subst hqo hko
  rw [k0_pay9_apply, hb, zs, ← score_real]
  congr 1
  have hj := j.isLt
  refine Finset.sum_congr rfl fun d _ => ?_
  have hr := r.isLt
  have hd := d.isLt
  have hx := x.isLt
  rw [window2 (p := 512) (w := 128) q _ hq' r d ⟨r.val, by omega⟩ ⟨128 * j.val + d.val, by omega⟩ (Nat.zero_add _) rfl,
    window2 (p := 256) (w := 128) kk _ hk' x d ⟨K + x.val, by omega⟩ ⟨128 * j.val + d.val, by omega⟩ rfl rfl, hq, hk]

/-- A head's step over the block of keys from `K`. -/
theorem head_inv (j : Fin 2) (K : ℕ) (hK : K + 256 ≤ 4096) (hb : (b : EReal) = (bj j.val : EReal)) (mk : FVec Ideal S512x256 .f32 → FVec Ideal S512x256 .f32)
    (hmk : ∀ (f : FVec Ideal S512x256 .f32) (r : Fin 512) (x : Fin 256), (mk f (ix2 r x) : EReal) = if K + x.val < g * 512 + r.val then f (ix2 r x) else 0)
    (qo : Fin 2 → ℕ) (hqo : qo = ![0, 128 * j.val]) (co : Fin 3 → ℕ) (hco : co = ![j.val, 0, 0])
    (ko : Fin 2 → ℕ) (hko : ko = ![K, 128 * j.val]) (hq' : ∀ a, qo a + S512x128.size a ≤ S512x256.size a)
    (hc' : ∀ a, co a + S1x512x1.size a ≤ S2x512x1.size a) (hk' : ∀ a, ko a + S256x128.size a ≤ S4096x256.size a)
    (s : St Ideal)
    (hs : HInv qr kr bj vr g j (K + 256) s) :
    HInv qr kr bj vr g j K (head mk b tri q kk vv qo hq' co hc' ko hk' s) := by
  have hj := j.isLt
  obtain ⟨h1, h2⟩ := slab512 (fun r => zs qr kr bj j.val r.val) (fun d t => vr t (128 * j.val + d.val)) (fun r => g * 512 + r.val) K hK
    (k0_pay9 (VecWindow.window q qo S512x128.size hq') (VecWindow.window kk ko S256x128.size hk') b) mk tri
    (VecWindow.window s.1 co S1x512x1.size hc') (VecWindow.window s.2 qo S512x128.size hq') (VecWindow.window vv ko S256x128.size hk')
    (head_score qr kr bj vr b tri q kk vv hq hk hv htri j K hK hb qo hqo ko hko hq' hk') hmk htri
    (fun x d => by
      subst hko
      have hd := d.isLt
      have hx := x.isLt
      rw [window2 (p := 256) (w := 128) vv _ hk' x d ⟨K + x.val, by omega⟩ ⟨128 * j.val + d.val, by omega⟩ rfl rfl, hv])
    (fun r => by
      subst hco
      have hr := r.isLt
      rw [window3 (p := 512) s.1 _ hc' r j ⟨r.val, by omega⟩ rfl (Nat.zero_add _)]
      exact (hs ⟨r.val, by omega⟩).1)
    (fun r d => by
      subst hqo
      have hr := r.isLt
      have hd := d.isLt
      rw [window2 (p := 512) (w := 128) s.2 _ hq' r d ⟨r.val, by omega⟩ ⟨128 * j.val + d.val, by omega⟩ (Nat.zero_add _) rfl]
      exact (hs ⟨r.val, by omega⟩).2 d _ rfl)
  intro r
  have hr := r.isLt
  refine ⟨?_, fun d e he => ?_⟩
  · refine (put3_in (p := 512) s.1 co _ r j r (by rw [hco]; rfl) (by rw [hco]; exact Nat.zero_add _) (by rw [hco]; rfl)).trans (h1 r)
  · refine (put2_in (p := 512) (w := 128) s.2 qo _ r d r e (by rw [hqo]; exact Nat.zero_add _) (by rw [hqo]; exact he.symm)).trans (h2 r d)

/-- A head's step leaves the other head. -/
theorem head_keep (j j' : Fin 2) (hj : j ≠ j') (K : ℕ) (mk : FVec Ideal S512x256 .f32 → FVec Ideal S512x256 .f32)
    (qo : Fin 2 → ℕ) (hqo : qo = ![0, 128 * j.val]) (co : Fin 3 → ℕ) (hco : co = ![j.val, 0, 0]) (ko : Fin 2 → ℕ)
    (hq' : ∀ a, qo a + S512x128.size a ≤ S512x256.size a) (hc' : ∀ a, co a + S1x512x1.size a ≤ S2x512x1.size a)
    (hk' : ∀ a, ko a + S256x128.size a ≤ S4096x256.size a) (s : St Ideal) (hs : HInv qr kr bj vr g j' K s) :
    HInv qr kr bj vr g j' K (head mk b tri q kk vv qo hq' co hc' ko hk' s) := by
  have hjv : j.val ≠ j'.val := fun h => hj (Fin.ext h)
  intro r
  obtain ⟨a1, a2⟩ := hs r
  refine ⟨?_, fun d e he => ?_⟩
  · exact (put3_out (p := 512) s.1 co _ j' r (by rw [hco]; show ¬(j.val = j'.val ∧ _); omega)).trans a1
  · refine (put2_out (p := 512) (w := 128) s.2 qo _ r e ?_).trans (a2 d e he)
    rw [hqo]
    show ¬(_ ∧ 128 * j.val ≤ e.val ∧ e.val < 128 * j.val + 128)
    have := d.isLt
    omega

theorem headH_score (j : Fin 2) (K : ℕ) (hK : K + 256 ≤ 4096) (hb : (b : EReal) = (bj j.val : EReal)) (qo : Fin 2 → ℕ) (hqo : qo = ![256, 128 * j.val])
    (ko : Fin 2 → ℕ) (hko : ko = ![K, 128 * j.val]) (hq' : ∀ a, qo a + S256x128.size a ≤ S512x256.size a)
    (hk' : ∀ a, ko a + S256x128.size a ≤ S4096x256.size a) (r : Fin 256) (x : Fin 256) :
    (k0_pay39 (F := Ideal) (VecWindow.window q qo S256x128.size hq') (VecWindow.window kk ko S256x128.size hk') b (ix2 r x) : EReal)
      = ((l2e * zs qr kr bj j.val (256 + r.val) (K + x.val) : ℝ) : EReal) := by
  subst hqo hko
  rw [k0_pay39_apply, hb, zs, ← score_real]
  congr 1
  have hj := j.isLt
  refine Finset.sum_congr rfl fun d _ => ?_
  have hr := r.isLt
  have hd := d.isLt
  have hx := x.isLt
  rw [window2 (p := 256) (w := 128) q _ hq' r d ⟨256 + r.val, by omega⟩ ⟨128 * j.val + d.val, by omega⟩ rfl rfl,
    window2 (p := 256) (w := 128) kk _ hk' x d ⟨K + x.val, by omega⟩ ⟨128 * j.val + d.val, by omega⟩ rfl rfl, hq, hk]

/-- A head's step over the block of keys from `K`. -/
theorem headH_inv (j : Fin 2) (K : ℕ) (hK : K + 256 ≤ 4096) (hb : (b : EReal) = (bj j.val : EReal)) (mk : IVec S256x256 1)
    (hmk : ∀ (f : FVec Ideal S256x256 .f32) (r : Fin 256) (x : Fin 256), (maskH mk f (ix2 r x) : EReal) = if K + x.val < g * 512 + (256 + r.val) then f (ix2 r x) else 0)
    (qo : Fin 2 → ℕ) (hqo : qo = ![256, 128 * j.val]) (co : Fin 3 → ℕ) (hco : co = ![j.val, 256, 0])
    (ko : Fin 2 → ℕ) (hko : ko = ![K, 128 * j.val]) (hq' : ∀ a, qo a + S256x128.size a ≤ S512x256.size a)
    (hc' : ∀ a, co a + S1x256x1.size a ≤ S2x512x1.size a) (hk' : ∀ a, ko a + S256x128.size a ≤ S4096x256.size a)
    (hlate : g * 512 + 256 ≤ K) (s : St Ideal)
    (hs : HInv qr kr bj vr g j (K + 256) s) :
    HInv qr kr bj vr g j K (headH mk b tri q kk vv qo hq' co hc' ko hk' s) := by
  have hj := j.isLt
  obtain ⟨h1, h2⟩ := slab256 (fun r => zs qr kr bj j.val (256 + r.val)) (fun d t => vr t (128 * j.val + d.val)) (fun r => g * 512 + (256 + r.val)) K hK
    (k0_pay39 (VecWindow.window q qo S256x128.size hq') (VecWindow.window kk ko S256x128.size hk') b) (maskH mk) tri
    (VecWindow.window s.1 co S1x256x1.size hc') (VecWindow.window s.2 qo S256x128.size hq') (VecWindow.window vv ko S256x128.size hk')
    (headH_score qr kr bj vr b tri q kk vv hq hk hv htri j K hK hb qo hqo ko hko hq' hk') hmk htri
    (fun x d => by
      subst hko
      have hd := d.isLt
      have hx := x.isLt
      rw [window2 (p := 256) (w := 128) vv _ hk' x d ⟨K + x.val, by omega⟩ ⟨128 * j.val + d.val, by omega⟩ rfl rfl, hv])
    (fun r => by
      subst hco
      have hr := r.isLt
      rw [window3 (p := 256) s.1 _ hc' r j ⟨256 + r.val, by omega⟩ rfl rfl]
      exact (hs ⟨256 + r.val, by omega⟩).1)
    (fun r d => by
      subst hqo
      have hr := r.isLt
      have hd := d.isLt
      rw [window2 (p := 256) (w := 128) s.2 _ hq' r d ⟨256 + r.val, by omega⟩ ⟨128 * j.val + d.val, by omega⟩ rfl rfl]
      exact (hs ⟨256 + r.val, by omega⟩).2 d _ rfl)
  intro r
  have hr := r.isLt
  rcases Nat.lt_or_ge r.val 256 with hlt | hge
  · obtain ⟨a1, a2⟩ := hs r
    refine ⟨?_, fun d e he => ?_⟩
    · refine (put3_out (p := 256) s.1 co _ j r (by rw [hco]; show ¬(_ ∧ 256 ≤ r.val ∧ _); omega)).trans (a1.trans ?_)
      rw [carryAt_late _ _ _ (by omega), carryAt_late _ _ _ (by omega)]
    · refine (put2_out (p := 256) (w := 128) s.2 qo _ r e (by rw [hqo]; show ¬((256 ≤ r.val ∧ _) ∧ _); omega)).trans ((a2 d e he).trans ?_)
      rw [accAt_late _ _ _ _ (by omega), accAt_late _ _ _ _ (by omega)]
  · refine ⟨?_, fun d e he => ?_⟩
    · refine (put3_in (p := 256) s.1 co _ ⟨r.val - 256, by omega⟩ j r (by rw [hco]; rfl) (by rw [hco]; show 256 + (r.val - 256) = r.val; omega) (by rw [hco]; rfl)).trans ?_
      refine (h1 ⟨r.val - 256, by omega⟩).trans ?_
      show (carryAt (zs qr kr bj j.val (256 + (r.val - 256))) (g * 512 + (256 + (r.val - 256))) K : EReal) = _
      rw [show 256 + (r.val - 256) = r.val by omega]
    · refine (put2_in (p := 256) (w := 128) s.2 qo _ ⟨r.val - 256, by omega⟩ d r e (by rw [hqo]; show 256 + (r.val - 256) = r.val; omega) (by rw [hqo]; exact he.symm)).trans ?_
      refine (h2 ⟨r.val - 256, by omega⟩ d).trans ?_
      show accAt (zs qr kr bj j.val (256 + (r.val - 256))) _ (g * 512 + (256 + (r.val - 256))) K = _
      rw [show 256 + (r.val - 256) = r.val by omega]

/-- A head's step leaves the other head. -/
theorem headH_keep (j j' : Fin 2) (hj : j ≠ j') (K : ℕ) (mk : IVec S256x256 1)
    (qo : Fin 2 → ℕ) (hqo : qo = ![256, 128 * j.val]) (co : Fin 3 → ℕ) (hco : co = ![j.val, 256, 0]) (ko : Fin 2 → ℕ)
    (hq' : ∀ a, qo a + S256x128.size a ≤ S512x256.size a) (hc' : ∀ a, co a + S1x256x1.size a ≤ S2x512x1.size a)
    (hk' : ∀ a, ko a + S256x128.size a ≤ S4096x256.size a) (s : St Ideal) (hs : HInv qr kr bj vr g j' K s) :
    HInv qr kr bj vr g j' K (headH mk b tri q kk vv qo hq' co hc' ko hk' s) := by
  have hjv : j.val ≠ j'.val := fun h => hj (Fin.ext h)
  intro r
  obtain ⟨a1, a2⟩ := hs r
  refine ⟨?_, fun d e he => ?_⟩
  · exact (put3_out (p := 256) s.1 co _ j' r (by rw [hco]; show ¬(j.val = j'.val ∧ _); omega)).trans a1
  · refine (put2_out (p := 256) (w := 128) s.2 qo _ r e ?_).trans (a2 d e he)
    rw [hqo]
    show ¬(_ ∧ 128 * j.val ≤ e.val ∧ e.val < 128 * j.val + 128)
    have := d.isLt
    omega

end Tile

/-! ## The words of a grid point -/

theorem loop_trips : ∀ i : grid0.Coords, (k0_t1_loop i).trips = 2 * (i 2).val := by decide +kernel
theorem off1_1 : ∀ i : grid0.Coords, k0_off1 i 1#32 = ![(2 * (i 2).val + 1) * 256, 0] := by decide +kernel
theorem off1_0 : ∀ i : grid0.Coords, k0_off1 i 0#32 = ![(2 * (i 2).val) * 256, 0] := by decide +kernel
theorem off3_1 : ∀ i : grid0.Coords, k0_off3 i 1#32 = ![(2 * (i 2).val + 1) * 256, 128] := by decide +kernel
theorem off3_0 : ∀ i : grid0.Coords, k0_off3 i 0#32 = ![(2 * (i 2).val) * 256, 128] := by decide +kernel
theorem off4 : ∀ i : grid0.Coords, ∀ k : Fin (k0_t1_loop i).trips, k0_off4 i k = ![(2 * (i 2).val - 1 - k.val) * 256, 0] := by decide +kernel
theorem off6 : ∀ i : grid0.Coords, ∀ k : Fin (k0_t1_loop i).trips, k0_off6 i k = ![(2 * (i 2).val - 1 - k.val) * 256, 128] := by decide +kernel
theorem off2_0 : ∀ i : grid0.Coords, k0_off2 i 0#32 = ![2 * (i 1).val] := by decide +kernel
theorem off2_1 : ∀ i : grid0.Coords, k0_off2 i 1#32 = ![2 * (i 1).val + 1] := by decide +kernel
theorem off5_0 : ∀ i : grid0.Coords, k0_off5 i 0#32 = ![2 * (i 1).val] := by decide +kernel
theorem off5_1 : ∀ i : grid0.Coords, k0_off5 i 1#32 = ![2 * (i 1).val + 1] := by decide +kernel

theorem biasAt_val (b : Vec Ideal S16 .f32) (off : Fin 1 → ℕ) (inb) (n : ℕ) (hn : n < 16) (ho : off = ![n]) :
    biasAt b off inb = b (ix1 ⟨n, hn⟩) := by
  subst ho
  refine congrArg b (funext fun a => Fin.ext ?_)
  match a with
  | ⟨0, _⟩ => exact (by show n + 1 * 0 = n; omega)

theorem key_word0 : ∀ i : grid0.Coords, Scalar.muli (Scalar.addi (Scalar.muli (BitVec.ofNat 32 (i 2).val) 2#32) 0#32) 256#32
    = BitVec.ofNat 32 ((2 * (i 2).val) * 256) := by decide +kernel
theorem key_word1 : ∀ i : grid0.Coords, Scalar.muli (Scalar.addi (Scalar.muli (BitVec.ofNat 32 (i 2).val) 2#32) 1#32) 256#32
    = BitVec.ofNat 32 ((2 * (i 2).val + 1) * 256) := by decide +kernel
theorem row_word0 : ∀ i : grid0.Coords, Scalar.addi (Scalar.muli (BitVec.ofNat 32 (i 2).val) 512#32) 0#32
    = BitVec.ofNat 32 ((i 2).val * 512) := by decide +kernel
theorem row_word1 : ∀ i : grid0.Coords, Scalar.addi (Scalar.muli (BitVec.ofNat 32 (i 2).val) 512#32) 256#32
    = BitVec.ofNat 32 ((i 2).val * 512 + 256) := by decide +kernel

theorem i2_lt (i : grid0.Coords) : (i 2).val < 8 := (i 2).isLt

/-- The mask of the tile's first block: the keys strictly before the row. -/
theorem maskFirst_apply (i : grid0.Coords) (f : FVec Ideal S512x256 .f32) (r : Fin 512) (x : Fin 256) :
    (maskW (maskFirst i) f (ix2 r x) : EReal) = if (2 * (i 2).val) * 256 + x.val < (i 2).val * 512 + r.val then f (ix2 r x) else 0 := by
  have hi := i2_lt i
  have hr := r.isLt
  have hx := x.isLt
  have h : maskFirst i (ix2 r x) = BitVec.ofBool (decide ((2 * (i 2).val) * 256 + x.val < (i 2).val * 512 + r.val)) := by
    show IntOp.cmpi .slt (Scalar.muli (Scalar.addi (Scalar.muli (BitVec.ofNat 32 (i 2).val) 2#32) 0#32) 256#32 + BitVec.ofNat 32 (0 * 256 + x.val))
      (Scalar.addi (Scalar.muli (BitVec.ofNat 32 (i 2).val) 512#32) 0#32 + BitVec.ofNat 32 (0 * 512 + r.val)) = _
    rw [key_word0, row_word0, ← BitVec.ofNat_add, ← BitVec.ofNat_add]
    simp only [Nat.zero_mul, Nat.zero_add]
    rw [
      WordCmp.cmpi_slt_ofNat (by omega) (by omega)]
  show Scalar.select (maskFirst i (ix2 r x)) (f (ix2 r x)) (Scalar.ofBits .f32 0x00000000#32 : Ideal .f32) = _
  rw [h, WordCmp.select_decide, zero_val]

/-- The mask of the tile's last block. -/
theorem maskLast_apply (i : grid0.Coords) (f : FVec Ideal S256x256 .f32) (r x : Fin 256) :
    (maskH (k0_pay36 i) f (ix2 r x) : EReal) = if (2 * (i 2).val + 1) * 256 + x.val < (i 2).val * 512 + (256 + r.val) then f (ix2 r x) else 0 := by
  have hi := i2_lt i
  have hr := r.isLt
  have hx := x.isLt
  have h : k0_pay36 i (ix2 r x) = BitVec.ofBool (decide ((2 * (i 2).val + 1) * 256 + x.val < (i 2).val * 512 + (256 + r.val))) := by
    show IntOp.cmpi .slt (Scalar.muli (Scalar.addi (Scalar.muli (BitVec.ofNat 32 (i 2).val) 2#32) 1#32) 256#32 + BitVec.ofNat 32 (0 * 256 + x.val))
      (Scalar.addi (Scalar.muli (BitVec.ofNat 32 (i 2).val) 512#32) 256#32 + BitVec.ofNat 32 (0 * 256 + r.val)) = _
    rw [key_word1, row_word1, ← BitVec.ofNat_add, ← BitVec.ofNat_add]
    simp only [Nat.zero_mul, Nat.zero_add]
    rw [
      WordCmp.cmpi_slt_ofNat (by omega) (by omega), Nat.add_assoc]
  show Scalar.select (k0_pay36 i (ix2 r x)) (f (ix2 r x)) (Scalar.ofBits .f32 0x00000000#32 : Ideal .f32) = _
  rw [h, WordCmp.select_decide, zero_val]

section Out

variable (i : grid0.Coords) (qr kr : ℕ → ℕ → ℝ) (bj : ℕ → ℝ) (vr : ℕ → ℕ → EReal)
  (b : Vec Ideal S16 .f32) (tri : FVec Ideal S256x256 .bf16) (q : Vec Ideal S512x256 .f32) (kk vv : Vec Ideal S4096x256 .bf16)
  (hb : ∀ j : Fin 16, ∀ e : ℕ, j.val = 2 * (i 1).val + e → (b (ix1 j) : EReal) = (bj e : EReal))
  (hq : ∀ r c, (q (ix2 r c) : EReal) = (qr r.val c.val : EReal)) (hk : ∀ r c, (kk (ix2 r c) : EReal) = (kr r.val c.val : EReal))
  (hv : ∀ r c, (vv (ix2 r c) : EReal) = vr r.val c.val)
  (htri : ∀ y x : Fin 256, (tri (ix2 y x) : EReal) = if x.val < y.val then 1 else 0)

theorem i1_lt (i : grid0.Coords) : (i 1).val < 8 := (i 1).isLt

include hb in
theorem bias_e (off : Fin 1 → ℕ) (inb) (e : ℕ) (he : e < 2) (ho : off = ![2 * (i 1).val + e]) :
    (biasAt b off inb : EReal) = (bj e : EReal) := by
  have := i1_lt i
  rw [biasAt_val b off inb (2 * (i 1).val + e) (by omega) ho]
  exact hb _ e rfl

/-- Both heads have read the keys from `K` on. -/
def Both (K : ℕ) (s : St Ideal) : Prop := ∀ j : Fin 2, HInv qr kr bj vr (i 2).val j K s

theorem both_start : Both i qr kr bj vr ((2 * (i 2).val + 1) * 256 + 256) ((k0_pay34 (F := Ideal), k0_pay35 (F := Ideal)) : St Ideal) := by
  intro j r
  have hr := r.isLt
  refine ⟨?_, fun d e he => ?_⟩
  · rw [carryAt_late _ _ _ (by omega), EReal.coe_zero]
    exact zero_val
  · rw [accAt_late _ _ _ _ (by omega)]
    exact zero_val

include hb hq hk hv htri

theorem both_last (s : St Ideal) (hs : Both i qr kr bj vr ((2 * (i 2).val + 1) * 256 + 256) s) :
    Both i qr kr bj vr ((2 * (i 2).val + 1) * 256) (stepLast i b tri q kk vv s) := by
  have hi := i2_lt i
  unfold stepLast
  intro j
  match j with
  | ⟨0, _⟩ =>
    refine headH_keep qr kr bj vr _ _ tri q kk vv hq hk hv htri 1 0 (by decide) _ _ _ rfl _ rfl _ _ _ _ _ ?_
    exact headH_inv qr kr bj vr _ _ tri q kk vv hq hk hv htri 0 _ (by omega) (bias_e i bj b hb _ _ 0 (by omega) (off2_0 i)) _ (maskLast_apply i)
      _ rfl _ rfl _ (off1_1 i) _ _ _ (by omega) s (hs 0)
  | ⟨1, _⟩ =>
    refine headH_inv qr kr bj vr _ _ tri q kk vv hq hk hv htri 1 _ (by omega) (bias_e i bj b hb _ _ 1 (by omega) (off2_1 i)) _ (maskLast_apply i)
      _ rfl _ rfl _ (off3_1 i) _ _ _ (by omega) _ ?_
    exact headH_keep qr kr bj vr _ _ tri q kk vv hq hk hv htri 0 1 (by decide) _ _ _ rfl _ rfl _ _ _ _ s (hs 1)

theorem both_first (s : St Ideal) (hs : Both i qr kr bj vr ((2 * (i 2).val) * 256 + 256) s) :
    Both i qr kr bj vr ((2 * (i 2).val) * 256) (stepFirst i b tri q kk vv s) := by
  have hi := i2_lt i
  unfold stepFirst
  intro j
  match j with
  | ⟨0, _⟩ =>
    refine head_keep qr kr bj vr _ _ tri q kk vv hq hk hv htri 1 0 (by decide) _ _ _ rfl _ rfl _ _ _ _ _ ?_
    exact head_inv qr kr bj vr _ _ tri q kk vv hq hk hv htri 0 _ (by omega) (bias_e i bj b hb _ _ 0 (by omega) (off2_0 i)) _ (maskFirst_apply i)
      _ rfl _ rfl _ (off1_0 i) _ _ _ s (hs 0)
  | ⟨1, _⟩ =>
    refine head_inv qr kr bj vr _ _ tri q kk vv hq hk hv htri 1 _ (by omega) (bias_e i bj b hb _ _ 1 (by omega) (off2_1 i)) _ (maskFirst_apply i)
      _ rfl _ rfl _ (off3_0 i) _ _ _ _ ?_
    exact head_keep qr kr bj vr _ _ tri q kk vv hq hk hv htri 0 1 (by decide) _ _ _ rfl _ rfl _ _ _ _ s (hs 1)

theorem both_earlier (k : Fin (k0_t1_loop i).trips) (s : St Ideal) (hs : Both i qr kr bj vr ((2 * (i 2).val - 1 - k.val) * 256 + 256) s) :
    Both i qr kr bj vr ((2 * (i 2).val - 1 - k.val) * 256) (stepEarlier i k b tri q kk vv s) := by
  have hi := i2_lt i
  have hkk : k.val < 2 * (i 2).val := lt_of_lt_of_eq k.isLt (loop_trips i)
  have hmk : ∀ (f : FVec Ideal S512x256 .f32) (r : Fin 512) (x : Fin 256), (id f (ix2 r x) : EReal)
      = if (2 * (i 2).val - 1 - k.val) * 256 + x.val < (i 2).val * 512 + r.val then f (ix2 r x) else 0 := fun f r x => by
    have hx := x.isLt
    rw [if_pos (by omega)]
    rfl
  unfold stepEarlier
  intro j
  match j with
  | ⟨0, _⟩ =>
    refine head_keep qr kr bj vr _ _ tri q kk vv hq hk hv htri 1 0 (by decide) _ _ _ rfl _ rfl _ _ _ _ _ ?_
    exact head_inv qr kr bj vr _ _ tri q kk vv hq hk hv htri 0 _ (by omega) (bias_e i bj b hb _ _ 0 (by omega) (off5_0 i)) _ hmk
      _ rfl _ rfl _ (off4 i k) _ _ _ s (hs 0)
  | ⟨1, _⟩ =>
    refine head_inv qr kr bj vr _ _ tri q kk vv hq hk hv htri 1 _ (by omega) (bias_e i bj b hb _ _ 1 (by omega) (off5_1 i)) _ hmk
      _ rfl _ rfl _ (off6 i k) _ _ _ _ ?_
    exact head_keep qr kr bj vr _ _ tri q kk vv hq hk hv htri 0 1 (by decide) _ _ _ rfl _ rfl _ _ _ _ s (hs 1)

theorem both_loop (s : St Ideal) (hs : Both i qr kr bj vr ((2 * (i 2).val) * 256) s) (n : ℕ) (hn : n ≤ 2 * (i 2).val) :
    Both i qr kr bj vr ((2 * (i 2).val - n) * 256) (earlier i b tri q kk vv s n) := by
  induction n with
  | zero => exact hs
  | succ n ih =>
    have hlt : n < (k0_t1_loop i).trips := lt_of_lt_of_eq (by omega) (loop_trips i).symm
    rw [earlier, dif_pos hlt]
    have h := both_earlier i qr kr bj vr b tri q kk vv hb hq hk hv htri ⟨n, hlt⟩ (earlier i b tri q kk vv s n) (by
      show Both i qr kr bj vr ((2 * (i 2).val - 1 - n) * 256 + 256) _
      rw [show (2 * (i 2).val - 1 - n) * 256 + 256 = (2 * (i 2).val - n) * 256 by omega]
      exact ih (by omega))
    rw [show 2 * (i 2).val - (n + 1) = 2 * (i 2).val - 1 - n by omega]
    exact h

/-- What a grid point stores: the attention of each of its rows, in each of its two heads. -/
theorem tileOut_apply (r : Fin 512) (j : Fin 2) (d : Fin 128) (e : Fin 256) (he : e.val = 128 * j.val + d.val) :
    (tileOut i b tri q kk vv (ix2 r e) : EReal)
      = accAt (zs qr kr bj j.val r.val) (fun t => vr t (128 * j.val + d.val)) ((i 2).val * 512 + r.val) 0 := by
  have htri' : k0_pay33 (F := Ideal) tri = tri := shapeCast_self tri _
  unfold tileOut
  rw [htri', loop_trips]
  have h := both_loop i qr kr bj vr b tri q kk vv hb hq hk hv htri _
    (both_first i qr kr bj vr b tri q kk vv hb hq hk hv htri _ (by
      have := both_last i qr kr bj vr b tri q kk vv hb hq hk hv htri _ (both_start i qr kr bj vr)
      rw [show (2 * (i 2).val + 1) * 256 = (2 * (i 2).val) * 256 + 256 by omega] at this
      exact this)) (2 * (i 2).val) le_rfl
  rw [show (2 * (i 2).val - 2 * (i 2).val) * 256 = 0 by omega] at h
  exact (h j r).2 d e he

end Out

end Cert.KernelIdeal.Gen

end
-- ==== Proof.AttnSpec.lean ====
/- The scores of the attention, from the arrays' entries: batch, head, query position and key position to a real number. -/
module

public import proofs.«01_k».proof.Proof.AttnMath

@[expose] public section

noncomputable section

namespace Cert.Attn

/-- The score of query `p` against key `s` in head `h` of batch `b`: rows of the arrays are `4096 * b + position`, lanes
    `128 * h + d`. -/
def score (q k : ℕ → ℕ → ℝ) (bias : ℕ → ℝ) (b h p s : ℕ) : ℝ :=
  (∑ d : Fin 128, q (b * 4096 + p) (128 * h + d.val) * k (b * 4096 + s) (128 * h + d.val)) * (Real.sqrt 128)⁻¹ + bias h

/-- The attention of query `p` in head `h` of batch `b`, at lane `d` of the head. -/
def attention (q k : ℕ → ℕ → ℝ) (bias : ℕ → ℝ) (v : ℕ → ℕ → EReal) (b h p d : ℕ) : EReal :=
  accAt (score q k bias b h p) (fun t => v (b * 4096 + t) (128 * h + d)) p 0

end Cert.Attn

end
-- ==== Proof.AttnArray.lean ====
/- What the attention kernel's result array holds after the run: at every row and lane the stick-breaking attention of
   the arguments. Every grid point stores its tile (the module before this one); the keys and values it reads are those
   copied at the first point of its run of eight; the tiles cover the array. -/
module

public import proofs.«01_k».proof.Proof.AttnTile
public import proofs.«01_k».proof.Proof.AttnSpec
public import proofs.«01_k».proof.Proof.Gen.KernelIdeal.Value
public import Idealize.ShloMosaic.Lib.Pipeline.Value
public import Idealize.ShloMosaic.Lib.StableHlo.Run

@[expose] public section

set_option maxRecDepth 16384

noncomputable section

namespace Cert.KernelIdeal.Gen

open Cert.KernelIdeal Idealize.ShloMosaic Idealize.ShloMosaic.TcCoe Idealize.ShloMosaic.ValueIdx Idealize.SL Idealize.SL.Sem Cert.Attn
open Idealize.ShloMosaic.Pipeline (Dat)

/-! ## The grid -/

/-- A grid point's batch, pair of heads and tile of rows. -/
theorem coords_val : ∀ t : Fin cfg0.N, (grid0.coords t 0).val = t.val / 64 ∧ (grid0.coords t 1).val = t.val / 8 % 8 ∧ (grid0.coords t 2).val = t.val % 8 :=
  (by decide +kernel : ∀ t : Fin grid0.N, (grid0.coords t 0).val = t.val / 64 ∧ (grid0.coords t 1).val = t.val / 8 % 8 ∧ (grid0.coords t 2).val = t.val % 8)

theorem index0 : ∀ t : Fin cfg0.N, win0_0.index t 0 * win0_0.size 0 = 0 :=
  (by decide +kernel : ∀ t : Fin grid0.N, win0_0.index t 0 * win0_0.size 0 = 0)
theorem index1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem index2 : ∀ t : Fin cfg0.N, win0_2.index t 0 * win0_2.size 0 = t.val / 64 * 4096 + t.val % 8 * 512 ∧ win0_2.index t 1 * win0_2.size 1 = t.val / 8 % 8 * 256 :=
  (by decide +kernel : ∀ t : Fin grid0.N, win0_2.index t 0 * win0_2.size 0 = t.val / 64 * 4096 + t.val % 8 * 512 ∧ win0_2.index t 1 * win0_2.size 1 = t.val / 8 % 8 * 256)
theorem index3 : ∀ t : Fin cfg0.N, win0_3.index t 0 * win0_3.size 0 = 0 ∧ win0_3.index t 1 * win0_3.size 1 = t.val / 64 * 4096 ∧ win0_3.index t 2 * win0_3.size 2 = t.val / 8 % 8 * 256 :=
  (by decide +kernel : ∀ t : Fin grid0.N, win0_3.index t 0 * win0_3.size 0 = 0 ∧ win0_3.index t 1 * win0_3.size 1 = t.val / 64 * 4096 ∧ win0_3.index t 2 * win0_3.size 2 = t.val / 8 % 8 * 256)
theorem index4 : ∀ t : Fin cfg0.N, win0_4.index t 0 * win0_4.size 0 = 0 ∧ win0_4.index t 1 * win0_4.size 1 = t.val / 64 * 4096 ∧ win0_4.index t 2 * win0_4.size 2 = t.val / 8 % 8 * 256 :=
  (by decide +kernel : ∀ t : Fin grid0.N, win0_4.index t 0 * win0_4.size 0 = 0 ∧ win0_4.index t 1 * win0_4.size 1 = t.val / 64 * 4096 ∧ win0_4.index t 2 * win0_4.size 2 = t.val / 8 % 8 * 256)
theorem index5 : ∀ t : Fin cfg0.N, win0_5.index t 0 * win0_5.size 0 = t.val / 64 * 4096 + t.val % 8 * 512 ∧ win0_5.index t 1 * win0_5.size 1 = t.val / 8 % 8 * 256 :=
  (by decide +kernel : ∀ t : Fin grid0.N, win0_5.index t 0 * win0_5.size 0 = t.val / 64 * 4096 + t.val % 8 * 512 ∧ win0_5.index t 1 * win0_5.size 1 = t.val / 8 % 8 * 256)
theorem xsize5 : ∀ t : Fin cfg0.N, win0_5.xsize (grid0.coords t) 0 = 512 ∧ win0_5.xsize (grid0.coords t) 1 = 256 :=
  (by decide +kernel : ∀ t : Fin grid0.N, win0_5.xsize (grid0.coords t) 0 = 512 ∧ win0_5.xsize (grid0.coords t) 1 = 256)

theorem point_lt (t : Fin cfg0.N) : t.val < 128 := lt_of_lt_of_eq t.isLt N_0

/-! ## The triangle -/

variable (m : (ℓ : Loc nD τ sig) → Buf (Elt Ideal) ℓ) (c : Dev nD)

/-- The triangle as the host computes it. -/
def triHost : Vec Ideal S256x256 .bf16 :=
  select (cmpi .sge (addi (iotaInDim S256x256 32 0) (broadcastInDim S256x256 ![] bcast_S_S256x256 (constantI S_ 32 4294967295#32))) (iotaInDim S256x256 32 1))
    (broadcastInDim S256x256 ![] bcast_S_S256x256 (constant (F := Ideal) S_ .bf16 0x3F80#16))
    (broadcastInDim S256x256 ![] bcast_S_S256x256 (constant (F := Ideal) S_ .bf16 0x0000#16))

theorem V_main_v1 : V m c main_v1 = triHost := by
  show StableHlo.after (List.flatten [hostOps0, hostOps0_1]) _ (Proc.devRef .tc main_v1) = _
  simp only [hostOps0, hostOps0_1, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem tri_word (y x : Fin 256) :
    IntOp.cmpi .sge (BitVec.ofNat 32 y.val + 4294967295#32) (BitVec.ofNat 32 x.val) = BitVec.ofBool (decide (x.val < y.val)) := by
  have hy := y.isLt
  have hx := x.isLt
  rcases Nat.eq_zero_or_pos y.val with h | h
  · rw [h]
    have h0 : ∀ x : Fin 256, IntOp.cmpi .sge (BitVec.ofNat 32 0 + 4294967295#32) (BitVec.ofNat 32 x.val) = BitVec.ofBool (decide (x.val < 0)) := by decide +kernel
    exact h0 x
  · have e : BitVec.ofNat 32 y.val + 4294967295#32 = BitVec.ofNat 32 (y.val - 1) := by
      apply BitVec.eq_of_toNat_eq
      rw [BitVec.toNat_add, BitVec.toNat_ofNat, BitVec.toNat_ofNat, BitVec.toNat_ofNat]
      omega
    rw [e, WordCmp.cmpi_sge_ofNat (by omega) (by omega)]
    congr 1
    exact decide_eq_decide.mpr (by omega)

theorem one_bf16 : (Ideal.ofBits .bf16 0x3F80#16 : EReal) = 1 := by
  simp [Ideal.ofBits, Ideal.ieee]
  rw [← EReal.coe_mul]
  norm_num

theorem zero_bf16 : (Ideal.ofBits .bf16 0x0000#16 : EReal) = 0 := by
  simp [Ideal.ofBits, Ideal.ieee]

/-- The triangle: one strictly under the diagonal. -/
theorem triHost_apply (y x : Fin 256) : (triHost (ix2 y x) : EReal) = if x.val < y.val then 1 else 0 := by
  show Scalar.select (IntOp.cmpi .sge (BitVec.ofNat 32 y.val + 4294967295#32) (BitVec.ofNat 32 x.val)) (Ideal.ofBits .bf16 0x3F80#16) (Ideal.ofBits .bf16 0x0000#16) = _
  rw [tri_word, WordCmp.select_decide, one_bf16, zero_bf16]

/-! ## The blocks -/

theorem bias_blk (t : Fin cfg0.N) (j : Fin 16) :
    (iblk m c 0 t : Vec Ideal S16 .f32) (ix1 j) = (m ((c : Thread nD τ).loc main_arg3) : Vec Ideal S16 .f32) (ix1 j) := by
  rw [← V_main_arg3 m c]
  refine congrArg (V m c main_arg3 : Vec Ideal S16 .f32) (funext fun a => Fin.ext ?_)
  match a with
  | ⟨0, _⟩ => exact (by show win0_0.index t 0 * win0_0.size 0 + 1 * j.val = j.val; rw [index0]; omega)

theorem tri_read (t : Fin cfg0.N) (f : Vec Ideal S256x256 .bf16) (y x : Fin 256) :
    (((cfg0.win 1).blk t).view.read (Elt Ideal) f : Vec Ideal S256x256 .bf16) (ix2 y x) = f (ix2 y x) := by
  refine congrArg f (funext fun a => Fin.ext ?_)
  match a with
  | ⟨0, _⟩ => exact (by show win0_1.index t 0 * win0_1.size 0 + 1 * y.val = y.val; rw [(index1 t).1]; omega)
  | ⟨1, _⟩ => exact (by show win0_1.index t 1 * win0_1.size 1 + 1 * x.val = x.val; rw [(index1 t).2]; omega)

theorem tri_blk (t : Fin cfg0.N) (y x : Fin 256) :
    (iblk m c 1 t : Vec Ideal S256x256 .bf16) (ix2 y x) = triHost (ix2 y x) := by
  have h : V m c (Pipeline.arrRef spec0 1) = triHost := V_main_v1 m c
  unfold iblk
  rw [h]
  exact tri_read t triHost y x

theorem q_blk (t : Fin cfg0.N) (r : Fin 512) (e : Fin 256) (R : Fin 8192) (C : Fin 2048)
    (hR : R.val = t.val / 64 * 4096 + t.val % 8 * 512 + r.val) (hC : C.val = t.val / 8 % 8 * 256 + e.val) :
    (iblk m c 2 t : Vec Ideal S512x256 .f32) (ix2 r e) = (m ((c : Thread nD τ).loc main_arg0) : Vec Ideal S8192x2048 .f32) (ix2 R C) := by
  rw [← V_main_arg0 m c]
  refine congrArg (V m c main_arg0 : Vec Ideal S8192x2048 .f32) (funext fun a => Fin.ext ?_)
  match a with
  | ⟨0, _⟩ => exact (by show win0_2.index t 0 * win0_2.size 0 + 1 * r.val = R.val; rw [(index2 t).1]; omega)
  | ⟨1, _⟩ => exact (by show win0_2.index t 1 * win0_2.size 1 + 1 * e.val = C.val; rw [(index2 t).2]; omega)

theorem k_blk (t : Fin cfg0.N) (r : Fin 4096) (e : Fin 256) (R : Fin 8192) (C : Fin 2048)
    (hR : R.val = t.val / 64 * 4096 + r.val) (hC : C.val = t.val / 8 % 8 * 256 + e.val) :
    (iblk m c 3 t : Vec Ideal S1x4096x256 .f32) (ix3 (0 : Fin 1) r e) = (m ((c : Thread nD τ).loc main_arg1) : Vec Ideal S1x8192x2048 .f32) (ix3 (0 : Fin 1) R C) := by
  rw [← V_main_arg1 m c]
  refine congrArg (V m c main_arg1 : Vec Ideal S1x8192x2048 .f32) (funext fun a => Fin.ext ?_)
  match a with
  | ⟨0, _⟩ => exact (by show win0_3.index t 0 * win0_3.size 0 + 1 * 0 = 0; rw [(index3 t).1])
  | ⟨1, _⟩ => exact (by show win0_3.index t 1 * win0_3.size 1 + 1 * r.val = R.val; rw [(index3 t).2.1]; omega)
  | ⟨2, _⟩ => exact (by show win0_3.index t 2 * win0_3.size 2 + 1 * e.val = C.val; rw [(index3 t).2.2]; omega)

theorem v_blk (t : Fin cfg0.N) (r : Fin 4096) (e : Fin 256) (R : Fin 8192) (C : Fin 2048)
    (hR : R.val = t.val / 64 * 4096 + r.val) (hC : C.val = t.val / 8 % 8 * 256 + e.val) :
    (iblk m c 4 t : Vec Ideal S1x4096x256 .f32) (ix3 (0 : Fin 1) r e) = (m ((c : Thread nD τ).loc main_arg2) : Vec Ideal S1x8192x2048 .f32) (ix3 (0 : Fin 1) R C) := by
  rw [← V_main_arg2 m c]
  refine congrArg (V m c main_arg2 : Vec Ideal S1x8192x2048 .f32) (funext fun a => Fin.ext ?_)
  match a with
  | ⟨0, _⟩ => exact (by show win0_4.index t 0 * win0_4.size 0 + 1 * 0 = 0; rw [(index4 t).1])
  | ⟨1, _⟩ => exact (by show win0_4.index t 1 * win0_4.size 1 + 1 * r.val = R.val; rw [(index4 t).2.1]; omega)
  | ⟨2, _⟩ => exact (by show win0_4.index t 2 * win0_4.size 2 + 1 * e.val = C.val; rw [(index4 t).2.2]; omega)

/-! ## The copied keys and values -/

theorem pay31_apply (x : Vec Ideal S1x4096x256 .f32) (r : Fin 4096) (e : Fin 256) : (k0_pay31 (F := Ideal) x (ix2 r e) : EReal) = x (ix3 (0 : Fin 1) r e) := by
  unfold k0_pay31
  rw [shapeCast_self]
  show (shapeCast S4096x256 x shapeCasts_S1x4096x256_S4096x256 (ix2 r e) : EReal) = _
  exact shapeCast_apply _ _ _ _ (by rw [Shape.rowMajor_val_three, Shape.rowMajor_val_two]; show _ = _; simp [ix2, ix3])

theorem pay32_apply (x : Vec Ideal S1x4096x256 .f32) (r : Fin 4096) (e : Fin 256) : (k0_pay32 (F := Ideal) x (ix2 r e) : EReal) = x (ix3 (0 : Fin 1) r e) :=
  pay31_apply x r e

set_option backward.isDefEq.respectTransparency false in
/-- What a first point of a run copies of the keys. -/
theorem run_A_copy0   (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : cond0_0 i)    (x0 : Vec Ideal S16 .f32) (x1 : Vec Ideal S256x256 .bf16) (x2 : Vec Ideal S512x256 .f32) (x3 : Vec Ideal S1x4096x256 .f32) (x4 : Vec Ideal S1x4096x256 .f32)  :
    (kernelRun0_A (F := Ideal) c i arg3 harg3 arg4 harg4 arg5 harg5 arg6 harg6 arg7 harg7 arg8 harg8 arg9 harg9 arg10 harg10 arg11 harg11 arg12 harg12 hc0 x0 x1 x2 x3 x4).2.1
      = [⟨Rect.unit ![0, 0] S4096x256.size inb_S4096x256_S4096x256_0_0, k0_pay31 x3⟩] := by
  have e3 := harg6.read_unread (Val := Elt Ideal) x3
  have e4 := harg7.read_unread (Val := Elt Ideal) x4
  unfold kernelRun0_A
  dsimp only
  sl_unfold_words
  simp only [readAt_window, e3, e4]
  repeat rw [full_rows]

set_option backward.isDefEq.respectTransparency false in
/-- What a first point of a run copies of the values. -/
theorem run_A_copy1   (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : cond0_0 i)    (x0 : Vec Ideal S16 .f32) (x1 : Vec Ideal S256x256 .bf16) (x2 : Vec Ideal S512x256 .f32) (x3 : Vec Ideal S1x4096x256 .f32) (x4 : Vec Ideal S1x4096x256 .f32)  :
    (kernelRun0_A (F := Ideal) c i arg3 harg3 arg4 harg4 arg5 harg5 arg6 harg6 arg7 harg7 arg8 harg8 arg9 harg9 arg10 harg10 arg11 harg11 arg12 harg12 hc0 x0 x1 x2 x3 x4).2.2.1
      = [⟨Rect.unit ![0, 0] S4096x256.size inb_S4096x256_S4096x256_0_0, k0_pay32 x4⟩] := by
  have e3 := harg6.read_unread (Val := Elt Ideal) x3
  have e4 := harg7.read_unread (Val := Elt Ideal) x4
  unfold kernelRun0_A
  dsimp only
  sl_unfold_words
  simp only [readAt_window, e3, e4]
  repeat rw [full_rows]

theorem copied0   (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : cond0_0 i)    (x0 : Vec Ideal S16 .f32) (x1 : Vec Ideal S256x256 .bf16) (x2 : Vec Ideal S512x256 .f32) (x3 : Vec Ideal S1x4096x256 .f32) (x4 : Vec Ideal S1x4096x256 .f32)  :
    sout0_A_0 (F := Ideal) c i arg3 harg3 arg4 harg4 arg5 harg5 arg6 harg6 arg7 harg7 arg8 harg8 arg9 harg9 arg10 harg10 arg11 harg11 arg12 harg12 hc0 x0 x1 x2 x3 x4 = k0_pay31 x3 := by
  unfold sout0_A_0
  rw [run_A_copy0]
  exact View.read_writes_full _ _ _ _ _

theorem copied1   (c : Dev nD) (i : grid0.Coords) (arg3 : Memref sig .tc .smem S16 .f32) (harg3 : arg3.IsWhole) (arg4 : Memref sig .tc .vmem S256x256 .bf16) (harg4 : arg4.IsWhole) (arg5 : Memref sig .tc .vmem S512x256 .f32) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S512x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x512x1 .f32) (harg11 : arg11.IsWhole) (arg12 : Memref sig .tc .vmem S512x256 .f32) (harg12 : arg12.IsWhole) (hc0 : cond0_0 i)    (x0 : Vec Ideal S16 .f32) (x1 : Vec Ideal S256x256 .bf16) (x2 : Vec Ideal S512x256 .f32) (x3 : Vec Ideal S1x4096x256 .f32) (x4 : Vec Ideal S1x4096x256 .f32)  :
    sout0_A_1 (F := Ideal) c i arg3 harg3 arg4 harg4 arg5 harg5 arg6 harg6 arg7 harg7 arg8 harg8 arg9 harg9 arg10 harg10 arg11 harg11 arg12 harg12 hc0 x0 x1 x2 x3 x4 = k0_pay32 x4 := by
  unfold sout0_A_1
  rw [run_A_copy1]
  exact View.read_writes_full _ _ _ _ _

/-- After any point the copied keys and values are those of the first point of its run of eight. -/
theorem copies (n : ℕ) : ∀ (t t₀ : Fin cfg0.N), t.val = n → t₀.val = 8 * (n / 8) →
    (outsAt0 m c t.val t.isLt).2.1 = k0_pay31 (iblk m c 3 t₀) ∧ (outsAt0 m c t.val t.isLt).2.2 = k0_pay32 (iblk m c 4 t₀) := by
  induction n using Nat.strong_induction_on with
  | _ n ih =>
    intro t t₀ htn ht
    by_cases h0 : t.val % 8 = 0
    · obtain rfl : t₀ = t := Fin.ext (by omega)
      rw [outsAt0_A m c t₀ h0]
      dsimp only
      rw [copied0, copied1]
      exact ⟨rfl, rfl⟩
    · have h := ih (n - 1) (by omega) ⟨t.val - 1, Nat.lt_of_le_of_lt (Nat.sub_le _ _) t.isLt⟩ t₀ (by show t.val - 1 = n - 1; omega) (by omega)
      rw [outsAt0_B m c t h0]
      exact h

/-- What a point writes back: its tile, over the copies of its run. -/
theorem flushed_tile (t : Fin cfg0.N) : ∃ (h : 8 * (t.val / 8) < cfg0.N),
    (dats m 0 c).flushed 5 t = (cfg0.win 5).cut (grid0.coords t)
      (tileOut (grid0.coords t) (iblk m c 0 t) (iblk m c 1 t) (iblk m c 2 t)
        (k0_pay31 (iblk m c 3 ⟨8 * (t.val / 8), h⟩)) (k0_pay32 (iblk m c 4 ⟨8 * (t.val / 8), h⟩))) := by
  have hN := point_lt t
  have h : 8 * (t.val / 8) < cfg0.N := by have := t.isLt; omega
  refine ⟨h, ?_⟩
  by_cases h0 : t.val % 8 = 0
  · have et : (⟨8 * (t.val / 8), h⟩ : Fin cfg0.N) = t := Fin.ext (by show 8 * (t.val / 8) = t.val; omega)
    rw [et, Value.flushed5_A m c t h0]
    unfold out0_A_5
    rw [run_A]
    refine congrArg ((cfg0.win 5).cut (grid0.coords t)) ?_
    exact View.read_writes_full _ _ _ _ _
  · rw [Value.flushed5_B m c t h0]
    unfold out0_B_5
    rw [run_B]
    refine congrArg ((cfg0.win 5).cut (grid0.coords t)) ?_
    refine (View.read_writes_full _ _ _ _ _).trans ?_
    obtain ⟨a, b⟩ := copies m c (t.val - 1) ⟨t.val - 1, Nat.lt_of_le_of_lt (Nat.sub_le _ _) t.isLt⟩ ⟨8 * (t.val / 8), h⟩ rfl
      (by show 8 * (t.val / 8) = 8 * ((t.val - 1) / 8); omega)
    dsimp only at a b
    rw [a, b]

/-! ## The array -/

section Final

variable (qR kR : ℕ → ℕ → ℝ) (bR : ℕ → ℝ) (vR : ℕ → ℕ → EReal)
  (hq : ∀ r c', ((m ((c : Thread nD τ).loc main_arg0) : Vec Ideal S8192x2048 .f32) (ix2 r c') : EReal) = (qR r.val c'.val : EReal))
  (hk : ∀ r c', ((m ((c : Thread nD τ).loc main_arg1) : Vec Ideal S1x8192x2048 .f32) (ix3 (0 : Fin 1) r c') : EReal) = (kR r.val c'.val : EReal))
  (hv : ∀ r c', ((m ((c : Thread nD τ).loc main_arg2) : Vec Ideal S1x8192x2048 .f32) (ix3 (0 : Fin 1) r c') : EReal) = vR r.val c'.val)
  (hb : ∀ j, ((m ((c : Thread nD τ).loc main_arg3) : Vec Ideal S16 .f32) (ix1 j) : EReal) = (bR j.val : EReal))

/-- The attention as an array. -/
def attnArr : Vec Ideal S8192x2048 .bf16 := fun i =>
  attention qR kR bR vR ((i 0).val / 4096) ((i 1).val / 128) ((i 0).val % 4096) ((i 1).val % 128)

include hq hk hv hb

/-- An entry of a point's tile is the attention at its place in the array. -/
theorem tile_entry (t : Fin cfg0.N) (h : 8 * (t.val / 8) < cfg0.N) (r : Fin 512) (e : Fin 256) (R : Fin 8192) (C : Fin 2048)
    (hR : R.val = t.val / 64 * 4096 + t.val % 8 * 512 + r.val) (hC : C.val = t.val / 8 % 8 * 256 + e.val) :
    (tileOut (F := Ideal) (grid0.coords t) (iblk m c 0 t) (iblk m c 1 t) (iblk m c 2 t)
        (k0_pay31 (iblk m c 3 ⟨8 * (t.val / 8), h⟩)) (k0_pay32 (iblk m c 4 ⟨8 * (t.val / 8), h⟩)) (ix2 r e) : EReal)
      = attnArr qR kR bR vR (ix2 R C) := by
  have ht := point_lt t
  have hr := r.isLt
  have he := e.isLt
  obtain ⟨g0, g1, g2⟩ := coords_val t
  rw [tileOut_apply (grid0.coords t) (fun r' e' => qR (t.val / 64 * 4096 + t.val % 8 * 512 + r') (t.val / 8 % 8 * 256 + e'))
    (fun s e' => kR (t.val / 64 * 4096 + s) (t.val / 8 % 8 * 256 + e')) (fun j => bR (2 * (t.val / 8 % 8) + j))
    (fun s e' => vR (t.val / 64 * 4096 + s) (t.val / 8 % 8 * 256 + e')) _ _ _ _ _
    (fun j e' hj => by rw [bias_blk, hb, hj, g1])
    (fun r' e' => by
      have := r'.isLt
      have := e'.isLt
      rw [q_blk m c t r' e' ⟨t.val / 64 * 4096 + t.val % 8 * 512 + r'.val, by omega⟩ ⟨t.val / 8 % 8 * 256 + e'.val, by omega⟩ rfl rfl, hq])
    (fun s e' => by
      have := s.isLt
      have := e'.isLt
      rw [pay31_apply, k_blk m c _ s e' ⟨t.val / 64 * 4096 + s.val, by omega⟩ ⟨t.val / 8 % 8 * 256 + e'.val, by omega⟩
        (by show t.val / 64 * 4096 + s.val = 8 * (t.val / 8) / 64 * 4096 + s.val; omega) (by show t.val / 8 % 8 * 256 + e'.val = 8 * (t.val / 8) / 8 % 8 * 256 + e'.val; omega), hk])
    (fun s e' => by
      have := s.isLt
      have := e'.isLt
      rw [pay32_apply, v_blk m c _ s e' ⟨t.val / 64 * 4096 + s.val, by omega⟩ ⟨t.val / 8 % 8 * 256 + e'.val, by omega⟩
        (by show t.val / 64 * 4096 + s.val = 8 * (t.val / 8) / 64 * 4096 + s.val; omega) (by show t.val / 8 % 8 * 256 + e'.val = 8 * (t.val / 8) / 8 % 8 * 256 + e'.val; omega), hv])
    (fun y x => by rw [tri_blk, triHost_apply])
    r ⟨e.val / 128, by omega⟩ ⟨e.val % 128, by omega⟩ e (by show e.val = 128 * (e.val / 128) + e.val % 128; omega)]
  show _ = attention qR kR bR vR (R.val / 4096) (C.val / 128) (R.val % 4096) (C.val % 128)
  have e1 : R.val / 4096 = t.val / 64 := by omega
  have e2 : C.val / 128 = 2 * (t.val / 8 % 8) + e.val / 128 := by omega
  have e3 : R.val % 4096 = t.val % 8 * 512 + r.val := by omega
  have e4 : C.val % 128 = e.val % 128 := by omega
  rw [e1, e2, e3, e4, g2, attention]
  have hcol : ∀ d, t.val / 8 % 8 * 256 + (128 * (e.val / 128) + d) = 128 * (2 * (t.val / 8 % 8) + e.val / 128) + d := fun d => by omega
  have hz : zs (fun r' e' => qR (t.val / 64 * 4096 + t.val % 8 * 512 + r') (t.val / 8 % 8 * 256 + e'))
      (fun s e' => kR (t.val / 64 * 4096 + s) (t.val / 8 % 8 * 256 + e')) (fun j => bR (2 * (t.val / 8 % 8) + j)) (e.val / 128) r.val
      = score qR kR bR (t.val / 64) (2 * (t.val / 8 % 8) + e.val / 128) (t.val % 8 * 512 + r.val) := by
    funext s
    unfold zs score
    simp only [hcol, Nat.add_assoc]
  have hvv : (fun s => vR (t.val / 64 * 4096 + s) (t.val / 8 % 8 * 256 + (128 * (e.val / 128) + e.val % 128)))
      = fun s => vR (t.val / 64 * 4096 + s) (128 * (2 * (t.val / 8 % 8) + e.val / 128) + e.val % 128) := by
    funext s
    rw [hcol]
  show accAt (zs _ _ _ (e.val / 128) r.val) (fun s => vR (t.val / 64 * 4096 + s) (t.val / 8 % 8 * 256 + (128 * (e.val / 128) + e.val % 128))) _ 0 = _
  rw [hz, hvv]

/-- What a point writes back is its block of the attention. -/
theorem flushed_eq (t : Fin cfg0.N) :
    (dats m 0 c).flushed 5 t = (win0_5.blk t).view.read (Elt Ideal) (attnArr qR kR bR vR) := by
  have ht := point_lt t
  obtain ⟨h, e⟩ := flushed_tile m c t
  rw [e]
  funext i
  have h0 : (i 0).val < 512 := lt_of_lt_of_eq (i 0).isLt (xsize5 t).1
  have h1 : (i 1).val < 256 := lt_of_lt_of_eq (i 1).isLt (xsize5 t).2
  refine Eq.trans (congrArg (tileOut (F := Ideal) (grid0.coords t) (iblk m c 0 t) (iblk m c 1 t) (iblk m c 2 t)
        (k0_pay31 (iblk m c 3 ⟨8 * (t.val / 8), h⟩)) (k0_pay32 (iblk m c 4 ⟨8 * (t.val / 8), h⟩))) (funext fun a => Fin.ext ?_))
    ((tile_entry m c qR kR bR vR hq hk hv hb t h ⟨(i 0).val, h0⟩ ⟨(i 1).val, h1⟩ ⟨t.val / 64 * 4096 + t.val % 8 * 512 + (i 0).val, by omega⟩
      ⟨t.val / 8 % 8 * 256 + (i 1).val, by omega⟩ rfl rfl).trans (congrArg (attnArr qR kR bR vR) (funext fun a => Fin.ext ?_)))
  · match a with
    | ⟨0, _⟩ => rfl
    | ⟨1, _⟩ => rfl
  · match a with
    | ⟨0, _⟩ => exact (by show t.val / 64 * 4096 + t.val % 8 * 512 + (i 0).val = win0_5.index t 0 * win0_5.size 0 + 1 * (i 0).val; rw [(index5 t).1]; omega)
    | ⟨1, _⟩ => exact (by show t.val / 8 % 8 * 256 + (i 1).val = win0_5.index t 1 * win0_5.size 1 + 1 * (i 1).val; rw [(index5 t).2]; omega)

omit hq hk hv hb

/-- The rows and lanes of a point's block. -/
theorem mem_blk (t : Fin cfg0.N) (i : S8192x2048.Idx) :
    i ∈ ((cfg0.win 5).blk t).view.set ↔ (t.val / 64 * 4096 + t.val % 8 * 512 ≤ (i 0 : Nat) ∧ (i 0 : Nat) < t.val / 64 * 4096 + t.val % 8 * 512 + 512)
      ∧ t.val / 8 % 8 * 256 ≤ (i 1 : Nat) ∧ (i 1 : Nat) < t.val / 8 % 8 * 256 + 256 := by
  show i ∈ ((View.whole main_v2).slice (win0_5.rect t)).set ↔ _
  rw [View.set_slice_whole, Rect.mem_set_unit]
  obtain ⟨e0, e1⟩ := index5 t
  obtain ⟨x0, x1⟩ := xsize5 t
  refine ⟨fun h => ?_, fun h a => ?_⟩
  · have a0 : win0_5.index t 0 * win0_5.size 0 ≤ (i 0 : Nat) ∧ (i 0 : Nat) < win0_5.index t 0 * win0_5.size 0 + win0_5.xsize (grid0.coords t) 0 := h 0
    have a1 : win0_5.index t 1 * win0_5.size 1 ≤ (i 1 : Nat) ∧ (i 1 : Nat) < win0_5.index t 1 * win0_5.size 1 + win0_5.xsize (grid0.coords t) 1 := h 1
    rw [e0, x0] at a0
    rw [e1, x1] at a1
    exact ⟨a0, a1⟩
  · match a with
    | ⟨0, _⟩ => show win0_5.index t 0 * win0_5.size 0 ≤ (i 0 : Nat) ∧ (i 0 : Nat) < win0_5.index t 0 * win0_5.size 0 + win0_5.xsize (grid0.coords t) 0
                rw [e0, x0]; exact h.1
    | ⟨1, _⟩ => show win0_5.index t 1 * win0_5.size 1 ≤ (i 1 : Nat) ∧ (i 1 : Nat) < win0_5.index t 1 * win0_5.size 1 + win0_5.xsize (grid0.coords t) 1
                rw [e1, x1]; exact h.2

/-- The blocks cover the array. -/
theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 128 := N_0
  refine ⟨⟨(i 0).val / 4096 * 64 + (i 1).val / 256 * 8 + (i 0).val % 4096 / 512, by omega⟩, flush0_5 _, ?_⟩
  rw [mem_blk]
  dsimp only
  refine ⟨⟨?_, ?_⟩, ?_, ?_⟩ <;> omega

include hq hk hv hb

/-- After the run the result array is the attention. -/
theorem final : (dats m 0 c).arrAt 5 cfg0.N = attnArr qR kR bR vR :=
  (dats m 0 c).arrAt_eq_of_cover 5 (attnArr qR kR bR vR) (fun t _ => flushed_eq m c qR kR bR vR hq hk hv hb t) cover

end Final

end Cert.KernelIdeal.Gen

end
-- ==== Proof.AttnRef.lean ====
/- What the reference computes: entry by entry, the stick-breaking attention. -/
module

public import proofs.«01_k».proof.Proof.AttnSpec
public import proofs.«01_k».proof.Proof.Gen.ReferenceIdeal.Read
public import Idealize.ShloMosaic.Lib.WordCmp

@[expose] public section

set_option maxRecDepth 16384

noncomputable section

namespace Cert.ReferenceIdeal.Read

open Cert.ReferenceIdeal Cert.ReferenceIdeal.Gen Idealize.ShloMosaic Idealize.ShloMosaic.ValueIdx Cert.Attn

/-- A left fold of sums is the first value and the sum of the list. -/
theorem foldl_sum {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- One window's positions are the 4096 positions along the keys. -/
def winEquiv : Fin 4096 ≃ (⟨4, ![1, 1, 1, 4096]⟩ : Shape).Idx where
  toFun k := ix4 (0 : Fin 1) (0 : Fin 1) (0 : Fin 1) k
  invFun w := w 3
  left_inv _ := rfl
  right_inv w := by
    refine (congrArg₂ (fun (x : Fin 1) (y : Fin 1) => ix4 x y (0 : Fin 1) (w 3)) (Subsingleton.elim (0 : Fin 1) (w 0)) (Subsingleton.elim (0 : Fin 1) (w 1))).trans ?_
    refine (congrArg (fun x : Fin 1 => ix4 (w 0) (w 1) x (w 3)) (Subsingleton.elim (0 : Fin 1) (w 2))).trans ?_
    exact (eq_ix4 w).symm

/-- One term of a window's sum: the entry the window's position `w` reads, zero outside the array. -/
def winTerm {s : Shape} (window strides lo hi : Fin s.rank → ℕ) {t : Shape} (h : s.ReduceWindows window strides lo hi t)
    (x : s.Idx → EReal) (i : t.Idx) (w : (⟨s.rank, window⟩ : Shape).Idx) : EReal :=
  if hin : ∀ a, lo a ≤ (i (a.cast h.1.symm)).val * strides a + (w a).val ∧ (i (a.cast h.1.symm)).val * strides a + (w a).val - lo a < s.size a
    then x (fun a => ⟨(i (a.cast h.1.symm)).val * strides a + (w a).val - lo a, (hin a).2⟩) else 0

/-- A window's sum is the sum of its terms. -/
theorem window_sum {s : Shape} (window strides lo hi : Fin s.rank → ℕ) {t : Shape} (h : s.ReduceWindows window strides lo hi t)
    (x : s.Idx → EReal) (i : t.Idx) :
    Ideal.hostReduceWindowAdd window strides lo hi h x 0 i = ∑ w : (⟨s.rank, window⟩ : Shape).Idx, winTerm window strides lo hi h x i w := by
  have h1 : Ideal.hostReduceWindowAdd window strides lo hi h x 0 i
      = ((List.finRange (⟨s.rank, window⟩ : Shape).numel).foldl (fun r n => r + winTerm window strides lo hi h x i ((⟨s.rank, window⟩ : Shape).rowMajor.symm n)) 0 : EReal) := by
    unfold Ideal.hostReduceWindowAdd Host.reduceWindow winTerm
    dsimp only
    exact congrArg (fun f : EReal → Fin (⟨s.rank, window⟩ : Shape).numel → EReal => List.foldl f 0 (List.finRange (⟨s.rank, window⟩ : Shape).numel))
      (funext fun r => funext fun n => congrArg (fun u : EReal => r + u) (dite_congr rfl (fun _ => rfl) (fun _ => rfl)))
  rw [h1, foldl_sum, zero_add, ← Fin.sum_univ_def, Equiv.sum_comp (⟨s.rank, window⟩ : Shape).rowMajor.symm (winTerm window strides lo hi h x i)]

theorem winTerm_apply (x : S2x16x4096x4096.Idx → EReal)
    (h : S2x16x4096x4096.ReduceWindows ![1, 1, 1, 4096] ![1, 1, 1, 1] ![0, 0, 0, 0] ![0, 0, 0, 4095] S2x16x4096x4096)
    (b : Fin 2) (e : Fin 16) (q s : Fin 4096) (X : ℕ → EReal) (hX : ∀ u : Fin 4096, x (ix4 b e q u) = X u.val) (k : Fin 4096) :
    winTerm ![1, 1, 1, 4096] ![1, 1, 1, 1] ![0, 0, 0, 0] ![0, 0, 0, 4095] h x (ix4 b e q s) (winEquiv k) = if s.val + k.val < 4096 then X (s.val + k.val) else 0 := by
  have hb := b.isLt
  have he := e.isLt
  have hq := q.isLt
  unfold winTerm
  by_cases hlt : s.val + k.val < 4096
  · rw [if_pos hlt]
    refine (dif_pos fun a => ?_).trans ((congrArg x (funext fun a => Fin.ext ?_)).trans (hX ⟨s.val + k.val, hlt⟩))
    · match a with
      | ⟨0, _⟩ => exact (by show 0 ≤ b.val * 1 + 0 ∧ b.val * 1 + 0 - 0 < 2; omega)
      | ⟨1, _⟩ => exact (by show 0 ≤ e.val * 1 + 0 ∧ e.val * 1 + 0 - 0 < 16; omega)
      | ⟨2, _⟩ => exact (by show 0 ≤ q.val * 1 + 0 ∧ q.val * 1 + 0 - 0 < 4096; omega)
      | ⟨3, _⟩ => exact (by show 0 ≤ s.val * 1 + k.val ∧ s.val * 1 + k.val - 0 < 4096; omega)
    · match a with
      | ⟨0, _⟩ => exact (by show b.val * 1 + 0 - 0 = b.val; omega)
      | ⟨1, _⟩ => exact (by show e.val * 1 + 0 - 0 = e.val; omega)
      | ⟨2, _⟩ => exact (by show q.val * 1 + 0 - 0 = q.val; omega)
      | ⟨3, _⟩ => exact (by show s.val * 1 + k.val - 0 = s.val + k.val; omega)
  · rw [if_neg hlt]
    refine dif_neg fun hall => hlt ?_
    have h3 : 0 ≤ s.val * 1 + k.val ∧ s.val * 1 + k.val - 0 < 4096 := hall 3
    omega

/-- The reversed running sum along the keys: at each key, the sum from it on. -/
theorem revCumsum (x : S2x16x4096x4096.Idx → EReal)
    (h : S2x16x4096x4096.ReduceWindows ![1, 1, 1, 4096] ![1, 1, 1, 1] ![0, 0, 0, 0] ![0, 0, 0, 4095] S2x16x4096x4096)
    (b : Fin 2) (e : Fin 16) (q s : Fin 4096) (X : ℕ → EReal) (hX : ∀ u : Fin 4096, x (ix4 b e q u) = X u.val) :
    Ideal.hostReduceWindowAdd ![1, 1, 1, 4096] ![1, 1, 1, 1] ![0, 0, 0, 0] ![0, 0, 0, 4095] h x 0 (ix4 b e q s) = ∑ u ∈ Finset.Ico s.val 4096, X u := by
  rw [window_sum]
  refine (Equiv.sum_comp winEquiv (winTerm ![1, 1, 1, 4096] ![1, 1, 1, 1] ![0, 0, 0, 0] ![0, 0, 0, 4095] h x (ix4 b e q s))).symm.trans ?_
  rw [
    Finset.sum_congr rfl (fun k _ => winTerm_apply x h b e q s X hX k),
    Fin.sum_univ_eq_sum_range (fun k => if s.val + k < 4096 then X (s.val + k) else 0) 4096,
    Finset.sum_Ico_eq_sum_range, ← Finset.sum_filter]
  have hs := s.isLt
  refine Finset.sum_congr (Finset.ext fun k => ?_) fun _ _ => rfl
  rw [Finset.mem_filter, Finset.mem_range, Finset.mem_range]
  omega

section Value

variable (qr kr : ℕ → ℕ → ℝ) (bias : ℕ → ℝ) (vr : ℕ → ℕ → EReal)
  (x0 : Vec Ideal S8192x2048 .f32) (x1 x2 : Vec Ideal S1x8192x2048 .f32) (x3 : Vec Ideal S16 .f32)
  (hq : ∀ r c, (x0 (ix2 r c) : EReal) = (qr r.val c.val : EReal)) (hk : ∀ r c, (x1 (ix3 (0 : Fin 1) r c) : EReal) = (kr r.val c.val : EReal))
  (hv : ∀ r c, (x2 (ix3 (0 : Fin 1) r c) : EReal) = vr r.val c.val) (hb : ∀ h, (x3 (ix1 h) : EReal) = (bias h.val : EReal))

theorem word_128 : (FloatOps.ofBits .f32 0x43000000#32 : Ideal .f32) = ((128 : ℝ) : EReal) := by
  show Ideal.ofBits .f32 0x43000000#32 = _
  simp [Ideal.ofBits, Ideal.ieee, -EReal.coe_mul]
  norm_num

/-- The square root that the scores are divided by. -/
theorem root_val (i : S2x16x4096x4096.Idx) : (val_main_v5 (F := Ideal) i : EReal) = ((Real.sqrt 128 : ℝ) : EReal) := by
  rw [val_main_v5_apply, val_main_v4_apply, val_main_cst_apply, word_128]
  show Ideal.sqrt ((128 : ℝ) : EReal) = _
  rw [Ideal.sqrt_coe, if_neg (by norm_num)]

include hq hk hb in
/-- The scores. -/
theorem score_val (b : Fin 2) (h : Fin 16) (p s : Fin 4096) :
    (val_main_v9 (F := Ideal) x0 x1 x3 (ix4 b h p s) : EReal) = (score qr kr bias b.val h.val p.val s.val : EReal) := by
  have hbl := b.isLt
  have hhl := h.isLt
  have hpl := p.isLt
  have hsl := s.isLt
  rw [val_main_v9_apply, val_main_v6_apply, root_val, val_main_v3_apply, val_main_v8_apply, val_main_v7_apply]
  have e3 : (x3 (idx_main_v7 (idx_main_v8 (ix4 b h p s))) : EReal) = (bias h.val : EReal) :=
    by
    have e : idx_main_v7 (idx_main_v8 (ix4 b h p s)) = ix1 h := funext fun a => Fin.ext (match a with | ⟨0, _⟩ => rfl)
    rw [e]
    exact hb h
  have e1 : (∑ k : Fin 128, (val_main_v0 (F := Ideal) x0 (lidx_main_v3 (ix4 b h p s) k) : EReal) * val_main_v1 (F := Ideal) x1 (ridx_main_v3 (ix4 b h p s) k))
      = ((∑ d : Fin 128, qr (b.val * 4096 + p.val) (128 * h.val + d.val) * kr (b.val * 4096 + s.val) (128 * h.val + d.val) : ℝ) : EReal) := by
    rw [coe_sum]
    refine Finset.sum_congr rfl fun d _ => ?_
    have hd := d.isLt
    rw [EReal.coe_mul, val_main_v0_apply, val_main_v1_apply]
    refine congrArg₂ (fun u w : EReal => u * w) ?_ ?_
    · refine Eq.trans (congrArg x0 (funext fun a => Fin.ext ?_)) (hq ⟨b.val * 4096 + p.val, by omega⟩ ⟨128 * h.val + d.val, by omega⟩)
      match a with
      | ⟨0, _⟩ => exact (by show (((b.val * 4096 + p.val) * 16 + h.val) * 128 + d.val) / 2048 = b.val * 4096 + p.val; omega)
      | ⟨1, _⟩ => exact (by show (((b.val * 4096 + p.val) * 16 + h.val) * 128 + d.val) % 2048 = 128 * h.val + d.val; omega)
    · refine Eq.trans (congrArg x1 (funext fun a => Fin.ext ?_)) (hk ⟨b.val * 4096 + s.val, by omega⟩ ⟨128 * h.val + d.val, by omega⟩)
      match a with
      | ⟨0, _⟩ => rfl
      | ⟨1, _⟩ => exact (by show (((b.val * 4096 + s.val) * 16 + h.val) * 128 + d.val) / 2048 % 8192 = b.val * 4096 + s.val; omega)
      | ⟨2, _⟩ => exact (by show (((b.val * 4096 + s.val) * 16 + h.val) * 128 + d.val) % 2048 = 128 * h.val + d.val; omega)
  rw [e1, e3]
  show Ideal.div _ _ + (bias h.val : EReal) = _
  rw [Ideal.div_coe, ← EReal.coe_mul, ← EReal.coe_add, score, one_div]
  exact (Real.sqrt_pos.mpr (by norm_num)).ne'

theorem une_self (x : Ideal .f32) : FloatOps.cmpf .une x x = 0#1 := by simp [Ideal.cmpf_def, Ideal.cmp]

theorem zero_a (j : S_.Idx) : (val_main_call0_call0_cst (F := Ideal) j : EReal) = 0 := Ideal.ofBits_zero_f32
theorem zero_b (j : S_.Idx) : (val_main_call3_call0_cst (F := Ideal) j : EReal) = 0 := Ideal.ofBits_zero_f32

/-- The log of what a key leaves. -/
theorem stay_val (i : S2x16x4096x4096.Idx) (z : ℝ) (hz : (val_main_v9 (F := Ideal) x0 x1 x3 i : EReal) = (z : EReal)) :
    (val_main_v17 (F := Ideal) x0 x1 x3 i : EReal) = (lstay z : EReal) := by
  have hx : (val_main_v16 (F := Ideal) x0 x1 x3 i : EReal) = ((-z : ℝ) : EReal) := by
    rw [val_main_v16_apply, hz]
    exact (EReal.coe_neg z).symm
  rw [val_main_v17_apply, val_main_call0_v1_apply, val_main_call0_call0_v4_apply, une_self, ValueIdx.select_zero, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_v0_apply, hx, zero_a]
  refine Eq.trans ?_ ((logSigmoid_elt (-z)).trans (by rw [neg_neg]))
  rfl

/-- The log of what a key takes. -/
theorem take_val (i : S2x16x4096x4096.Idx) (z : ℝ) (hz : (val_main_v9 (F := Ideal) x0 x1 x3 i : EReal) = (z : EReal)) :
    (val_main_v21 (F := Ideal) x0 x1 x3 i : EReal) = (lstay (-z) : EReal) := by
  rw [val_main_v21_apply, val_main_call3_v1_apply, val_main_call3_call0_v4_apply, une_self, ValueIdx.select_zero, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_v0_apply, hz, zero_b]
  exact Eq.trans rfl (logSigmoid_elt z)

/-- The mask: the keys strictly before the query. -/
theorem mask_val (p s : Fin 4096) : val_main_v15 (F := Ideal) (ix2 p s) = BitVec.ofBool (decide (s.val < p.val)) := by
  have hp := p.isLt
  have hs := s.isLt
  rw [val_main_v15_apply, val_main_v13_apply, val_main_v14_apply, val_main_v11_apply, val_main_v12_apply, val_main_v10_apply, val_main_v10_apply]
  exact WordCmp.cmpi_slt_ofNat (by show s.val < _; omega) (by show p.val < _; omega)

include hq hk hb in
/-- The log of what a key leaves, zero for the keys not before the query. -/
theorem kept_val (b : Fin 2) (h : Fin 16) (p s : Fin 4096) :
    (val_main_v18 (F := Ideal) x0 x1 x3 (ix4 b h p s) : EReal) = (stay (score qr kr bias b.val h.val p.val) p.val s.val : EReal) := by
  have e : idx_main_call1_v1 (ix4 b h p s) = ix2 p s := funext fun a => Fin.ext (match a with | ⟨0, _⟩ => rfl | ⟨1, _⟩ => rfl)
  rw [val_main_v18_apply, val_main_call1_v1_apply, e, mask_val, WordCmp.select_decide, stay_val x0 x1 x3 _ _ (score_val qr kr bias x0 x1 x3 hq hk hb b h p s), stay]
  split
  · rfl
  · rw [val_main_call1_v2_apply, val_main_call1_v0_apply, val_main_cst_0_apply, EReal.coe_zero]
    exact Ideal.ofBits_zero_f32

include hq hk hb in
/-- The sums from each key on. -/
theorem after_val (b : Fin 2) (h : Fin 16) (p s : Fin 4096) :
    (val_main_v19 (F := Ideal) x0 x1 x3 (ix4 b h p s) : EReal)
      = ((∑ u ∈ Finset.Ico s.val 4096, stay (score qr kr bias b.val h.val p.val) p.val u : ℝ) : EReal) := by
  have hz : (val_main_call2_v0 (F := Ideal) (Shape.Idx.first h_S_) : EReal) = 0 := by
    rw [val_main_call2_v0_apply]
    exact Ideal.ofBits_zero_f32
  unfold val_main_v19 Host.reduceWindowAdd
  rw [Ideal.hostReduceWindowAdd_def, hz, revCumsum _ _ b h p s (fun u => ((stay (score qr kr bias b.val h.val p.val) p.val u : ℝ) : EReal))
    (fun u => kept_val qr kr bias x0 x1 x3 hq hk hb b h p u), ← coe_sum]

include hq hk hb in
/-- The weights. -/
theorem weight_val (b : Fin 2) (h : Fin 16) (p s : Fin 4096) :
    (val_main_v24 (F := Ideal) x0 x1 x3 (ix4 b h p s) : EReal) = (weight (score qr kr bias b.val h.val p.val) p.val s.val : EReal) := by
  have e : idx_main_call4_v1 (ix4 b h p s) = ix2 p s := funext fun a => Fin.ext (match a with | ⟨0, _⟩ => rfl | ⟨1, _⟩ => rfl)
  have hsc := score_val qr kr bias x0 x1 x3 hq hk hb b h p s
  rw [val_main_v24_apply, val_main_call4_v1_apply, e, mask_val, WordCmp.select_decide, val_main_v23_apply, val_main_v22_apply, val_main_v20_apply,
    take_val x0 x1 x3 _ _ hsc, after_val qr kr bias x0 x1 x3 hq hk hb, kept_val qr kr bias x0 x1 x3 hq hk hb, weight_ref _ _ _ s.isLt]
  split
  · rfl
  · rw [val_main_call4_v2_apply, val_main_call4_v0_apply, val_main_cst_1_apply]
    exact Ideal.ofBits_zero_f32

include hq hk hv hb in
/-- The reference's entry: the attention. -/
theorem result_val (b : Fin 2) (p : Fin 4096) (h : Fin 16) (d : Fin 128) (R : Fin 8192) (C : Fin 2048)
    (hR : R.val = b.val * 4096 + p.val) (hC : C.val = 128 * h.val + d.val) :
    (val_main_v28 (F := Ideal) x0 x1 x2 x3 (ix2 R C) : EReal) = attention qr kr bias vr b.val h.val p.val d.val := by
  have hbl := b.isLt
  have hhl := h.isLt
  have hpl := p.isLt
  have hdl := d.isLt
  have e : idx_main_v26 (idx_main_v27 (ix2 R C)) = ix4 b h d p := funext fun a => Fin.ext (by
    match a with
    | ⟨0, _⟩ => exact (by show (R.val * 2048 + C.val) / 8388608 = b.val; omega)
    | ⟨1, _⟩ => exact (by show (R.val * 2048 + C.val) / 128 % 16 = h.val; omega)
    | ⟨2, _⟩ => exact (by show (R.val * 2048 + C.val) % 128 = d.val; omega)
    | ⟨3, _⟩ => exact (by show (R.val * 2048 + C.val) / 2048 % 4096 = p.val; omega))
  rw [val_main_v28_apply]
  show (val_main_v27 (F := Ideal) x0 x1 x2 x3 (ix2 R C) : EReal) = _
  rw [val_main_v27_apply, val_main_v26_apply, e, val_main_v25_apply, attention, accAt, Nat.Ico_zero_eq_range,
    ← Fin.sum_univ_eq_sum_range (fun t => (weight (score qr kr bias b.val h.val p.val) p.val t : EReal) * vr (b.val * 4096 + t) (128 * h.val + d.val)) 4096]
  refine Finset.sum_congr rfl fun t _ => ?_
  have htl := t.isLt
  have e2 : ridx_main_v25 (ix4 b h d p) t = ix4 b h p t := funext fun a => Fin.ext (match a with | ⟨0, _⟩ => rfl | ⟨1, _⟩ => rfl | ⟨2, _⟩ => rfl | ⟨3, _⟩ => rfl)
  rw [mul_comm, e2, weight_val qr kr bias x0 x1 x3 hq hk hb, val_main_v2_apply]
  refine congrArg (fun u : EReal => _ * u) ?_
  refine Eq.trans (congrArg x2 (funext fun a => Fin.ext ?_)) (hv ⟨b.val * 4096 + t.val, by omega⟩ ⟨128 * h.val + d.val, by omega⟩)
  match a with
  | ⟨0, _⟩ => rfl
  | ⟨1, _⟩ => exact (by show (((b.val * 4096 + t.val) * 16 + h.val) * 128 + d.val) / 2048 % 8192 = b.val * 4096 + t.val; omega)
  | ⟨2, _⟩ => exact (by show (((b.val * 4096 + t.val) * 16 + h.val) * 128 + d.val) % 2048 = 128 * h.val + d.val; omega)

end Value

end Cert.ReferenceIdeal.Read

end
-- ==== Proof.AttnAlg.lean ====
/- The attention call equals its reference: both result arrays hold the stick-breaking attention of the arguments, where
   every query, key and bias is a finite number. -/
module

public import proofs.«01_k».proof.Defs
public import proofs.«01_k».proof.Proof.AttnArray
public import proofs.«01_k».proof.Proof.AttnRef
public import proofs.«01_k».proof.Proof.Gen.ReferenceIdeal.Run
public import proofs.«01_k».proof.Proof.Gen.Pre_finite_scores

@[expose] public section

set_option maxRecDepth 16384

noncomputable section

open Idealize.ShloMosaic Idealize.ShloMosaic.TcCoe Idealize.ShloMosaic.ValueIdx Idealize.SL.Sem Cert.Attn

namespace Cert.Proof.AttnClaims

/-! ## What the precondition says of an entry -/

/-- The word compared with from above is the top. -/
theorem word_top : (FloatOps.ofBits .f32 0x7F800000#32 : Ideal .f32) = (⊤ : EReal) := by
  show Ideal.ofBits .f32 0x7F800000#32 = (⊤ : EReal)
  simp [Ideal.ofBits, Ideal.ieee]

/-- The word compared with from below is the bottom. -/
theorem word_bot : (FloatOps.ofBits .f32 0xFF800000#32 : Ideal .f32) = (⊥ : EReal) := by
  show Ideal.ofBits .f32 0xFF800000#32 = (⊥ : EReal)
  simp [Ideal.ofBits, Ideal.ieee]

/-- An entry below the top and above the bottom is a real number. -/
theorem finite_entry (a : Ideal .f32)
    (h : (FloatOps.cmpf .olt a (FloatOps.ofBits .f32 0x7F800000#32 : Ideal .f32))
      &&& (FloatOps.cmpf .ogt a (FloatOps.ofBits .f32 0xFF800000#32 : Ideal .f32)) = 1#1) :
    (a : EReal) = ((EReal.toReal a : ℝ) : EReal) := by
  rw [word_top, word_bot, Ideal.cmpf_def, Ideal.cmpf_def] at h
  refine (EReal.coe_toReal ?_ ?_).symm
  · rintro rfl
    simp [Ideal.cmp] at h
  · rintro rfl
    simp [Ideal.cmp] at h

/-! ## The arguments read by plain numbers -/

/-- A matrix's entry at two numbers, zero outside. -/
def read2 (x : (⟨2, ![8192, 2048]⟩ : Shape).Idx → EReal) (r c : ℕ) : EReal :=
  if h : r < 8192 ∧ c < 2048 then x (ix2 ⟨r, h.1⟩ ⟨c, h.2⟩) else 0
/-- The one matrix of a stack at two numbers, zero outside. -/
def read3 (x : (⟨3, ![1, 8192, 2048]⟩ : Shape).Idx → EReal) (r c : ℕ) : EReal :=
  if h : r < 8192 ∧ c < 2048 then x (ix3 (0 : Fin 1) ⟨r, h.1⟩ ⟨c, h.2⟩) else 0
/-- A vector's entry at a number, zero outside. -/
def read1 (x : (⟨1, ![16]⟩ : Shape).Idx → EReal) (n : ℕ) : EReal :=
  if h : n < 16 then x (ix1 ⟨n, h⟩) else 0

theorem read2_val (x : (⟨2, ![8192, 2048]⟩ : Shape).Idx → EReal) (r : Fin 8192) (c : Fin 2048) : read2 x r.val c.val = x (ix2 r c) :=
  dif_pos ⟨r.isLt, c.isLt⟩
theorem read3_val (x : (⟨3, ![1, 8192, 2048]⟩ : Shape).Idx → EReal) (r : Fin 8192) (c : Fin 2048) :
    read3 x r.val c.val = x (ix3 (0 : Fin 1) r c) :=
  dif_pos ⟨r.isLt, c.isLt⟩
theorem read1_val (x : (⟨1, ![16]⟩ : Shape).Idx → EReal) (n : Fin 16) : read1 x n.val = x (ix1 n) := dif_pos n.isLt

/-! ## The equation -/

section Equation

variable (m : (ℓ : Loc Cert.KernelIdeal.nD Cert.KernelIdeal.τ Cert.KernelIdeal.sig) → Buf (Elt Ideal) ℓ) (c : Dev Cert.KernelIdeal.nD)

/-- The queries as real numbers. -/
def qR (r n : ℕ) : ℝ := (read2 (m ((c.tc : Thread Cert.KernelIdeal.nD Cert.KernelIdeal.τ).loc Cert.KernelIdeal.main_arg0)) r n).toReal
/-- The keys as real numbers. -/
def kR (r n : ℕ) : ℝ := (read3 (m ((c.tc : Thread Cert.KernelIdeal.nD Cert.KernelIdeal.τ).loc Cert.KernelIdeal.main_arg1)) r n).toReal
/-- The values. -/
def vR (r n : ℕ) : EReal := read3 (m ((c.tc : Thread Cert.KernelIdeal.nD Cert.KernelIdeal.τ).loc Cert.KernelIdeal.main_arg2)) r n
/-- The biases as real numbers. -/
def bR (n : ℕ) : ℝ := (read1 (m ((c.tc : Thread Cert.KernelIdeal.nD Cert.KernelIdeal.τ).loc Cert.KernelIdeal.main_arg3)) n).toReal

variable (h : Cert.Pre_KernelIdeal_finite_scores m)
include h

theorem hq (r : Fin 8192) (n : Fin 2048) :
    (m ((c.tc : Thread Cert.KernelIdeal.nD Cert.KernelIdeal.τ).loc Cert.KernelIdeal.main_arg0) (ix2 r n) : EReal) = ((qR m c r.val n.val : ℝ) : EReal) := by
  rw [qR, read2_val]
  exact finite_entry _ (congrFun (h c).1 (ix2 r n))

theorem hk (r : Fin 8192) (n : Fin 2048) :
    (m ((c.tc : Thread Cert.KernelIdeal.nD Cert.KernelIdeal.τ).loc Cert.KernelIdeal.main_arg1) (ix3 (0 : Fin 1) r n) : EReal) = ((kR m c r.val n.val : ℝ) : EReal) := by
  rw [kR, read3_val]
  exact finite_entry _ (congrFun (h c).2.1 (ix3 (0 : Fin 1) r n))

theorem hb (n : Fin 16) :
    (m ((c.tc : Thread Cert.KernelIdeal.nD Cert.KernelIdeal.τ).loc Cert.KernelIdeal.main_arg3) (ix1 n) : EReal) = ((bR m c n.val : ℝ) : EReal) := by
  rw [bR, read1_val]
  exact finite_entry _ (congrFun (h c).2.2 (ix1 n))

omit h in
theorem hv (r : Fin 8192) (n : Fin 2048) :
    (m ((c.tc : Thread Cert.KernelIdeal.nD Cert.KernelIdeal.τ).loc Cert.KernelIdeal.main_arg2) (ix3 (0 : Fin 1) r n) : EReal) = vR m c r.val n.val :=
  (read3_val _ r n).symm

/-- The kernel's result array is the attention of its arguments. -/
theorem kernel_val : (Cert.KernelIdeal.Gen.dats m 0 c).arrAt 5 Cert.KernelIdeal.cfg0.N
    = Cert.KernelIdeal.Gen.attnArr (qR m c) (kR m c) (bR m c) (vR m c) :=
  Cert.KernelIdeal.Gen.final m c (qR m c) (kR m c) (bR m c) (vR m c) (hq m c h) (hk m c h) (hv m c) (hb m c h)

/-- The reference's result array is the attention of the same arguments. -/
theorem reference_val : (Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    = Cert.KernelIdeal.Gen.attnArr (qR m c) (kR m c) (bR m c) (vR m c) := by
  funext i
  obtain ⟨R, C, rfl⟩ : ∃ (R : Fin 8192) (C : Fin 2048), i = ix2 R C := ⟨i 0, i 1, eq_ix2 i⟩
  have hR := R.isLt
  have hC := C.isLt
  exact Cert.ReferenceIdeal.Read.result_val (qR m c) (kR m c) (bR m c) (vR m c) _ _ _ _ (hq m c h) (hk m c h) (hv m c) (hb m c h)
    ⟨R.val / 4096, by omega⟩ ⟨R.val % 4096, by omega⟩ ⟨C.val / 128, by omega⟩ ⟨C.val % 128, by omega⟩ R C
    (by show R.val = R.val / 4096 * 4096 + R.val % 4096; omega) (by show C.val = 128 * (C.val / 128) + C.val % 128; omega)

end Equation

/-- The kernel and the reference end with the same array, the attention of the arguments. -/
theorem algebraic : Cert.algebraic_KernelIdeal_ReferenceIdeal_pre_finite_scores := by
  intro m g m' g' h hm
  refine ⟨fun c => Cert.KernelIdeal.Gen.attnArr (qR m c) (kR m c) (bR m c) (vR m c), ?_, ?_⟩
  · exact (θ_run Cert.KernelIdeal.defs _ _).mono
      (fun r hr c => ⟨(hr c).1.trans (kernel_val m c h), (hr c).2⟩) (Cert.KernelIdeal.Value.run_blocks (F := Ideal) m g)
  · refine (θ_run Cert.ReferenceIdeal.defs _ _).mono
      (fun r hr c => ⟨(hr c).1.trans ?_, (hr c).2⟩) (Cert.ReferenceIdeal.Value.run (F := Ideal) m' g')
    obtain ⟨e0, e1, e2, e3⟩ := hm c
    rw [Cert.ReferenceIdeal.Read.val_main_v28_eq, e0, e1, e2, e3]
    exact reference_val m c h

end Cert.Proof.AttnClaims

end
-- ==== Proof.FfnRuns.lean ====
/- The feed-forward kernel: what its runs share. The chosen slot of the two-slot scratch in closed form, the branch conditions
   over the points of the grid, the blocks that the windows read, and the frame of the arguments. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slots in closed form -/

/-- The slot that a point reads: the one that the point before wrote. -/
theorem k0_off1_eq : ∀ i : grid0.Coords, k0_off1 i = ![(((i 2).val + 1) % 2), 0, 0] := by decide +kernel
instance closedOff_k0_off1 (i : grid0.Coords) : ClosedOff (k0_off1 i) := ⟨![(((i 2).val + 1) % 2), 0, 0], k0_off1_eq i⟩
/-- The slot that a point writes. -/
theorem k0_off2_eq : ∀ i : grid0.Coords, k0_off2 i = ![((i 2).val % 2), 0, 0] := by decide +kernel
instance closedOff_k0_off2 (i : grid0.Coords) : ClosedOff (k0_off2 i) := ⟨![((i 2).val % 2), 0, 0], k0_off2_eq i⟩
/-- The slot that the last point reads: the one that it wrote. -/
theorem k0_off3_eq : ∀ i : grid0.Coords, k0_off3 i = ![((i 2).val % 2), 0, 0] := by decide +kernel
instance closedOff_k0_off3 (i : grid0.Coords) : ClosedOff (k0_off3 i) := ⟨![((i 2).val % 2), 0, 0], k0_off3_eq i⟩

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FfnIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats 0 c).arrAt_in 6 rfl _).trans ((hA c 6).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 88 % 2 := Pipeline.Grid.coords_val t 0 (by decide) rfl
    have e1 : (grid0.coords t 1).val = t.val / 11 % 8 := Pipeline.Grid.coords_val t 1 (by decide) rfl
    have e2 : (grid0.coords t 2).val = t.val / 1 % 11 := Pipeline.Grid.coords_val t 2 (by decide) rfl
    simp only [cond0_0, e0, e1, e2]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the points ≡ 10 (mod 11) — by arithmetic of the point. -/
theorem hcond0_1 : ∀ t : Fin cfg0.N, cond0_1 (grid0.coords t) ↔ t.val % 11 = 10 :=
  (fun t => by
    have ht : t.val < 176 := Nat.lt_of_lt_of_eq t.isLt N_0
    have e0 : (grid0.coords t 0).val = t.val / 88 % 2 := Pipeline.Grid.coords_val t 0 (by decide) rfl
    have e1 : (grid0.coords t 1).val = t.val / 11 % 8 := Pipeline.Grid.coords_val t 1 (by decide) rfl
    have e2 : (grid0.coords t 2).val = t.val / 1 % 11 := Pipeline.Grid.coords_val t 2 (by decide) rfl
    simp only [cond0_1, k0_cond2, e0, e1, e2]
    word_cmp
   : ∀ t : Fin grid0.N, cond0_1 (grid0.coords t) ↔ t.val % 11 = 10)

/-- A condition the certificate splits the body on though no `scf.if` tests it: the offsets chain `k0_off1`, by which the
    body picks a slot of a scratch, gives `![0, 0, 0]` — so that each case's run reads every access through
    that chain, and through every other chain this one decides, at one literal slot. -/
abbrev cond0_2 (i : grid0.Coords) : Prop := k0_off1 i = ![0, 0, 0]
/-- It holds at the points ≡ 1, 3, 5, 7 or 9 (mod 11) — decided over the grid. -/
theorem hcond0_2 : ∀ t : Fin cfg0.N, cond0_2 (grid0.coords t) ↔ (t.val % 11 = 1 ∨ t.val % 11 = 3 ∨ t.val % 11 = 5 ∨ t.val % 11 = 7 ∨ t.val % 11 = 9) :=
  (by decide +kernel : ∀ t : Fin grid0.N, cond0_2 (grid0.coords t) ↔ (t.val % 11 = 1 ∨ t.val % 11 = 3 ∨ t.val % 11 = 5 ∨ t.val % 11 = 7 ∨ t.val % 11 = 9))

/-! ## The kernel body on any staging memrefs: a subtype the run finds -/

/-- One staging buffer of output window 10, through which its contents are stated (`View.read_writes_of_cover`: the
    choice does not matter). -/
abbrev VO0_10 : View sig .tc .vmem S1x512x2048 .f32 := (Memref.whole cc0_stg10_0 : Memref sig .tc .vmem S1x512x2048 .f32).view
/-- One staging buffer of output window 11, through which its contents are stated (`View.read_writes_of_cover`: the
    choice does not matter). -/
abbrev VO0_11 : View sig .tc .vmem S1x1x8x512 .f32 := (Memref.whole cc0_stg11_0 : Memref sig .tc .vmem S1x1x8x512 .f32).view
/-- Each window's current staging memref at point `t`, spelled as the pipeline passes it (`bodyAt0`), and its wholeness. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x8x512 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S528x2048 .bf16 := Memref.whole cc0_scratch0
abbrev scM0_1 : Memref sig .tc .vmem S1x528x512 .f32 := Memref.whole cc0_scratch1
abbrev scM0_2 : Memref sig .tc .vmem S2x512x512 .bf16 := Memref.whole cc0_scratch2
/-- The scratch `arg15` the kernel carries between points, as a view: what it holds is stated through it. -/
abbrev VS0_0 : View sig .tc .vmem S528x2048 .bf16 := scM0_0.view
/-- The scratch `arg17` the kernel carries between points, as a view: what it holds is stated through it. -/
abbrev VS0_2 : View sig .tc .vmem S2x512x512 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnIdeal.Gen

end
-- ==== Proof.FfnRunA.lean ====
/- The feed-forward kernel's body at a tile's first point: what every buffer ends with. -/
module

public import proofs.«01_k».proof.Proof.FfnRuns

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.closedPieces true in
/-- What the body's stores leave in each output's staging memref, as pieces (last first) IN CASE A (`scf.if` 0 taken, `scf.if` 1 not taken: points 0, 11, … 165: 16 of 176), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). -/
noncomputable def kernelRun0_A (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) :
    Σ' (L10 : List (View.Piece (Elt F) S1x512x2048 .f32)), Σ' (L11 : List (View.Piece (Elt F) S1x1x8x512 .f32)), Σ' (LS0 : List (View.Piece (Elt F) S528x2048 .bf16)), Σ' (LS2 : List (View.Piece (Elt F) S2x512x512 .bf16)), { LT1 : List (View.Piece (Elt F) S1x528x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1) ∗ (∃ f, arg17.view.loc (c : Thread nD τ) ↦[arg17.view.set]{fullShare} arg17.view.writes (Elt F) f LS2)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    letI : ClosedOff (k0_off1 i) := ⟨![1, 0, 0], hl0⟩
    letI : ClosedOff (k0_off2 i) := ⟨![0, 0, 0], hl1⟩
    simp only [cc0__ffn_kernel_eq_skeleton]; unfold cc0__ffn_kernel_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexists _; iexact HS0
    isplitl [HS1]; · iexists _; iexact HS1
    iexists _; iexact HS2

end Cert.FfnIdeal.Gen

end
-- ==== Proof.FfnRunB.lean ====
/- The feed-forward kernel's body at a tile's odd points: what every buffer ends with. -/
module

public import proofs.«01_k».proof.Proof.FfnRunA

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.closedPieces true in
/-- What the body's stores leave in each output's staging memref, as pieces (last first) IN CASE B (`scf.if` 0 not taken, `scf.if` 1 not taken, `k0_off1 i` at `![0, 0, 0]`: points 1, 3, … 174: 80 of 176), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). -/
noncomputable def kernelRun0_B (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) :
    Σ' (L10 : List (View.Piece (Elt F) S1x512x2048 .f32)), Σ' (L11 : List (View.Piece (Elt F) S1x1x8x512 .f32)), Σ' (LS0 : List (View.Piece (Elt F) S528x2048 .bf16)), Σ' (LS2 : List (View.Piece (Elt F) S2x512x512 .bf16)), { LT1 : List (View.Piece (Elt F) S1x528x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xo10 ∗ (∃ d, owns (c : Thread nD τ) arg14 fullShare d) ∗ owns (c : Thread nD τ) arg15 fullShare xs0 ∗ (∃ d, owns (c : Thread nD τ) arg16 fullShare d) ∗ owns (c : Thread nD τ) arg17 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], ?_, ?_, fun E K => ?run⟩
  case run =>
    letI : ClosedOff (k0_off1 i) := ⟨![0, 0, 0], hl0⟩
    letI : ClosedOff (k0_off2 i) := ⟨![1, 0, 0], hl1⟩
    simp only [cc0__ffn_kernel_eq_skeleton]; unfold cc0__ffn_kernel_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hfs0; obtain rfl := harg17.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]
    · iexists _; isplitr; · ipureintro; exact harg15.read_unread _
      iexact HS0
    isplitl [HS1]; · iexists _; iexact HS1
    iexact HS2

end Cert.FfnIdeal.Gen

end
-- ==== Proof.FfnRunC.lean ====
/- The feed-forward kernel's body at a tile's even points between: what every buffer ends with. -/
module

public import proofs.«01_k».proof.Proof.FfnRunB

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.closedPieces true in
/-- What the body's stores leave in each output's staging memref, as pieces (last first) IN CASE C (`scf.if` 0 not taken, `scf.if` 1 not taken, `k0_off1 i` not at `![0, 0, 0]`: points 2, 4, … 173: 64 of 176), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). -/
noncomputable def kernelRun0_C (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) :
    Σ' (L10 : List (View.Piece (Elt F) S1x512x2048 .f32)), Σ' (L11 : List (View.Piece (Elt F) S1x1x8x512 .f32)), Σ' (LS0 : List (View.Piece (Elt F) S528x2048 .bf16)), Σ' (LS2 : List (View.Piece (Elt F) S2x512x512 .bf16)), { LT1 : List (View.Piece (Elt F) S1x528x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xo10 ∗ (∃ d, owns (c : Thread nD τ) arg14 fullShare d) ∗ owns (c : Thread nD τ) arg15 fullShare xs0 ∗ (∃ d, owns (c : Thread nD τ) arg16 fullShare d) ∗ owns (c : Thread nD τ) arg17 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], ?_, ?_, fun E K => ?run⟩
  case run =>
    letI : ClosedOff (k0_off1 i) := ⟨![1, 0, 0], hl0⟩
    letI : ClosedOff (k0_off2 i) := ⟨![0, 0, 0], hl1⟩
    simp only [cc0__ffn_kernel_eq_skeleton]; unfold cc0__ffn_kernel_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hfs0; obtain rfl := harg17.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]
    · iexists _; isplitr; · ipureintro; exact harg15.read_unread _
      iexact HS0
    isplitl [HS1]; · iexists _; iexact HS1
    iexact HS2

end Cert.FfnIdeal.Gen

end
-- ==== Proof.FfnRunD.lean ====
/- The feed-forward kernel's body at a tile's last point: what every buffer ends with. -/
module

public import proofs.«01_k».proof.Proof.FfnRunC

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.closedPieces true in
/-- What the body's stores leave in each output's staging memref, as pieces (last first) IN CASE D (`scf.if` 0 not taken, `scf.if` 1 taken, `k0_off1 i` not at `![0, 0, 0]`: points 10, 21, … 175: 16 of 176), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). -/
noncomputable def kernelRun0_D (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) :
    Σ' (L10 : List (View.Piece (Elt F) S1x512x2048 .f32)), Σ' (L11 : List (View.Piece (Elt F) S1x1x8x512 .f32)), Σ' (LS0 : List (View.Piece (Elt F) S528x2048 .bf16)), Σ' (LS2 : List (View.Piece (Elt F) S2x512x512 .bf16)), { LT1 : List (View.Piece (Elt F) S1x528x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xo10 ∗ (∃ d, owns (c : Thread nD τ) arg14 fullShare d) ∗ owns (c : Thread nD τ) arg15 fullShare xs0 ∗ (∃ d, owns (c : Thread nD τ) arg16 fullShare d) ∗ owns (c : Thread nD τ) arg17 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ (∃ f, arg16.view.loc (c : Thread nD τ) ↦[arg16.view.set]{fullShare} arg16.view.writes (Elt F) f LT1) ∗ (arg17.view.loc (c : Thread nD τ) ↦[arg17.view.set]{fullShare} arg17.view.writes (Elt F) (harg17.unread xs2) LS2)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], ?_, ?_, fun E K => ?run⟩
  case run =>
    letI : ClosedOff (k0_off1 i) := ⟨![1, 0, 0], hl0⟩
    letI : ClosedOff (k0_off2 i) := ⟨![0, 0, 0], hl1⟩
    letI : ClosedOff (k0_off3 i) := ⟨![0, 0, 0], hl2⟩
    simp only [cc0__ffn_kernel_eq_skeleton]; unfold cc0__ffn_kernel_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%ds1, %fs1, -, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hfs0; obtain rfl := harg17.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]
    · iexists _; isplitr; · ipureintro; exact harg15.read_unread _
      iexact HS0
    isplitl [HS1]; · iexists _; iexact HS1
    iexact HS2

end Cert.FfnIdeal.Gen

end
-- ==== Proof.FfnRun.lean ====
/- The feed-forward call: what its outputs and its two carried scratches hold point by point, the whole run, and the frame. -/
module

public import proofs.«01_k».proof.Proof.FfnRunD
public import Idealize.ShloMosaic.Lib.Claim

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 10 tile its block (2 stores of `S1x512x2048`), so they cover it. -/
theorem cover0_A_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (y : S1x512x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).1 S1x512x2048.size (by sl_kernel_rfl) y

/-- What case A leaves in output 10's staging buffer: its pieces read back over junk. -/
def out0_A_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) : Vec F S1x512x2048 .f32 :=
  VO0_10.read (Elt F) (VO0_10.writes (Elt F) VO0_10.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).1)

/-- Case A's pieces for output 11 tile its block (1 store of `S1x1x8x512`), so they cover it. -/
theorem cover0_A_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (y : S1x1x8x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.1 S1x1x8x512.size (by sl_kernel_rfl) y

/-- What case A leaves in output 11's staging buffer: its pieces read back over junk. -/
def out0_A_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) : Vec F S1x1x8x512 .f32 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.1)

/-- Case A's pieces for scratch `arg15`, which the kernel carries between points, cover it: 2 pieces of several sizes (`S16x2048`, `S512x2048`) tiling it when cut into blocks of `![16, 2048]` (Lib/Ring.lean `Piece.tiledBy`). -/
theorem scover0_A_0 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (y : S528x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.1 ![16, 2048] (by sl_kernel_rfl) y

/-- What case A leaves in scratch `arg15`: its pieces read back over junk. -/
def sout0_A_0 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) : Vec F S528x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.1)

/-- Case A's pieces for scratch `arg17`, which the kernel carries between points, cover it: 2 pieces of `S1x512x512` tiling it (Lib/Ring.lean `Piece.tiledL`). -/
theorem scover0_A_2 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (y : S2x512x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.2.1 S1x512x512.size (by sl_kernel_rfl) y

/-- What case A leaves in scratch `arg17`: its pieces read back over junk. -/
def sout0_A_2 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : cond0_0 i) (hc1 : ¬cond0_1 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) : Vec F S2x512x512 .bf16 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9).2.2.2.1)

/-- Case B's pieces for output 10 tile its block (1 store of `S1x512x2048`), so they cover it. -/
theorem cover0_B_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x512x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1 S1x512x2048.size (by sl_kernel_rfl) y

/-- What case B leaves in output 10's staging buffer: its pieces read back over junk. -/
def out0_B_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x512x2048 .f32 :=
  VO0_10.read (Elt F) (VO0_10.writes (Elt F) VO0_10.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1)

/-- Case B's pieces for output 11 tile its block (1 store of `S1x1x8x512`), so they cover it. -/
theorem cover0_B_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x1x8x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1 S1x1x8x512.size (by sl_kernel_rfl) y

/-- What case B leaves in output 11's staging buffer: its pieces read back over junk. -/
def out0_B_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x1x8x512 .f32 :=
  VO0_11.read (Elt F) (VO0_11.writes (Elt F) VO0_11.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1)

/-- Case B stores nothing into scratch `arg15`: it holds what the point before left. -/
def sout0_B_0 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S528x2048 .bf16 := xs0

/-- What case B leaves in scratch `arg17`: its pieces read back over what the point before left there, which it read first. -/
def sout0_B_2 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : cond0_2 i) (hl0 : k0_off1 i = ![0, 0, 0]) (hl1 : k0_off2 i = ![1, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S2x512x512 .bf16 :=
  arg17.view.read (Elt F) (arg17.view.writes (Elt F) (harg17.unread xs2) (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.2.2.1)

/-- Case C's pieces for output 10 tile its block (1 store of `S1x512x2048`), so they cover it. -/
theorem cover0_C_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x512x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1 S1x512x2048.size (by sl_kernel_rfl) y

/-- What case C leaves in output 10's staging buffer: its pieces read back over junk. -/
def out0_C_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x512x2048 .f32 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).1)

/-- Case C's pieces for output 11 tile its block (1 store of `S1x1x8x512`), so they cover it. -/
theorem cover0_C_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x1x8x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1 S1x1x8x512.size (by sl_kernel_rfl) y

/-- What case C leaves in output 11's staging buffer: its pieces read back over junk. -/
def out0_C_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x1x8x512 .f32 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.1)

/-- Case C stores nothing into scratch `arg15`: it holds what the point before left. -/
def sout0_C_0 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S528x2048 .bf16 := xs0

/-- What case C leaves in scratch `arg17`: its pieces read back over what the point before left there, which it read first. -/
def sout0_C_2 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : ¬cond0_1 i) (hc2 : ¬cond0_2 i) (hl0 : k0_off1 i = ![1, 0, 0]) (hl1 : k0_off2 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S2x512x512 .bf16 :=
  arg17.view.read (Elt F) (arg17.view.writes (Elt F) (harg17.unread xs2) (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2).2.2.2.1)

/-- Case D's pieces for output 10 tile its block (2 stores of `S1x512x2048`), so they cover it. -/
theorem cover0_D_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x512x2048.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).1 S1x512x2048.size (by sl_kernel_rfl) y

/-- What case D leaves in output 10's staging buffer: its pieces read back over junk. -/
def out0_D_10 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x512x2048 .f32 :=
  VO0_10.read (Elt F) (VO0_10.writes (Elt F) VO0_10.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).1)

/-- Case D's pieces for output 11 tile its block (1 store of `S1x1x8x512`), so they cover it. -/
theorem cover0_D_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) (y : S1x1x8x512.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).2.1 S1x1x8x512.size (by sl_kernel_rfl) y

/-- What case D leaves in output 11's staging buffer: its pieces read back over junk. -/
def out0_D_11 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S1x1x8x512 .f32 :=
  VO0_11.read (Elt F) (VO0_11.writes (Elt F) VO0_11.junk (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).2.1)

/-- Case D stores nothing into scratch `arg15`: it holds what the point before left. -/
def sout0_D_0 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S528x2048 .bf16 := xs0

/-- What case D leaves in scratch `arg17`: its pieces read back over what the point before left there, which it read first. -/
def sout0_D_2 (c : Dev nD) (i : grid0.Coords) (arg3 : Memref sig .tc .vmem S1x512x2048 .f32) (harg3 : arg3.IsWhole) (arg4 : Memref sig .tc .vmem S1x1x16x2048 .f32) (harg4 : arg4.IsWhole) (arg5 : Memref sig .tc .vmem S1x16x512 .f32) (harg5 : arg5.IsWhole) (arg6 : Memref sig .tc .vmem S1x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512x2048 .bf16) (harg11 : arg11.IsWhole) (arg12 : Memref sig .tc .vmem S1x512x2048 .bf16) (harg12 : arg12.IsWhole) (arg13 : Memref sig .tc .vmem S1x512x2048 .f32) (harg13 : arg13.IsWhole) (arg14 : Memref sig .tc .vmem S1x1x8x512 .f32) (harg14 : arg14.IsWhole) (arg15 : Memref sig .tc .vmem S528x2048 .bf16) (harg15 : arg15.IsWhole) (arg16 : Memref sig .tc .vmem S1x528x512 .f32) (harg16 : arg16.IsWhole) (arg17 : Memref sig .tc .vmem S2x512x512 .bf16) (harg17 : arg17.IsWhole) (hc0 : ¬cond0_0 i) (hc1 : cond0_1 i) (hc2 : ¬cond0_2 i) (hl0 : k0_off1 i = ![1, 0, 0]) (hl1 : k0_off2 i = ![0, 0, 0]) (hl2 : k0_off3 i = ![0, 0, 0])
    (x0 : Vec F S1x512x2048 .f32) (x1 : Vec F S1x1x16x2048 .f32) (x2 : Vec F S1x16x512 .f32) (x3 : Vec F S1x2048 .f32) (x4 : Vec F S1x2048x512 .bf16) (x5 : Vec F S1x2048x512 .bf16) (x6 : Vec F S3x512 .f32) (x7 : Vec F S1x512 .f32) (x8 : Vec F S1x512x2048 .bf16) (x9 : Vec F S1x512x2048 .bf16) (xo10 : Vec F S1x512x2048 .f32) (xs0 : Vec F S528x2048 .bf16) (xs2 : Vec F S2x512x512 .bf16) : Vec F S2x512x512 .bf16 :=
  arg17.view.read (Elt F) (arg17.view.writes (Elt F) (harg17.unread xs2) (kernelRun0_D c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2).2.2.2.1)

/-! ## Which slot each case's accesses reach -/

/-- Where condition 0 holds, the offsets chain `k0_off1` gives `![1, 0, 0]`: the slot the
    body's accesses through it reach there. Each case whose run takes this as a hypothesis (`hl·`) cites this one theorem, decided over the grid. -/
theorem hoff0_k0_off1_c0 : ∀ t : Fin cfg0.N, t.val % 11 = 0 → k0_off1 (grid0.coords t) = ![1, 0, 0] := by
  decide +kernel

/-- Where condition 0 holds, the offsets chain `k0_off2` gives `![0, 0, 0]`: the slot the
    body's accesses through it reach there. Each case whose run takes this as a hypothesis (`hl·`) cites this one theorem, decided over the grid. -/
theorem hoff0_k0_off2_c0 : ∀ t : Fin cfg0.N, t.val % 11 = 0 → k0_off2 (grid0.coords t) = ![0, 0, 0] := by
  decide +kernel

/-- Where condition 2 holds, the offsets chain `k0_off1` gives `![0, 0, 0]`: the slot the
    body's accesses through it reach there. Each case whose run takes this as a hypothesis (`hl·`) cites this one theorem, decided over the grid. -/
theorem hoff0_k0_off1_c2 : ∀ t : Fin cfg0.N, (t.val % 11 = 1 ∨ t.val % 11 = 3 ∨ t.val % 11 = 5 ∨ t.val % 11 = 7 ∨ t.val % 11 = 9) → k0_off1 (grid0.coords t) = ![0, 0, 0] := by
  decide +kernel

/-- Where condition 2 holds, the offsets chain `k0_off2` gives `![1, 0, 0]`: the slot the
    body's accesses through it reach there. Each case whose run takes this as a hypothesis (`hl·`) cites this one theorem, decided over the grid. -/
theorem hoff0_k0_off2_c2 : ∀ t : Fin cfg0.N, (t.val % 11 = 1 ∨ t.val % 11 = 3 ∨ t.val % 11 = 5 ∨ t.val % 11 = 7 ∨ t.val % 11 = 9) → k0_off2 (grid0.coords t) = ![1, 0, 0] := by
  decide +kernel

/-- Where condition 2 fails, the offsets chain `k0_off1` gives `![1, 0, 0]`: the slot the
    body's accesses through it reach there. Each case whose run takes this as a hypothesis (`hl·`) cites this one theorem, decided over the grid. -/
theorem hoff0_k0_off1_n2 : ∀ t : Fin cfg0.N, ¬((t.val % 11 = 1 ∨ t.val % 11 = 3 ∨ t.val % 11 = 5 ∨ t.val % 11 = 7 ∨ t.val % 11 = 9)) → k0_off1 (grid0.coords t) = ![1, 0, 0] := by
  decide +kernel

/-- Where condition 2 fails, the offsets chain `k0_off2` gives `![0, 0, 0]`: the slot the
    body's accesses through it reach there. Each case whose run takes this as a hypothesis (`hl·`) cites this one theorem, decided over the grid. -/
theorem hoff0_k0_off2_n2 : ∀ t : Fin cfg0.N, ¬((t.val % 11 = 1 ∨ t.val % 11 = 3 ∨ t.val % 11 = 5 ∨ t.val % 11 = 7 ∨ t.val % 11 = 9)) → k0_off2 (grid0.coords t) = ![0, 0, 0] := by
  decide +kernel

/-- Where condition 2 fails, the offsets chain `k0_off3` gives `![0, 0, 0]`: the slot the
    body's accesses through it reach there. Each case whose run takes this as a hypothesis (`hl·`) cites this one theorem, decided over the grid. -/
theorem hoff0_k0_off3_n2 : ∀ t : Fin cfg0.N, ¬((t.val % 11 = 1 ∨ t.val % 11 = 3 ∨ t.val % 11 = 5 ∨ t.val % 11 = 7 ∨ t.val % 11 = 9)) → k0_off3 (grid0.coords t) = ![0, 0, 0] := by
  decide +kernel

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x2048 .f32 × Vec F S1x1x8x512 .f32 × Vec F S528x2048 .bf16 × Vec F S2x512x512 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 11 = 0 then
      if h1 : (n + 1) % 11 = 10 then
        False.elim (by have hN : n + 1 < 176 := lt_of_lt_of_eq hn (show cfg0.N = 176 from N_0); omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      if h1 : (n + 1) % 11 = 10 then
        if h2 : ((n + 1) % 11 = 1 ∨ (n + 1) % 11 = 3 ∨ (n + 1) % 11 = 5 ∨ (n + 1) % 11 = 7 ∨ (n + 1) % 11 = 9) then
          False.elim (by have hN : n + 1 < 176 := lt_of_lt_of_eq hn (show cfg0.N = 176 from N_0); omega)
        else
          (out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (hoff0_k0_off1_n2 ⟨n + 1, hn⟩ h2) (hoff0_k0_off2_n2 ⟨n + 1, hn⟩ h2) (hoff0_k0_off3_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (hoff0_k0_off1_n2 ⟨n + 1, hn⟩ h2) (hoff0_k0_off2_n2 ⟨n + 1, hn⟩ h2) (hoff0_k0_off3_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (hoff0_k0_off1_n2 ⟨n + 1, hn⟩ h2) (hoff0_k0_off2_n2 ⟨n + 1, hn⟩ h2) (hoff0_k0_off3_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (hoff0_k0_off1_n2 ⟨n + 1, hn⟩ h2) (hoff0_k0_off2_n2 ⟨n + 1, hn⟩ h2) (hoff0_k0_off3_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2)
      else
        if h2 : ((n + 1) % 11 = 1 ∨ (n + 1) % 11 = 3 ∨ (n + 1) % 11 = 5 ∨ (n + 1) % 11 = 7 ∨ (n + 1) % 11 = 9) then
          (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (hoff0_k0_off1_c2 ⟨n + 1, hn⟩ h2) (hoff0_k0_off2_c2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (hoff0_k0_off1_c2 ⟨n + 1, hn⟩ h2) (hoff0_k0_off2_c2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (hoff0_k0_off1_c2 ⟨n + 1, hn⟩ h2) (hoff0_k0_off2_c2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (hoff0_k0_off1_c2 ⟨n + 1, hn⟩ h2) (hoff0_k0_off2_c2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2)
        else
          (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (hoff0_k0_off1_n2 ⟨n + 1, hn⟩ h2) (hoff0_k0_off2_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (hoff0_k0_off1_n2 ⟨n + 1, hn⟩ h2) (hoff0_k0_off2_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (hoff0_k0_off1_n2 ⟨n + 1, hn⟩ h2) (hoff0_k0_off2_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (hoff0_k0_off1_n2 ⟨n + 1, hn⟩ h2) (hoff0_k0_off2_n2 ⟨n + 1, hn⟩ h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 11 = 0) (h1 : ¬t.val % 11 = 10) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 11 = 0) (h1 : ¬t.val % 11 = 10) (h2 : (t.val % 11 = 1 ∨ t.val % 11 = 3 ∨ t.val % 11 = 5 ∨ t.val % 11 = 7 ∨ t.val % 11 = 9)) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 11 = 0) (h1 : ¬t.val % 11 = 10) (h2 : ¬(t.val % 11 = 1 ∨ t.val % 11 = 3 ∨ t.val % 11 = 5 ∨ t.val % 11 = 7 ∨ t.val % 11 = 9)) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case D: that case's contents, over what the point before left. -/
theorem outsAt0_D (c : Dev nD) (t : Fin cfg0.N) (h0 : ¬t.val % 11 = 0) (h1 : t.val % 11 = 10) (h2 : ¬(t.val % 11 = 1 ∨ t.val % 11 = 3 ∨ t.val % 11 = 5 ∨ t.val % 11 = 7 ∨ t.val % 11 = 9)) :
    outsAt0 m c t.val t.isLt = (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ (∃ d, owns (c : Thread nD τ) scM0_1 fullShare d) ∗ owns (c : Thread nD τ) scM0_2 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ (∃ d, owns (c : Thread nD τ) scM0_1 fullShare d) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
  Φ t := PhiS m c t.val (Nat.le_of_lt_succ t.isLt)
  q w := Pipeline.shareOf spec0 w
  owed _ := 0

/-- The proof data's arrays are what the buffers hold when the region is entered. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 11 = 0) (h1 : ¬t.val % 11 = 10) (h2 : (t.val % 11 = 1 ∨ t.val % 11 = 3 ∨ t.val % 11 = 5 ∨ t.val % 11 = 7 ∨ t.val % 11 = 9)) (d) :
    (dats m 0 c).before 10 t d = (outsAt0 m c (t.val - 1) (Nat.lt_of_le_of_lt (Nat.sub_le _ _) t.isLt)).1 := by
  have hN : t.val < 176 := lt_of_lt_of_eq t.isLt (show cfg0.N = 176 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 11 = 0) (h1 : ¬t.val % 11 = 10) (h2 : ¬(t.val % 11 = 1 ∨ t.val % 11 = 3 ∨ t.val % 11 = 5 ∨ t.val % 11 = 7 ∨ t.val % 11 = 9)) (d) :
    (dats m 0 c).before 10 t d = (outsAt0 m c (t.val - 1) (Nat.lt_of_le_of_lt (Nat.sub_le _ _) t.isLt)).1 := by
  have hN : t.val < 176 := lt_of_lt_of_eq t.isLt (show cfg0.N = 176 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case D output 10's current staging buffer holds what the body left at the point before: the point is
    not the first, the buffer was not written back between (`flush0_10`), the window is live and uncut (Lib/Pipeline/Frame.lean
    `Dat.before_out_kept`). -/
theorem before0_10_D (c : Dev nD) (t : Fin cfg0.N) (h0 : ¬t.val % 11 = 0) (h1 : t.val % 11 = 10) (h2 : ¬(t.val % 11 = 1 ∨ t.val % 11 = 3 ∨ t.val % 11 = 5 ∨ t.val % 11 = 7 ∨ t.val % 11 = 9)) (d) :
    (dats m 0 c).before 10 t d = (outsAt0 m c (t.val - 1) (Nat.lt_of_le_of_lt (Nat.sub_le _ _) t.isLt)).1 := by
  have hN : t.val < 176 := lt_of_lt_of_eq t.isLt (show cfg0.N = 176 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : t.val % 11 = 10
    · exfalso; omega
    · by_cases hz : t.val = 0
      · rw [PhiS_castSucc m c t, PhiS_zero m c _ _ hz, PhiA0_eq]
        rw [outsAt0_A m c t h0 h1]
        unfold out0_A_10 out0_A_11 sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        iintro ⟨H0, H1, H2, H3, H4, H5, H6, H7, H8, H9, ⟨%e10, H10⟩, ⟨%e11, H11⟩, ⟨%es0, HS0⟩, ⟨%fT1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_10 out0_A_11 sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexists _; iexact HS0
        isplitl [HS1]; · iexact HS1
        isplitl [HS2]; · iexists _; iexact HS2
        iintro ⟨H0, H1, H2, H3, H4, H5, H6, H7, H8, H9, ⟨%e10, H10⟩, ⟨%e11, H11⟩, ⟨%es0, HS0⟩, ⟨%fT1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _)
  · by_cases h1 : t.val % 11 = 10
    · by_cases h2 : (t.val % 11 = 1 ∨ t.val % 11 = 3 ∨ t.val % 11 = 5 ∨ t.val % 11 = 7 ∨ t.val % 11 = 9)
      · exfalso; omega
      · by_cases hz : t.val = 0
        · exfalso; have hN : t.val < 176 := lt_of_lt_of_eq t.isLt (show cfg0.N = 176 from N_0); omega
        · rw [PhiS_castSucc m c t, PhiS_pos m c _ _ hz]
          rw [outsAt0_D m c t h0 h1 h2]
          simp only [before0_10_D m c t h0 h1 h2]
          unfold out0_D_10 out0_D_11 sout0_D_0 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_D c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          iintro ⟨H0, H1, H2, H3, H4, H5, H6, H7, H8, H9, ⟨%e10, H10⟩, ⟨%e11, H11⟩, HS0, ⟨%fT1, HS1⟩, HS2⟩
          isplitl [HS0 HS1 HS2 Hg]
          · isplitl [HS0 HS1 HS2]
            · isplitl [HS0]
              · iexact HS0
              isplitl [HS1]
              · iexists _; unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _)
    · by_cases h2 : (t.val % 11 = 1 ∨ t.val % 11 = 3 ∨ t.val % 11 = 5 ∨ t.val % 11 = 7 ∨ t.val % 11 = 9)
      · by_cases hz : t.val = 0
        · exfalso; have hN : t.val < 176 := lt_of_lt_of_eq t.isLt (show cfg0.N = 176 from N_0); omega
        · rw [PhiS_castSucc m c t, PhiS_pos m c _ _ hz]
          rw [outsAt0_B m c t h0 h1 h2]
          simp only [before0_10_B m c t h0 h1 h2]
          unfold out0_B_10 out0_B_11 sout0_B_0 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          iintro ⟨H0, H1, H2, H3, H4, H5, H6, H7, H8, H9, ⟨%e10, H10⟩, ⟨%e11, H11⟩, HS0, ⟨%fT1, HS1⟩, HS2⟩
          isplitl [HS0 HS1 HS2 Hg]
          · isplitl [HS0 HS1 HS2]
            · isplitl [HS0]
              · iexact HS0
              isplitl [HS1]
              · iexists _; unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
      · by_cases hz : t.val = 0
        · exfalso; have hN : t.val < 176 := lt_of_lt_of_eq t.isLt (show cfg0.N = 176 from N_0); omega
        · rw [PhiS_castSucc m c t, PhiS_pos m c _ _ hz]
          rw [outsAt0_C m c t h0 h1 h2]
          simp only [before0_10_C m c t h0 h1 h2]
          unfold out0_C_10 out0_C_11 sout0_C_0 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
          iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [HS0]; · iexact HS0
          isplitl [HS1]; · iexact HS1
          isplitl [HS2]; · iexact HS2
          iintro ⟨H0, H1, H2, H3, H4, H5, H6, H7, H8, H9, ⟨%e10, H10⟩, ⟨%e11, H11⟩, HS0, ⟨%fT1, HS1⟩, HS2⟩
          isplitl [HS0 HS1 HS2 Hg]
          · isplitl [HS0 HS1 HS2]
            · isplitl [HS0]
              · iexact HS0
              isplitl [HS1]
              · iexists _; unfold owns; iexists _; isplitr
                swap; · iexact HS1
                ipureintro; rfl
              unfold owns; iexists _; isplitr
              swap; · iexact HS2
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 176 := N_0; omega)

/-! ## The run and the frame -/

set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- On the mesh of the program, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnIdeal.Gen

end
-- ==== Proof.FfnFrames.lean ====
/- The feed-forward call's frames, and what its idealization keeps: both kernels end with their arguments unchanged and every
   counter at zero, and so does the reference. The idealization rewrites nothing, so the kernel as printed and the idealized
   one are the same program, and the frame stated for any float values serves both. -/
module

public import proofs.«01_k».proof.Defs
public import proofs.«01_k».proof.Proof.Gen.Ffn
public import proofs.«01_k».proof.Proof.FfnRun
public import proofs.«01_k».proof.Proof.Gen.FfnReferenceIdeal.Run
public import Idealize.ShloMosaic.Lib.Quiescent

@[expose] public section

set_option maxRecDepth 16384

noncomputable section

open Idealize.ShloMosaic Idealize.ShloMosaic.TcCoe Idealize.SL.Sem

namespace Cert.Proof.FfnClaims

variable {F : FTy → Type} [FloatOps F]

/-! ## One program under two names -/

set_option maxHeartbeats 4000000 in
/-- The kernel's body. -/
theorem body_eq : @Cert.Ffn.cc0__ffn_kernel F _ _ = @Cert.FfnIdeal.cc0__ffn_kernel F _ _ := rfl

set_option maxHeartbeats 4000000 in
/-- The table of bodies. -/
theorem bodies_eq : Cert.Ffn.defs₀ (F := F) = Cert.FfnIdeal.defs₀ (F := F) := by
  unfold Cert.Ffn.defs₀ Cert.FfnIdeal.defs₀
  refine congrArg Defs.onTc (funext fun l => funext fun a => ?_)
  match l, a with
  | ⟨0, _⟩, (t, s) =>
    show Cert.Ffn.cc0__ffn_kernel .. = Cert.FfnIdeal.cc0__ffn_kernel ..
    rw [body_eq]
    rfl

/-- The definitions. -/
theorem defs_eq : Cert.Ffn.defs (F := F) = Cert.FfnIdeal.defs (F := F) := by
  unfold Cert.Ffn.defs Cert.FfnIdeal.defs
  rw [bodies_eq]
  rfl

set_option maxHeartbeats 4000000 in
/-- The host program. -/
theorem main_eq : Cert.Ffn.main (F := F) = Cert.FfnIdeal.main (F := F) := by
  funext c
  unfold Cert.Ffn.main Cert.FfnIdeal.main
  rfl

/-! ## The claims -/

/-- The kernel as printed ends, its arguments unchanged. -/
theorem frame_p : Cert.quiescent_Ffn := fun m ρ _ => by
  have h := Cert.FfnIdeal.Gen.frame (F := Bits) m ρ
  rw [← defs_eq, ← main_eq] at h
  exact h
/-- The idealized kernel ends, its arguments unchanged. -/
theorem frame_pi : Cert.quiescent_FfnIdeal := fun m ρ _ => Cert.FfnIdeal.Gen.frame m ρ
/-- The reference ends, its arguments unchanged. -/
theorem frame_ri : Cert.quiescent_FfnReferenceIdeal := fun m ρ _ =>
  (θ_run Cert.FfnReferenceIdeal.defs _ _).mono (fun r h => ⟨fun c => (h c).2.2,
      Idealize.ShloMosaic.sem_eq_zero_of_no_sems (by decide) r.2⟩)
    (Cert.FfnReferenceIdeal.Value.run (F := Ideal) m ρ)

/-- The idealization rewrites no operation. -/
theorem preserves : Cert.preserves_Ffn_FfnIdeal := trivial

end Cert.Proof.FfnClaims

end
-- ==== Proof.FfnBody.lean ====
/- What one grid point of the feed-forward kernel stores, as plain functions of vectors: the rows divided by their root mean
   squares, the up projection with the rows before, the gated unit of the point's lanes, and the running output. -/
module

public import proofs.«01_k».proof.Proof.FfnRun
public import Idealize.ShloMosaic.Lib.VecWindow

@[expose] public section

set_option maxRecDepth 16384

noncomputable section

namespace Cert.FfnIdeal.Gen

open Cert.FfnIdeal Idealize.ShloMosaic Idealize.ShloMosaic.TcCoe Idealize.ShloMosaic.Tactic

variable {F : FTy → Type} [FloatOps F]

/-- The rows of a point and those before them, divided by their root mean squares. -/
def hTile (x : Vec F S1x512x2048 .f32) (xh : Vec F S1x1x16x2048 .f32) (g : Vec F S1x2048 .f32) : Vec F S528x2048 .bf16 :=
  VecWindow.put (VecWindow.put (fun _ => Scalar.ofBits .bf16 0x0000#16) ![16, 0] S512x2048.size (k0_pay3 x g)) ![0, 0] S16x2048.size (k0_pay5 (k0_pay4 xh g))

/-- The up projection of those rows, the ones before the first tile replaced by the state. -/
def aTile (n : ℕ) (h : Vec F S528x2048 .bf16) (wa : Vec F S1x2048x512 .bf16) (st : Vec F S1x16x512 .f32) : Vec F S1x528x512 .f32 :=
  VecWindow.put (VecWindow.put (fun _ => Scalar.ofBits .f32 0x00000000#32) ![0, 0, 0] S1x16x512.size (k0_pay12 (BitVec.ofNat 32 n) (k0_pay7 h wa) st))
    ![0, 16, 0] S1x512x512.size (k0_pay13 (k0_pay7 h wa))

/-- The gated unit of a point's lanes. -/
def yTile (i : grid0.Coords) (h : Vec F S528x2048 .bf16) (st : Vec F S1x16x512 .f32) (wa wg : Vec F S1x2048x512 .bf16) (cw : Vec F S3x512 .f32)
    (cb : Vec F S1x512 .f32) : FVec F S1x512x512 .bf16 :=
  k0_pay16 (k0_pay8 h wg)
    (k0_pay14 cb (VecWindow.window (aTile (i 1).val h wa st) ![0, 16, 0] S1x512x512.size inb_S1x528x512_S1x512x512_0_16_0)
      (VecWindow.window cw ![2, 0] S1x512.size inb_S3x512_S1x512_2_0))
    (VecWindow.window (aTile (i 1).val h wa st) ![0, 15, 0] S1x512x512.size inb_S1x528x512_S1x512x512_0_15_0)
    (k0_pay15 (VecWindow.window cw ![1, 0] S1x512.size inb_S3x512_S1x512_1_0))
    (VecWindow.window (aTile (i 1).val h wa st) ![0, 14, 0] S1x512x512.size inb_S1x528x512_S1x512x512_0_14_0)
    (VecWindow.window cw ![0, 0] S1x512.size inb_S3x512_S1x512_0_0)

/-- The last eight rows of the up projection, as stored. -/
def tail (a : Vec F S1x528x512 .f32) : FVec F S1x1x8x512 .f32 :=
  k0_pay1 (VecWindow.window a ![0, 520, 0] S1x8x512.size inb_S1x528x512_S1x8x512_0_520_0)

/-- The running output with one block of lanes' down projection added. -/
def step (o : Vec F S1x512x2048 .f32) (y : Vec F S1x512x512 .bf16) (w : Vec F S1x512x2048 .bf16) : FVec F S1x512x2048 .f32 :=
  k0_pay11 (k0_pay9 o) (k0_pay10 y) w

theorem inb_slot0 : ∀ a, (![0, 0, 0] : Fin 3 → ℕ) a + S1x512x512.size a ≤ S2x512x512.size a := by decide

/-- The two slots of the gated units. -/
def slot0 (s : Vec F S2x512x512 .bf16) : Vec F S1x512x512 .bf16 := VecWindow.window s ![0, 0, 0] S1x512x512.size inb_slot0
def slot1 (s : Vec F S2x512x512 .bf16) : Vec F S1x512x512 .bf16 := VecWindow.window s ![1, 0, 0] S1x512x512.size inb_S2x512x512_S1x512x512_1_0_0
def put0 (s : Vec F S2x512x512 .bf16) (y : Vec F S1x512x512 .bf16) : Vec F S2x512x512 .bf16 := VecWindow.put s ![0, 0, 0] S1x512x512.size y
def put1 (s : Vec F S2x512x512 .bf16) (y : Vec F S1x512x512 .bf16) : Vec F S2x512x512 .bf16 := VecWindow.put s ![1, 0, 0] S1x512x512.size y
def put01 (z y : Vec F S1x512x512 .bf16) : Vec F S2x512x512 .bf16 := put0 (put1 (fun _ => Scalar.ofBits .bf16 0x0000#16) z) y

section Windows

theorem readAt_window {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = VecWindow.window (v.read Val f) off size inb := rfl

theorem readCov_window {sig : RefSig} {κ : Kind} {sp : Space} {s : Shape} {e : EltTy} {Val : EltTy → Type} [∀ e, Nonempty (Val e)] (v : View sig κ sp s e)
    (L : List (View.Piece Val s e)) {off size : Fin s.rank → ℕ} (inb : ∀ a, off a + size a ≤ s.size a) :
    v.readCov L (Rect.unit off size inb).toLoadRect = VecWindow.window (v.read Val (v.writes Val v.junk L)) off size inb := rfl

theorem read_writes_put {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A store of a whole buffer leaves what was stored. -/
theorem put_whole {s : Shape} {α : Type} (x : s.Idx → α) (off : Fin s.rank → ℕ) (hz : ∀ a, off a = 0) (w : s.Idx → α) :
    VecWindow.put x off s.size w = w := by
  funext y
  unfold VecWindow.put
  rw [dif_pos fun a => by have := (y a).isLt; have := hz a; omega]
  exact congrArg w (funext fun a => Fin.ext (by rw [Rect.unitLocal_val, hz a]; rfl))

/-- A load of a whole buffer reads what it holds. -/
theorem window_whole {s : Shape} {α : Type} (x : s.Idx → α) (off : Fin s.rank → ℕ) (inb : ∀ a, off a + s.size a ≤ s.size a) :
    VecWindow.window x off s.size inb = x :=
  funext fun y => congrArg x (Rect.emb_unit_full inb y)

/-- Two stores that fill a buffer leave nothing of what it held. -/
theorem put_put_any {s : Shape} {α : Type} (x x' : s.Idx → α) (off size off' size' : Fin s.rank → ℕ) (w : ((a : Fin s.rank) → Fin (size a)) → α)
    (w' : ((a : Fin s.rank) → Fin (size' a)) → α)
    (h : ∀ y : s.Idx, (∀ a, off a ≤ (y a).val ∧ (y a).val < off a + size a) ∨ ∀ a, off' a ≤ (y a).val ∧ (y a).val < off' a + size' a) :
    VecWindow.put (VecWindow.put x off size w) off' size' w' = VecWindow.put (VecWindow.put x' off size w) off' size' w' := by
  funext y
  unfold VecWindow.put
  by_cases h' : ∀ a, off' a ≤ (y a).val ∧ (y a).val < off' a + size' a
  · rw [dif_pos h', dif_pos h']
  · rw [dif_neg h', dif_neg h']
    have h1 := (h y).resolve_right h'
    rw [dif_pos h1, dif_pos h1]

theorem hTile_any (b : Vec F S528x2048 .bf16) (x : Vec F S1x512x2048 .f32) (xh : Vec F S1x1x16x2048 .f32) (g : Vec F S1x2048 .f32) :
    VecWindow.put (s := S528x2048) (VecWindow.put (s := S528x2048) b ![16, 0] ![512, 2048] (k0_pay3 x g)) ![0, 0] ![16, 2048] (k0_pay5 (k0_pay4 xh g)) = hTile x xh g :=
  put_put_any (s := S528x2048) _ _ ![16, 0] S512x2048.size ![0, 0] S16x2048.size _ _ fun y => by
    have h0 : (y 0).val < 528 := (y 0).isLt
    have h1 : (y 1).val < 2048 := (y 1).isLt
    by_cases h : (y 0).val < 16
    · refine .inr fun a => ?_
      match a with
      | ⟨0, _⟩ => exact (by show 0 ≤ (y 0).val ∧ (y 0).val < 0 + 16; omega)
      | ⟨1, _⟩ => exact (by show 0 ≤ (y 1).val ∧ (y 1).val < 0 + 2048; omega)
    · refine .inl fun a => ?_
      match a with
      | ⟨0, _⟩ => exact (by show 16 ≤ (y 0).val ∧ (y 0).val < 16 + 512; omega)
      | ⟨1, _⟩ => exact (by show 0 ≤ (y 1).val ∧ (y 1).val < 0 + 2048; omega)

theorem aTile_any (b : Vec F S1x528x512 .f32) (n : ℕ) (h : Vec F S528x2048 .bf16) (wa : Vec F S1x2048x512 .bf16) (st : Vec F S1x16x512 .f32) :
    VecWindow.put (s := S1x528x512) (VecWindow.put (s := S1x528x512) b ![0, 0, 0] ![1, 16, 512] (k0_pay12 (BitVec.ofNat 32 n) (k0_pay7 h wa) st))
      ![0, 16, 0] ![1, 512, 512] (k0_pay13 (k0_pay7 h wa)) = aTile n h wa st :=
  put_put_any (s := S1x528x512) _ _ ![0, 0, 0] S1x16x512.size ![0, 16, 0] S1x512x512.size _ _ fun y => by
    have h0 : (y 0).val < 1 := (y 0).isLt
    have h1 : (y 1).val < 528 := (y 1).isLt
    have h2 : (y 2).val < 512 := (y 2).isLt
    by_cases h : (y 1).val < 16
    · refine .inl fun a => ?_
      match a with
      | ⟨0, _⟩ => exact (by show 0 ≤ (y 0).val ∧ (y 0).val < 0 + 1; omega)
      | ⟨1, _⟩ => exact (by show 0 ≤ (y 1).val ∧ (y 1).val < 0 + 16; omega)
      | ⟨2, _⟩ => exact (by show 0 ≤ (y 2).val ∧ (y 2).val < 0 + 512; omega)
    · refine .inr fun a => ?_
      match a with
      | ⟨0, _⟩ => exact (by show 0 ≤ (y 0).val ∧ (y 0).val < 0 + 1; omega)
      | ⟨1, _⟩ => exact (by show 16 ≤ (y 1).val ∧ (y 1).val < 16 + 512; omega)
      | ⟨2, _⟩ => exact (by show 0 ≤ (y 2).val ∧ (y 2).val < 0 + 512; omega)

theorem put01_any (b : Vec F S2x512x512 .bf16) (z y : Vec F S1x512x512 .bf16) : put0 (put1 b z) y = put01 z y :=
  put_put_any (s := S2x512x512) _ _ ![1, 0, 0] S1x512x512.size ![0, 0, 0] S1x512x512.size _ _ fun y => by
    have h0 : (y 0).val < 2 := (y 0).isLt
    have h1 : (y 1).val < 512 := (y 1).isLt
    have h2 : (y 2).val < 512 := (y 2).isLt
    by_cases h : (y 0).val = 0
    · refine .inr fun a => ?_
      match a with
      | ⟨0, _⟩ => exact (by show 0 ≤ (y 0).val ∧ (y 0).val < 0 + 1; omega)
      | ⟨1, _⟩ => exact (by show 0 ≤ (y 1).val ∧ (y 1).val < 0 + 512; omega)
      | ⟨2, _⟩ => exact (by show 0 ≤ (y 2).val ∧ (y 2).val < 0 + 512; omega)
    · refine .inl fun a => ?_
      match a with
      | ⟨0, _⟩ => exact (by show 1 ≤ (y 0).val ∧ (y 0).val < 1 + 1; omega)
      | ⟨1, _⟩ => exact (by show 0 ≤ (y 1).val ∧ (y 1).val < 0 + 512; omega)
      | ⟨2, _⟩ => exact (by show 0 ≤ (y 2).val ∧ (y 2).val < 0 + 512; omega)

theorem slot0_at (s : Vec F S2x512x512 .bf16) {off : Fin 3 → ℕ} (h : off = ![0, 0, 0]) (inb) :
    VecWindow.window (s := S2x512x512) s off ![1, 512, 512] inb = slot0 s := by subst h; rfl
theorem slot1_at (s : Vec F S2x512x512 .bf16) {off : Fin 3 → ℕ} (h : off = ![1, 0, 0]) (inb) :
    VecWindow.window (s := S2x512x512) s off ![1, 512, 512] inb = slot1 s := by subst h; rfl
theorem put0_at (s : Vec F S2x512x512 .bf16) {off : Fin 3 → ℕ} (h : off = ![0, 0, 0]) (y : Vec F S1x512x512 .bf16) :
    VecWindow.put (s := S2x512x512) s off ![1, 512, 512] y = put0 s y := by subst h; rfl
theorem put1_at (s : Vec F S2x512x512 .bf16) {off : Fin 3 → ℕ} (h : off = ![1, 0, 0]) (y : Vec F S1x512x512 .bf16) :
    VecWindow.put (s := S2x512x512) s off ![1, 512, 512] y = put1 s y := by subst h; rfl

theorem slot0_put0 (s : Vec F S2x512x512 .bf16) (y : Vec F S1x512x512 .bf16) : slot0 (put0 s y) = y := VecWindow.window_put_same ..
theorem slot1_put1 (s : Vec F S2x512x512 .bf16) (y : Vec F S1x512x512 .bf16) : slot1 (put1 s y) = y := VecWindow.window_put_same ..
theorem slot1_put0 (s : Vec F S2x512x512 .bf16) (y : Vec F S1x512x512 .bf16) : slot1 (put0 s y) = slot1 s :=
  VecWindow.window_put_of_disjoint (s := S2x512x512) s ![0, 0, 0] S1x512x512.size ![1, 0, 0] S1x512x512.size inb_S2x512x512_S1x512x512_1_0_0 y 0 (by decide)

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

theorem full_put_o {α : Type} (x w : S1x512x2048.Idx → α) : VecWindow.put (s := S1x512x2048) x ![0, 0, 0] ![1, 512, 2048] w = w :=
  put_whole (s := S1x512x2048) x _ zero3 w
theorem full_put_at {α : Type} (x w : S1x1x8x512.Idx → α) : VecWindow.put (s := S1x1x8x512) x ![0, 0, 0, 0] ![1, 1, 8, 512] w = w :=
  put_whole (s := S1x1x8x512) x _ zero4 w
theorem full_o {α : Type} (x : S1x512x2048.Idx → α) (inb) : VecWindow.window (s := S1x512x2048) x ![0, 0, 0] ![1, 512, 2048] inb = x :=
  window_whole (s := S1x512x2048) x _ inb
theorem full_xh {α : Type} (x : S1x1x16x2048.Idx → α) (inb) : VecWindow.window (s := S1x1x16x2048) x ![0, 0, 0, 0] ![1, 1, 16, 2048] inb = x :=
  window_whole (s := S1x1x16x2048) x _ inb
theorem full_st {α : Type} (x : S1x16x512.Idx → α) (inb) : VecWindow.window (s := S1x16x512) x ![0, 0, 0] ![1, 16, 512] inb = x :=
  window_whole (s := S1x16x512) x _ inb
theorem full_g {α : Type} (x : S1x2048.Idx → α) (inb) : VecWindow.window (s := S1x2048) x ![0, 0] ![1, 2048] inb = x :=
  window_whole (s := S1x2048) x _ inb
theorem full_wu {α : Type} (x : S1x2048x512.Idx → α) (inb) : VecWindow.window (s := S1x2048x512) x ![0, 0, 0] ![1, 2048, 512] inb = x :=
  window_whole (s := S1x2048x512) x _ inb
theorem full_cb {α : Type} (x : S1x512.Idx → α) (inb) : VecWindow.window (s := S1x512) x ![0, 0] ![1, 512] inb = x :=
  window_whole (s := S1x512) x _ inb
theorem full_h {α : Type} (x : S528x2048.Idx → α) (inb) : VecWindow.window (s := S528x2048) x ![0, 0] ![528, 2048] inb = x :=
  window_whole (s := S528x2048) x _ inb

end Windows

section Run

variable (c : Dev nD) (i : grid0.Coords)
  (arg3 : Memref sig .tc .vmem S1x512x2048 .f32) (harg3 : arg3.IsWhole)
  (arg4 : Memref sig .tc .vmem S1x1x16x2048 .f32) (harg4 : arg4.IsWhole)
  (arg5 : Memref sig .tc .vmem S1x16x512 .f32) (harg5 : arg5.IsWhole)
  (arg6 : Memref sig .tc .vmem S1x2048 .f32) (harg6 : arg6.IsWhole)
  (arg7 : Memref sig .tc .vmem S1x2048x512 .bf16) (harg7 : arg7.IsWhole)
  (arg8 : Memref sig .tc .vmem S1x2048x512 .bf16) (harg8 : arg8.IsWhole)
  (arg9 : Memref sig .tc .vmem S3x512 .f32) (harg9 : arg9.IsWhole)
  (arg10 : Memref sig .tc .vmem S1x512 .f32) (harg10 : arg10.IsWhole)
  (arg11 : Memref sig .tc .vmem S1x512x2048 .bf16) (harg11 : arg11.IsWhole)
  (arg12 : Memref sig .tc .vmem S1x512x2048 .bf16) (harg12 : arg12.IsWhole)
  (arg13 : Memref sig .tc .vmem S1x512x2048 .f32) (harg13 : arg13.IsWhole)
  (arg14 : Memref sig .tc .vmem S1x1x8x512 .f32) (harg14 : arg14.IsWhole)
  (arg15 : Memref sig .tc .vmem S528x2048 .bf16) (harg15 : arg15.IsWhole)
  (arg16 : Memref sig .tc .vmem S1x528x512 .f32) (harg16 : arg16.IsWhole)
  (arg17 : Memref sig .tc .vmem S2x512x512 .bf16) (harg17 : arg17.IsWhole)
  (x0 : Vec F S1x512x2048 .f32) (x1 : Vec F S1x1x16x2048 .f32) (x2 : Vec F S1x16x512 .f32) (x3 : Vec F S1x2048 .f32) (x4 x5 : Vec F S1x2048x512 .bf16)
  (x6 : Vec F S3x512 .f32) (x7 : Vec F S1x512 .f32) (x8 x9 : Vec F S1x512x2048 .bf16)
  (xo10 : Vec F S1x512x2048 .f32) (xs0 : Vec F S528x2048 .bf16) (xs2 : Vec F S2x512x512 .bf16)

set_option backward.isDefEq.respectTransparency false in
set_option maxHeartbeats 1000000 in
theorem out0_A_10_eq (hc0 : cond0_0 i) (hc1 : ¬cond0_1 i) (hl0 : k0_off1 i = ![1, 0, 0]) (hl1 : k0_off2 i = ![0, 0, 0]) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9
      = step x0 k0_pay6 x8 := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  unfold out0_A_10 kernelRun0_A
  dsimp only
  sl_unfold_words
  unfold k0_off1 at hl0
  unfold k0_off2 at hl1
  dsimp only at hl0 hl1
  simp only [read_writes_put, View.writes_nil, readCov_window, readAt_window, e0, e1, e2, e3, e4, e5, e6, e7, e8, e9]
  try rw [slot1_at _ hl0]
  try rw [put0_at _ hl1]
  try rw [put1_at _ rfl]
  try rw [put0_at _ rfl]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_A_11_eq (hc0 : cond0_0 i) (hc1 : ¬cond0_1 i) (hl0 : k0_off1 i = ![1, 0, 0]) (hl1 : k0_off2 i = ![0, 0, 0]) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9
      = tail (aTile (i 1).val (hTile x0 x1 x3) x4 x2) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  unfold out0_A_11 kernelRun0_A
  dsimp only
  sl_unfold_words
  unfold k0_off1 at hl0
  unfold k0_off2 at hl1
  dsimp only at hl0 hl1
  simp only [read_writes_put, View.writes_nil, readCov_window, readAt_window, e0, e1, e2, e3, e4, e5, e6, e7, e8, e9]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem sout0_A_2_eq (hc0 : cond0_0 i) (hc1 : ¬cond0_1 i) (hl0 : k0_off1 i = ![1, 0, 0]) (hl1 : k0_off2 i = ![0, 0, 0]) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9
      = put01 (k0_pay6 (F := F)) (yTile i (hTile x0 x1 x3) x2 x4 x5 x6 x7) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  unfold sout0_A_2 kernelRun0_A
  dsimp only
  sl_unfold_words
  unfold k0_off1 at hl0
  unfold k0_off2 at hl1
  dsimp only at hl0 hl1
  simp only [read_writes_put, View.writes_nil, readCov_window, readAt_window, e0, e1, e2, e3, e4, e5, e6, e7, e8, e9]
  try rw [slot1_at _ hl0]
  try rw [put0_at _ hl1]
  try rw [put1_at _ rfl]
  try rw [put0_at _ rfl]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem sout0_A_0_eq (hc0 : cond0_0 i) (hc1 : ¬cond0_1 i) (hl0 : k0_off1 i = ![1, 0, 0]) (hl1 : k0_off2 i = ![0, 0, 0]) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hl0 hl1 x0 x1 x2 x3 x4 x5 x6 x7 x8 x9
      = hTile x0 x1 x3 := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  unfold sout0_A_0 kernelRun0_A
  dsimp only
  sl_unfold_words
  unfold k0_off1 at hl0
  unfold k0_off2 at hl1
  dsimp only at hl0 hl1
  simp only [read_writes_put, View.writes_nil, readCov_window, readAt_window, e0, e1, e2, e3, e4, e5, e6, e7, e8, e9]
  try rw [slot1_at _ hl0]
  try rw [put0_at _ hl1]
  try rw [put1_at _ rfl]
  try rw [put0_at _ rfl]
  simp only [full_put_o, full_put_at, full_o, full_xh, full_st, full_g, full_wu, full_cb, full_h, slot0_put0, slot1_put1]
  repeat rw [hTile_any]
  repeat rw [aTile_any]
  repeat rw [put01_any]
  repeat rw [full_h]

set_option backward.isDefEq.respectTransparency false in
set_option maxHeartbeats 1000000 in
theorem out0_B_10_eq (hc0 : ¬cond0_0 i) (hc1 : ¬cond0_1 i) (hc2 : cond0_2 i) (hl0 : k0_off1 i = ![0, 0, 0]) (hl1 : k0_off2 i = ![1, 0, 0]) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = step xo10 (slot0 xs2) x8 := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_B_10 kernelRun0_B
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  try rw [slot0_at _ hl0]
  try rw [put1_at _ hl1]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_B_11_eq (hc0 : ¬cond0_0 i) (hc1 : ¬cond0_1 i) (hc2 : cond0_2 i) (hl0 : k0_off1 i = ![0, 0, 0]) (hl1 : k0_off2 i = ![1, 0, 0]) :
    out0_B_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = tail (aTile (i 1).val xs0 x4 x2) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_B_11 kernelRun0_B
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem sout0_B_2_eq (hc0 : ¬cond0_0 i) (hc1 : ¬cond0_1 i) (hc2 : cond0_2 i) (hl0 : k0_off1 i = ![0, 0, 0]) (hl1 : k0_off2 i = ![1, 0, 0]) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = put1 xs2 (yTile i xs0 x2 x4 x5 x6 x7) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold sout0_B_2 kernelRun0_B
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  try rw [slot0_at _ hl0]
  try rw [put1_at _ hl1]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_C_10_eq (hc0 : ¬cond0_0 i) (hc1 : ¬cond0_1 i) (hc2 : ¬cond0_2 i) (hl0 : k0_off1 i = ![1, 0, 0]) (hl1 : k0_off2 i = ![0, 0, 0]) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = step xo10 (slot1 xs2) x8 := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_C_10 kernelRun0_C
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  try rw [slot1_at _ hl0]
  try rw [put0_at _ hl1]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_C_11_eq (hc0 : ¬cond0_0 i) (hc1 : ¬cond0_1 i) (hc2 : ¬cond0_2 i) (hl0 : k0_off1 i = ![1, 0, 0]) (hl1 : k0_off2 i = ![0, 0, 0]) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = tail (aTile (i 1).val xs0 x4 x2) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_C_11 kernelRun0_C
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem sout0_C_2_eq (hc0 : ¬cond0_0 i) (hc1 : ¬cond0_1 i) (hc2 : ¬cond0_2 i) (hl0 : k0_off1 i = ![1, 0, 0]) (hl1 : k0_off2 i = ![0, 0, 0]) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 x0 x1 x2 x3 x4 x5 x6 x7 x8 x9 xo10 xs0 xs2
      = put0 xs2 (yTile i xs0 x2 x4 x5 x6 x7) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold sout0_C_2 kernelRun0_C
  dsimp only
  sl_unfold_words
  unfold k0_off1 at hl0
  unfold k0_off2 at hl1
  dsimp only at hl0 hl1
  simp only [read_writes_put, View.writes_nil, readCov_window, readAt_window, e0, e1, e2, e3, e4, e5, e6, e7, e8, e9, e10, es0, es2]
  try rw [slot1_at _ hl0]
  try rw [put0_at _ hl1]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_D_10_eq (hc0 : ¬cond0_0 i) (hc1 : cond0_1 i) (hc2 : ¬cond0_2 i) (hl0 : k0_off1 i = ![1, 0, 0]) (hl1 : k0_off2 i = ![0, 0, 0]) (hl2 : k0_off3 i = ![0, 0, 0]) :
    out0_D_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2
      = k0_pay2 (step xo10 (slot1 xs2) x8) (yTile i xs0 x2 x4 x5 x6 x7) x9 := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_D_10 kernelRun0_D
  dsimp only
  sl_unfold_words
  unfold k0_off1 at hl0
  unfold k0_off2 at hl1
  dsimp only at hl0 hl1
  unfold k0_off3 at hl2
  dsimp only at hl2
  simp only [read_writes_put, View.writes_nil, readCov_window, readAt_window, e0, e1, e2, e3, e4, e5, e6, e7, e8, e9, e10, es0, es2]
  try rw [slot1_at _ hl0]
  try rw [put0_at _ hl1]
  try rw [slot0_at _ hl2]
  try rw [put0_at _ rfl]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem out0_D_11_eq (hc0 : ¬cond0_0 i) (hc1 : cond0_1 i) (hc2 : ¬cond0_2 i) (hl0 : k0_off1 i = ![1, 0, 0]) (hl1 : k0_off2 i = ![0, 0, 0]) (hl2 : k0_off3 i = ![0, 0, 0]) :
    out0_D_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2
      = tail (aTile (i 1).val xs0 x4 x2) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold out0_D_11 kernelRun0_D
  dsimp only
  sl_unfold_words
  unfold k0_off1 at hl0
  unfold k0_off2 at hl1
  dsimp only at hl0 hl1
  unfold k0_off3 at hl2
  dsimp only at hl2
  simp only [read_writes_put, View.writes_nil, readCov_window, readAt_window, e0, e1, e2, e3, e4, e5, e6, e7, e8, e9, e10, es0, es2]
  simp only [full_put_o, full_put_at, full_o, full_xh, full_st, full_g, full_wu, full_cb, full_h, slot0_put0, slot1_put1]
  repeat rw [hTile_any]
  repeat rw [aTile_any]
  repeat rw [put01_any]
  repeat rw [full_h]
  rfl

set_option backward.isDefEq.respectTransparency false in
set_option maxHeartbeats 1000000 in
theorem sout0_D_2_eq (hc0 : ¬cond0_0 i) (hc1 : cond0_1 i) (hc2 : ¬cond0_2 i) (hl0 : k0_off1 i = ![1, 0, 0]) (hl1 : k0_off2 i = ![0, 0, 0]) (hl2 : k0_off3 i = ![0, 0, 0]) :
    sout0_D_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hl0 hl1 hl2 x0 x1 x2 x3 x4 x5 x6 x7 x8 x9 xo10 xs0 xs2
      = put0 xs2 (yTile i xs0 x2 x4 x5 x6 x7) := by
  have e0 := harg3.read_unread (Val := Elt F) x0
  have e1 := harg4.read_unread (Val := Elt F) x1
  have e2 := harg5.read_unread (Val := Elt F) x2
  have e3 := harg6.read_unread (Val := Elt F) x3
  have e4 := harg7.read_unread (Val := Elt F) x4
  have e5 := harg8.read_unread (Val := Elt F) x5
  have e6 := harg9.read_unread (Val := Elt F) x6
  have e7 := harg10.read_unread (Val := Elt F) x7
  have e8 := harg11.read_unread (Val := Elt F) x8
  have e9 := harg12.read_unread (Val := Elt F) x9
  have e10 := harg13.read_unread (Val := Elt F) xo10
  have es0 := harg15.read_unread (Val := Elt F) xs0
  have es2 := harg17.read_unread (Val := Elt F) xs2
  unfold sout0_D_2 kernelRun0_D
  dsimp only
  sl_unfold_words
  unfold k0_off1 at hl0
  unfold k0_off2 at hl1
  dsimp only at hl0 hl1
  unfold k0_off3 at hl2
  dsimp only at hl2
  simp only [read_writes_put, View.writes_nil, readCov_window, readAt_window, e0, e1, e2, e3, e4, e5, e6, e7, e8, e9, e10, es0, es2]
  try rw [slot1_at _ hl0]
  try rw [put0_at _ hl1]
  try rw [slot0_at _ hl2]
  try rw [put0_at _ rfl]
  simp only [full_put_o, full_put_at, full_o, full_xh, full_st, full_g, full_wu, full_cb, full_h, slot0_put0, slot1_put1]
  repeat rw [hTile_any]
  repeat rw [aTile_any]
  repeat rw [put01_any]
  repeat rw [full_h]
  rfl

end Run

end Cert.FfnIdeal.Gen

end
-- ==== Proof.FfnSpec.lean ====
/- The feed-forward part as plain mathematics over the extended reals: the rows divided by their root mean square, the up
   projection, the causal convolution of three taps, the gated linear unit, the down projection and the residual. -/
module

public import Idealize.ShloMosaic.Lib.Pipeline.Value
public import Idealize.ShloMosaic.Lib.ValueIdx

@[expose] public section

noncomputable section

namespace Cert.FeedForward

open Idealize.ShloMosaic

/-- A row divided by its root mean square, times the gain. -/
def scaled (v g : Fin 2048 → EReal) (d : Fin 2048) : EReal :=
  v d * Ideal.rsqrt (Ideal.div (∑ e : Fin 2048, v e * v e) (Ideal.ofBits .f32 0x45000000#32) + Ideal.ofBits .f32 0x358637BD#32) * g d

/-- The Gaussian error unit, by the hyperbolic tangent. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

section Layer

variable (x : ℕ → ℕ → ℕ → EReal) (g : ℕ → EReal) (wu : ℕ → ℕ → EReal) (cw : ℕ → ℕ → EReal) (cb : ℕ → EReal) (wd : ℕ → ℕ → EReal)

/-- The up projection of the row at position `t` of batch `b`, in lane `n`. -/
def up (b t n : ℕ) : EReal := ∑ d : Fin 2048, scaled (fun e => x b t e.val) (fun e => g e.val) d * wu d.val n

/-- The up projection `2 - k` positions earlier, zero before the start. -/
def tap (b t k n : ℕ) : EReal := if 2 ≤ t + k then up x g wu b (t + k - 2) n else 0

/-- The causal convolution of three taps. -/
def conv (b t n : ℕ) : EReal :=
  cb n + tap x g wu b t 0 n * cw 0 n + tap x g wu b t 1 n * cw 1 n + tap x g wu b t 2 n * cw 2 n

/-- The gated unit. -/
def act (b t n : ℕ) : EReal := gelu (conv x g wu cw cb b t n) * up x g wu b t (5632 + n)

/-- The part's output: the residual and the down projection. -/
def out (b t d : ℕ) : EReal := x b t d + ∑ n ∈ Finset.range 5632, act x g wu cw cb b t n * wd n d

end Layer

end Cert.FeedForward

end
-- ==== Proof.FfnOps.lean ====
/- The feed-forward kernel's operations at the extended reals, element by element. -/
module

public import proofs.«01_k».proof.Proof.FfnSpec
public import proofs.«01_k».proof.Proof.Gen.FfnIdeal.Skeleton
public import Idealize.ShloMosaic.Lib.WordCmp
public import Idealize.ShloMosaic.PureOps.Ideal.Laws

@[expose] public section

set_option maxRecDepth 16384

noncomputable section

namespace Cert.FfnIdeal.Gen

open Cert.FfnIdeal Idealize.ShloMosaic Idealize.ShloMosaic.ValueIdx Cert.FeedForward

/-- A one-axis contraction into zeros, as a sum over that axis. -/
theorem dot_sum {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) :
    matmul D none l r (constant so .f32 0x00000000#32) j = ∑ k, (l (L k) : EReal) * r (R k) := by
  refine (Ideal.matmul_constant_zero_apply D none l r j).trans ?_
  rw [← Equiv.sum_comp (contrEquiv1 D n hr hs).symm]
  exact Finset.sum_congr rfl fun k _ => by rw [hL, hR]

theorem cast32 {α : Type} {p q : ℕ} (x : (⟨3, ![1, p, q]⟩ : Shape).Idx → α) (h : (⟨3, ![1, p, q]⟩ : Shape).ShapeCasts ⟨2, ![p, q]⟩)
    (r : Fin p) (d : Fin q) : shapeCast (⟨2, ![p, q]⟩ : Shape) x h (ix2 r d) = x (ix3 (0 : Fin 1) r d) :=
  shapeCast_apply _ _ _ _ (by rw [Shape.rowMajor_val_three, Shape.rowMajor_val_two]; show (0 * p + r.val) * q + d.val = r.val * q + d.val; simp)

theorem cast23 {α : Type} {p q : ℕ} (x : (⟨2, ![p, q]⟩ : Shape).Idx → α) (h : (⟨2, ![p, q]⟩ : Shape).ShapeCasts ⟨3, ![1, p, q]⟩)
    (r : Fin p) (d : Fin q) : shapeCast (⟨3, ![1, p, q]⟩ : Shape) x h (ix3 (0 : Fin 1) r d) = x (ix2 r d) :=
  shapeCast_apply _ _ _ _ (by rw [Shape.rowMajor_val_three, Shape.rowMajor_val_two]; show r.val * q + d.val = (0 * p + r.val) * q + d.val; simp)

/-- Rounding to half width changes nothing at the extended reals. -/
theorem truncf_id {s : Shape} (x : FVec Ideal s .f32) (h : FTy.bits .bf16 < FTy.bits .f32) (i : s.Idx) : (truncf .bf16 x h i : EReal) = x i := rfl

/-- A point's rows, divided by their root mean squares. -/
theorem pay3_apply (x : Vec Ideal S1x512x2048 .f32) (g : Vec Ideal S1x2048 .f32) (r : Fin 512) (d : Fin 2048) :
    (k0_pay3 (F := Ideal) x g (ix2 r d) : EReal) = scaled (fun e => x (ix3 (0 : Fin 1) r e)) (fun e => g (ix2 (0 : Fin 1) e)) d := by
  unfold k0_pay3
  dsimp only
  rw [shapeCast_self]
  refine (truncf_id _ _ _).trans ((cast32 (α := EReal) _ _ r d).trans ?_)
  refine congrArg₂ (fun u w : EReal => u * w) (congrArg (fun u : EReal => (x (ix3 (0 : Fin 1) r d) : EReal) * u) ?_) ?_
  · refine (broadcastTo_apply _ _ _ (ix3 (0 : Fin 1) r (0 : Fin 1)) (fun a => by match a with | ⟨0, _⟩ => rfl | ⟨1, _⟩ => rfl | ⟨2, _⟩ => rfl)).trans ?_
    refine congrArg Ideal.rsqrt (congrArg (fun u : EReal => Ideal.div u (Ideal.ofBits .f32 0x45000000#32) + Ideal.ofBits .f32 0x358637BD#32) ?_)
    refine (shapeCast_apply _ _ _ (ix2 (0 : Fin 1) r) (by rw [Shape.rowMajor_val_three, Shape.rowMajor_val_two]; show _ = _; simp [ix2, ix3])).trans ?_
    refine (Ideal.multiReduction_add_single _ _ _ _ _ _).trans ?_
    refine Finset.sum_congr rfl fun e _ => ?_
    refine congrArg (fun k => (x k : EReal) * x k) (funext fun a => ?_)
    match a with
    | ⟨0, _⟩ => rfl
    | ⟨1, _⟩ => rfl
    | ⟨2, _⟩ => rfl
  · refine (broadcastTo_apply _ _ _ (ix3 (0 : Fin 1) (0 : Fin 1) d) (fun a => by match a with | ⟨0, _⟩ => rfl | ⟨1, _⟩ => rfl | ⟨2, _⟩ => rfl)).trans ?_
    refine (cast23 (α := EReal) _ _ (0 : Fin 1) d).trans ?_
    exact congrFun (shapeCast_self _ _) _

/-- The rows before the tile, divided by their root mean squares. -/
theorem pay5_apply (x : Vec Ideal S1x1x16x2048 .f32) (g : Vec Ideal S1x2048 .f32) (r : Fin 16) (d : Fin 2048) :
    (k0_pay5 (F := Ideal) (k0_pay4 x g) (ix2 r d) : EReal)
      = scaled (fun e => x (ix4 (0 : Fin 1) (0 : Fin 1) r e)) (fun e => g (ix2 (0 : Fin 1) e)) d := by
  have hc : ∀ e : Fin 2048, shapeCast S16x2048 x shapeCasts_S1x1x16x2048_S16x2048 (ix2 r e) = x (ix4 (0 : Fin 1) (0 : Fin 1) r e) := fun e =>
    shapeCast_apply _ _ _ _ (by rw [Shape.rowMajor_val_four, Shape.rowMajor_val_two]; show _ = _; simp [ix2, ix4])
  unfold k0_pay5 k0_pay4
  dsimp only
  rw [shapeCast_self]
  refine (truncf_id _ _ _).trans ?_
  refine congrArg₂ (fun u w : EReal => u * w) (congrArg₂ (fun u w : EReal => u * w) (hc d) ?_) ?_
  · refine (broadcastTo_apply _ _ _ (ix2 r (0 : Fin 1)) (fun a => by match a with | ⟨0, _⟩ => rfl | ⟨1, _⟩ => rfl)).trans ?_
    refine congrArg Ideal.rsqrt (congrArg (fun u : EReal => Ideal.div u (Ideal.ofBits .f32 0x45000000#32) + Ideal.ofBits .f32 0x358637BD#32) ?_)
    refine (shapeCast_apply _ _ _ (ix1 r) (by rw [Shape.rowMajor_val_one, Shape.rowMajor_val_two]; show _ = _; simp [ix1, ix2])).trans ?_
    refine (Ideal.multiReduction_add_single _ _ _ _ _ _).trans ?_
    refine Finset.sum_congr rfl fun e _ => ?_
    refine congrArg₂ (fun u w : EReal => u * w) ?_ ?_ <;>
    · refine Eq.trans (congrArg (shapeCast S16x2048 x shapeCasts_S1x1x16x2048_S16x2048) (funext fun a => ?_)) (hc e)
      match a with
      | ⟨0, _⟩ => rfl
      | ⟨1, _⟩ => rfl
  · refine (broadcastTo_apply _ _ _ (ix2 (0 : Fin 1) d) (fun a => by match a with | ⟨0, _⟩ => rfl | ⟨1, _⟩ => rfl)).trans ?_
    exact congrFun (shapeCast_self _ _) _

/-- The up projection of the rows of a point and of those before them. -/
theorem pay7_apply (h : Vec Ideal S528x2048 .bf16) (w : Vec Ideal S1x2048x512 .bf16) (r : Fin 528) (c : Fin 512) :
    (k0_pay7 (F := Ideal) h w (ix3 (0 : Fin 1) r c) : EReal) = ∑ d : Fin 2048, (h (ix2 r d) : EReal) * w (ix3 (0 : Fin 1) d c) := by
  unfold k0_pay7
  refine (cast23 (α := EReal) _ _ r c).trans ?_
  refine (dot_sum (φ₁ := .bf16) (φ₂ := .bf16) dot_S528x2048_S2048x512_S528x512_1_0_0_1_n_n 2048 rfl rfl _ _ _ (fun d => ix2 r d) (fun d => ix2 d c) (fun d => ?_) (fun d => ?_)).trans ?_
  · refine funext fun a => ?_
    match a with
    | ⟨0, _⟩ => rfl
    | ⟨1, _⟩ => rfl
  · refine funext fun a => ?_
    match a with
    | ⟨0, _⟩ => rfl
    | ⟨1, _⟩ => rfl
  · exact Finset.sum_congr rfl fun d _ => congrArg (fun u : EReal => (h (ix2 r d) : EReal) * u) (cast32 (α := EReal) _ _ d c)

/-- The gate's projection of the rows of a point. -/
theorem pay8_apply (h : Vec Ideal S528x2048 .bf16) (w : Vec Ideal S1x2048x512 .bf16) (r : Fin 512) (q : Fin 528) (hq : q.val = 16 + r.val) (c : Fin 512) :
    (k0_pay8 (F := Ideal) h w (ix3 (0 : Fin 1) r c) : EReal) = ∑ d : Fin 2048, (h (ix2 q d) : EReal) * w (ix3 (0 : Fin 1) d c) := by
  rw [← pay7_apply h w q c]
  unfold k0_pay8
  refine (extractStridedSlice_apply _ _ _ _ (ix3 (0 : Fin 1) q c) (fun a => ?_)).trans rfl
  match a with
  | ⟨0, _⟩ => rfl
  | ⟨1, _⟩ => exact hq
  | ⟨2, _⟩ => exact (Nat.zero_add _).symm

/-- A point's own rows of the up projection. -/
theorem pay13_apply (v : FVec Ideal S1x528x512 .f32) (r : Fin 512) (q : Fin 528) (hq : q.val = 16 + r.val) (c : Fin 512) :
    (k0_pay13 (F := Ideal) v (ix3 (0 : Fin 1) r c) : EReal) = v (ix3 (0 : Fin 1) q c) := by
  unfold k0_pay13
  rw [shapeCast_self]
  refine (extractStridedSlice_apply _ _ _ _ (ix3 (0 : Fin 1) q c) (fun a => ?_)).trans rfl
  match a with
  | ⟨0, _⟩ => rfl
  | ⟨1, _⟩ => exact hq
  | ⟨2, _⟩ => exact (Nat.zero_add _).symm

/-- The rows before a point's own: the state at the first tile, those projected otherwise. -/
theorem pay12_apply (n : ℕ) (hn : n < 8) (v : FVec Ideal S1x528x512 .f32) (s : Vec Ideal S1x16x512 .f32) (r : Fin 16) (q : Fin 528) (hq : q.val = r.val) (c : Fin 512) :
    (k0_pay12 (F := Ideal) (BitVec.ofNat 32 n) v s (ix3 (0 : Fin 1) r c) : EReal)
      = if n = 0 then (s (ix3 (0 : Fin 1) r c) : EReal) else v (ix3 (0 : Fin 1) q c) := by
  unfold k0_pay12
  rw [shapeCast_self, shapeCast_self]
  have hb : Scalar.cmpi .eq (BitVec.ofNat 32 n) 0#32 = BitVec.ofBool (decide (n = 0)) := by
    interval_cases n <;> rfl
  rw [hb, WordCmp.select_decide]
  split
  · rfl
  · refine (extractStridedSlice_apply _ _ _ _ (ix3 (0 : Fin 1) q c) (fun a => ?_)).trans rfl
    match a with
    | ⟨0, _⟩ => rfl
    | ⟨1, _⟩ => exact (by show q.val = 0 + r.val; omega)
    | ⟨2, _⟩ => exact (Nat.zero_add _).symm

theorem row_apply (w : Vec Ideal S1x512 .f32) (h : S1x512.ShapeCasts S1x1x512) (r : Fin 512) (c : Fin 512) :
    (broadcastTo S1x512x512 (shapeCast S1x1x512 w h) broadcasts_S1x1x512_S1x512x512 (ix3 (0 : Fin 1) r c) : EReal) = w (ix2 (0 : Fin 1) c) := by
  refine (broadcastTo_apply _ _ _ (ix3 (0 : Fin 1) (0 : Fin 1) c) (fun a => by match a with | ⟨0, _⟩ => rfl | ⟨1, _⟩ => rfl | ⟨2, _⟩ => rfl)).trans ?_
  exact cast23 (α := EReal) _ _ (0 : Fin 1) c

/-- The convolution's bias and first tap. -/
theorem pay14_apply (b : Vec Ideal S1x512 .f32) (a : Vec Ideal S1x512x512 .f32) (w : Vec Ideal S1x512 .f32) (r c : Fin 512) :
    (k0_pay14 (F := Ideal) b a w (ix3 (0 : Fin 1) r c) : EReal)
      = (b (ix2 (0 : Fin 1) c) : EReal) + (a (ix3 (0 : Fin 1) r c) : EReal) * w (ix2 (0 : Fin 1) c) := by
  unfold k0_pay14
  refine congrArg₂ (fun u v : EReal => u + v) ?_ (congrArg (fun u : EReal => (a (ix3 (0 : Fin 1) r c) : EReal) * u) (row_apply _ _ r c))
  refine (row_apply _ _ r c).trans ?_
  exact congrFun (shapeCast_self _ _) _

/-- The gated unit of a point's block of lanes. -/
theorem pay16_apply (gt v a1 : FVec Ideal S1x512x512 .f32) (w1 : Vec Ideal S1x512 .f32) (a2 : Vec Ideal S1x512x512 .f32) (w2 : Vec Ideal S1x512 .f32) (r c : Fin 512) :
    (k0_pay16 (F := Ideal) gt v a1 (k0_pay15 w1) a2 w2 (ix3 (0 : Fin 1) r c) : EReal)
      = gelu ((v (ix3 (0 : Fin 1) r c) : EReal) + (a1 (ix3 (0 : Fin 1) r c) : EReal) * w1 (ix2 (0 : Fin 1) c)
          + (a2 (ix3 (0 : Fin 1) r c) : EReal) * w2 (ix2 (0 : Fin 1) c)) * gt (ix3 (0 : Fin 1) r c) := by
  unfold k0_pay16 k0_pay15
  dsimp only
  refine (cast23 (α := EReal) _ _ r c).trans ((truncf_id _ _ _).trans ((cast32 (α := EReal) _ _ r c).trans ?_))
  refine congrArg (fun u : EReal => gelu u * (gt (ix3 (0 : Fin 1) r c) : EReal)) ?_
  exact congrArg₂ (fun u v' : EReal => (v (ix3 (0 : Fin 1) r c) : EReal) + (a1 (ix3 (0 : Fin 1) r c) : EReal) * u + (a2 (ix3 (0 : Fin 1) r c) : EReal) * v')
    (row_apply _ _ r c) (row_apply _ _ r c)

/-- A running output with one block's down projection added. -/
theorem pay11_apply (o : Vec Ideal S1x512x2048 .f32) (y : Vec Ideal S1x512x512 .bf16) (w : Vec Ideal S1x512x2048 .bf16) (r : Fin 512) (d : Fin 2048) :
    (k0_pay11 (F := Ideal) (k0_pay9 o) (k0_pay10 y) w (ix3 (0 : Fin 1) r d) : EReal)
      = (o (ix3 (0 : Fin 1) r d) : EReal) + ∑ c : Fin 512, (y (ix3 (0 : Fin 1) r c) : EReal) * w (ix3 (0 : Fin 1) c d) := by
  unfold k0_pay11 k0_pay9 k0_pay10
  dsimp only
  rw [shapeCast_self]
  refine congrArg (fun u : EReal => (o (ix3 (0 : Fin 1) r d) : EReal) + u) ?_
  refine (cast23 (α := EReal) _ _ r d).trans ?_
  refine (dot_sum (φ₁ := .bf16) (φ₂ := .bf16) dot_S512x512_S512x2048_S512x2048_1_0_0_1_n_n 512 rfl rfl _ _ _ (fun c => ix2 r c) (fun c => ix2 c d) (fun c => ?_) (fun c => ?_)).trans ?_
  · refine funext fun a => ?_
    match a with
    | ⟨0, _⟩ => rfl
    | ⟨1, _⟩ => rfl
  · refine funext fun a => ?_
    match a with
    | ⟨0, _⟩ => rfl
    | ⟨1, _⟩ => rfl
  · exact Finset.sum_congr rfl fun c _ => congrArg₂ (fun u v : EReal => u * v) (cast32 (α := EReal) _ _ r c) (cast32 (α := EReal) _ _ c d)

theorem pay2_apply (o : Vec Ideal S1x512x2048 .f32) (y : Vec Ideal S1x512x512 .bf16) (w : Vec Ideal S1x512x2048 .bf16) (r : Fin 512) (d : Fin 2048) :
    (k0_pay2 (F := Ideal) o y w (ix3 (0 : Fin 1) r d) : EReal)
      = (o (ix3 (0 : Fin 1) r d) : EReal) + ∑ c : Fin 512, (y (ix3 (0 : Fin 1) r c) : EReal) * w (ix3 (0 : Fin 1) c d) :=
  pay11_apply o y w r d

/-- The first point's slot of zeros. -/
theorem pay6_apply (r c : Fin 512) : (k0_pay6 (F := Ideal) (ix3 (0 : Fin 1) r c) : EReal) = 0 := by
  unfold k0_pay6
  refine (cast23 (α := EReal) _ _ r c).trans ?_
  show Ideal.ofBits .bf16 0x0000#16 = 0
  simp [Ideal.ofBits, Ideal.ieee]

/-- The last rows of the up projection, as stored. -/
theorem pay1_apply (v : Vec Ideal S1x8x512 .f32) (r : Fin 8) (c : Fin 512) :
    (k0_pay1 (F := Ideal) v (ix4 (0 : Fin 1) (0 : Fin 1) r c) : EReal) = v (ix3 (0 : Fin 1) r c) := by
  unfold k0_pay1
  exact shapeCast_apply _ _ _ _ (by rw [Shape.rowMajor_val_three, Shape.rowMajor_val_four]; show _ = _; simp [ix3, ix4])

end Cert.FfnIdeal.Gen

end
-- ==== Proof.FfnTile.lean ====
/- What one grid point of the feed-forward kernel stores, entry by entry at the extended reals: the up projection of its rows,
   the gated unit of its lanes, and the running output, each as the specification names it. -/
module

public import proofs.«01_k».proof.Proof.FfnBody
public import proofs.«01_k».proof.Proof.FfnOps

@[expose] public section

set_option maxRecDepth 16384

noncomputable section

namespace Cert.FfnIdeal.Gen

open Cert.FfnIdeal Idealize.ShloMosaic Idealize.ShloMosaic.ValueIdx Cert.FeedForward

section Windows

variable {α : Type}

theorem window2 {n m p w : ℕ} (x : (⟨2, ![n, m]⟩ : Shape).Idx → α) (off : Fin 2 → ℕ)
    (inb : ∀ a, off a + (⟨2, ![p, w]⟩ : Shape).size a ≤ (⟨2, ![n, m]⟩ : Shape).size a) (r : Fin p) (c : Fin w) (r' : Fin n) (c' : Fin m)
    (h0 : off 0 + r.val = r'.val) (h1 : off 1 + c.val = c'.val) :
    VecWindow.window (s := ⟨2, ![n, m]⟩) x off (⟨2, ![p, w]⟩ : Shape).size inb (ix2 r c) = x (ix2 r' c') := by
  refine congrArg x (funext fun a => Fin.ext ?_)
  match a with
  | ⟨0, _⟩ => exact (by show off 0 + 1 * r.val = r'.val; omega)
  | ⟨1, _⟩ => exact (by show off 1 + 1 * c.val = c'.val; omega)

theorem put2_in {n m p w : ℕ} (x : (⟨2, ![n, m]⟩ : Shape).Idx → α) (off : Fin 2 → ℕ) (y : (⟨2, ![p, w]⟩ : Shape).Idx → α)
    (r : Fin p) (c : Fin w) (r' : Fin n) (c' : Fin m) (h0 : off 0 + r.val = r'.val) (h1 : off 1 + c.val = c'.val) :
    VecWindow.put (s := ⟨2, ![n, m]⟩) x off (⟨2, ![p, w]⟩ : Shape).size y (ix2 r' c') = y (ix2 r c) := by
  unfold VecWindow.put
  have h : ∀ a : Fin 2, off a ≤ ((ix2 r' c' : (⟨2, ![n, m]⟩ : Shape).Idx) a).val
      ∧ ((ix2 r' c' : (⟨2, ![n, m]⟩ : Shape).Idx) a).val < off a + (⟨2, ![p, w]⟩ : Shape).size a := fun a => by
    match a with
    | ⟨0, _⟩ => exact (by show off 0 ≤ r'.val ∧ r'.val < off 0 + p; have := r.isLt; omega)
    | ⟨1, _⟩ => exact (by show off 1 ≤ c'.val ∧ c'.val < off 1 + w; have := c.isLt; omega)
  rw [dif_pos h]
  refine congrArg y (funext fun a => Fin.ext ?_)
  match a with
  | ⟨0, _⟩ => exact (by show r'.val - off 0 = r.val; omega)
  | ⟨1, _⟩ => exact (by show c'.val - off 1 = c.val; omega)

theorem put2_out {n m p w : ℕ} (x : (⟨2, ![n, m]⟩ : Shape).Idx → α) (off : Fin 2 → ℕ) (y : (⟨2, ![p, w]⟩ : Shape).Idx → α)
    (r' : Fin n) (c' : Fin m) (h : ¬((off 0 ≤ r'.val ∧ r'.val < off 0 + p) ∧ off 1 ≤ c'.val ∧ c'.val < off 1 + w)) :
    VecWindow.put (s := ⟨2, ![n, m]⟩) x off (⟨2, ![p, w]⟩ : Shape).size y (ix2 r' c') = x (ix2 r' c') := by
  unfold VecWindow.put
  exact dif_neg fun hall => h ⟨hall 0, hall 1⟩

theorem window3 {n m p w v : ℕ} (x : (⟨3, ![n, m, v]⟩ : Shape).Idx → α) (off : Fin 3 → ℕ)
    (inb : ∀ a, off a + (⟨3, ![1, p, w]⟩ : Shape).size a ≤ (⟨3, ![n, m, v]⟩ : Shape).size a) (r : Fin p) (c : Fin w) (j : Fin n) (r' : Fin m) (c' : Fin v)
    (h0 : off 0 = j.val) (h1 : off 1 + r.val = r'.val) (h2 : off 2 + c.val = c'.val) :
    VecWindow.window (s := ⟨3, ![n, m, v]⟩) x off (⟨3, ![1, p, w]⟩ : Shape).size inb (ix3 (0 : Fin 1) r c) = x (ix3 j r' c') := by
  refine congrArg x (funext fun a => Fin.ext ?_)
  match a with
  | ⟨0, _⟩ => exact (by show off 0 + 1 * 0 = j.val; omega)
  | ⟨1, _⟩ => exact (by show off 1 + 1 * r.val = r'.val; omega)
  | ⟨2, _⟩ => exact (by show off 2 + 1 * c.val = c'.val; omega)

theorem put3_in {n m p w v : ℕ} (x : (⟨3, ![n, m, v]⟩ : Shape).Idx → α) (off : Fin 3 → ℕ) (y : (⟨3, ![1, p, w]⟩ : Shape).Idx → α)
    (r : Fin p) (c : Fin w) (j : Fin n) (r' : Fin m) (c' : Fin v) (h0 : off 0 = j.val) (h1 : off 1 + r.val = r'.val) (h2 : off 2 + c.val = c'.val) :
    VecWindow.put (s := ⟨3, ![n, m, v]⟩) x off (⟨3, ![1, p, w]⟩ : Shape).size y (ix3 j r' c') = y (ix3 (0 : Fin 1) r c) := by
  unfold VecWindow.put
  have h : ∀ a : Fin 3, off a ≤ ((ix3 j r' c' : (⟨3, ![n, m, v]⟩ : Shape).Idx) a).val
      ∧ ((ix3 j r' c' : (⟨3, ![n, m, v]⟩ : Shape).Idx) a).val < off a + (⟨3, ![1, p, w]⟩ : Shape).size a := fun a => by
    match a with
    | ⟨0, _⟩ => exact (by show off 0 ≤ j.val ∧ j.val < off 0 + 1; omega)
    | ⟨1, _⟩ => exact (by show off 1 ≤ r'.val ∧ r'.val < off 1 + p; have := r.isLt; omega)
    | ⟨2, _⟩ => exact (by show off 2 ≤ c'.val ∧ c'.val < off 2 + w; have := c.isLt; omega)
  rw [dif_pos h]
  refine congrArg y (funext fun a => Fin.ext ?_)
  match a with
  | ⟨0, _⟩ => exact (by show j.val - off 0 = 0; omega)
  | ⟨1, _⟩ => exact (by show r'.val - off 1 = r.val; omega)
  | ⟨2, _⟩ => exact (by show c'.val - off 2 = c.val; omega)

theorem put3_out {n m p w v : ℕ} (x : (⟨3, ![n, m, v]⟩ : Shape).Idx → α) (off : Fin 3 → ℕ) (y : (⟨3, ![1, p, w]⟩ : Shape).Idx → α)
    (j : Fin n) (r' : Fin m) (c' : Fin v) (h : ¬(off 1 ≤ r'.val ∧ r'.val < off 1 + p)) :
    VecWindow.put (s := ⟨3, ![n, m, v]⟩) x off (⟨3, ![1, p, w]⟩ : Shape).size y (ix3 j r' c') = x (ix3 j r' c') := by
  unfold VecWindow.put
  exact dif_neg fun hall => h (hall 1)

end Windows

section Tile

/- The input, its gain, the projections and the convolution's weights, and the point's batch, tile of rows and block of lanes. -/
variable (x : ℕ → ℕ → ℕ → EReal) (g : ℕ → EReal) (wu : ℕ → ℕ → EReal) (cw : ℕ → ℕ → EReal) (cb : ℕ → EReal) (wd : ℕ → ℕ → EReal) (b i f : ℕ)

/-- The rows a point's projections read. -/
def HInv (h : Vec Ideal S528x2048 .bf16) : Prop :=
  ∀ (q : Fin 528) (d : Fin 2048), 16 ≤ 512 * i + q.val →
    (h (ix2 q d) : EReal) = scaled (fun e => x b (512 * i + q.val - 16) e.val) (fun e => g e.val) d

/-- A slot holding the gated units of block `n` of the lanes. -/
def YInv (n : ℕ) (y : Vec Ideal S1x512x512 .bf16) : Prop :=
  ∀ r c : Fin 512, (y (ix3 (0 : Fin 1) r c) : EReal) = act x g wu cw cb b (512 * i + r.val) (512 * n + c.val)

/-- The running output after the first `K` lanes. -/
def OInv (K : ℕ) (o : Vec Ideal S1x512x2048 .f32) : Prop :=
  ∀ (r : Fin 512) (d : Fin 2048), (o (ix3 (0 : Fin 1) r d) : EReal)
    = x b (512 * i + r.val) d.val + ∑ n ∈ Finset.range K, act x g wu cw cb b (512 * i + r.val) n * wd n d.val

theorem hTile_inv (x0 : Vec Ideal S1x512x2048 .f32) (x1 : Vec Ideal S1x1x16x2048 .f32) (x3 : Vec Ideal S1x2048 .f32)
    (hx : ∀ (r : Fin 512) (e : Fin 2048), (x0 (ix3 (0 : Fin 1) r e) : EReal) = x b (512 * i + r.val) e.val)
    (hxh : 1 ≤ i → ∀ (r : Fin 16) (e : Fin 2048), (x1 (ix4 (0 : Fin 1) (0 : Fin 1) r e) : EReal) = x b (512 * i + r.val - 16) e.val)
    (hg : ∀ e : Fin 2048, (x3 (ix2 (0 : Fin 1) e) : EReal) = g e.val) : HInv x g b i (hTile x0 x1 x3) := by
  intro q d hq
  have hql := q.isLt
  unfold hTile
  by_cases h : q.val < 16
  · refine (put2_in (n := 528) (m := 2048) (p := 16) (w := 2048) _ ![0, 0] _ ⟨q.val, h⟩ d q d (by show 0 + q.val = _; omega) (by show 0 + d.val = _; omega)).trans ?_
    refine (pay5_apply _ _ _ _).trans ?_
    simp only [hg, hxh (by omega)]
  · refine (put2_out (n := 528) (m := 2048) (p := 16) (w := 2048) _ ![0, 0] _ q d (fun hh => h (by have : q.val < 0 + 16 := hh.1.2; omega))).trans ?_
    refine (put2_in (n := 528) (m := 2048) (p := 512) (w := 2048) _ ![16, 0] _ ⟨q.val - 16, by omega⟩ d q d (by show 16 + (q.val - 16) = _; omega) (by show 0 + d.val = _; omega)).trans ?_
    refine (pay3_apply _ _ _ _).trans ?_
    simp only [hg, hx]
    rw [show 512 * i + (q.val - 16) = 512 * i + q.val - 16 by omega]

variable (h : Vec Ideal S528x2048 .bf16) (x2 : Vec Ideal S1x16x512 .f32) (x4 x5 : Vec Ideal S1x2048x512 .bf16) (x6 : Vec Ideal S3x512 .f32)
  (x7 : Vec Ideal S1x512 .f32) (x8 x9 : Vec Ideal S1x512x2048 .bf16)
  (hh : HInv x g b i h)
  (hst : ∀ (r : Fin 16) (c : Fin 512), (x2 (ix3 (0 : Fin 1) r c) : EReal) = 0)
  (hwa : ∀ (d : Fin 2048) (c : Fin 512), (x4 (ix3 (0 : Fin 1) d c) : EReal) = wu d.val (512 * f + c.val))
  (hwg : ∀ (d : Fin 2048) (c : Fin 512), (x5 (ix3 (0 : Fin 1) d c) : EReal) = wu d.val (5632 + (512 * f + c.val)))
  (hcw : ∀ (k : Fin 3) (c : Fin 512), (x6 (ix2 k c) : EReal) = cw k.val (512 * f + c.val))
  (hcb : ∀ c : Fin 512, (x7 (ix2 (0 : Fin 1) c) : EReal) = cb (512 * f + c.val))

include hh hst hwa

/-- The stored up projection: zero before the start. -/
theorem aTile_apply (hi : i < 8) (q : Fin 528) (c : Fin 512) :
    (aTile (F := Ideal) i h x4 x2 (ix3 (0 : Fin 1) q c) : EReal)
      = if 16 ≤ 512 * i + q.val then up x g wu b (512 * i + q.val - 16) (512 * f + c.val) else 0 := by
  have hql := q.isLt
  have hup : 16 ≤ 512 * i + q.val → (k0_pay7 (F := Ideal) h x4 (ix3 (0 : Fin 1) q c) : EReal) = up x g wu b (512 * i + q.val - 16) (512 * f + c.val) := fun hq => by
    rw [pay7_apply, up]
    exact Finset.sum_congr rfl fun d _ => by rw [hh q d hq, hwa]
  unfold aTile
  by_cases hq : q.val < 16
  · refine (put3_out (n := 1) (m := 528) (v := 512) (p := 512) (w := 512) _ ![0, 16, 0] _ (0 : Fin 1) q c (fun h' => by have : 16 ≤ q.val := h'.1; omega)).trans ?_
    refine (put3_in (n := 1) (m := 528) (v := 512) (p := 16) (w := 512) _ ![0, 0, 0] _ ⟨q.val, hq⟩ c (0 : Fin 1) q c rfl (by show 0 + q.val = _; omega) (by show 0 + c.val = _; omega)).trans ?_
    refine (pay12_apply i hi _ _ _ q rfl c).trans ?_
    by_cases h0 : i = 0
    · rw [if_pos h0, if_neg (by omega), hst]
    · rw [if_neg h0, if_pos (by omega), hup (by omega)]
  · refine (put3_in (n := 1) (m := 528) (v := 512) (p := 512) (w := 512) _ ![0, 16, 0] _ ⟨q.val - 16, by omega⟩ c (0 : Fin 1) q c rfl
      (by show 16 + (q.val - 16) = _; omega) (by show 0 + c.val = _; omega)).trans ?_
    refine (pay13_apply _ _ q (by show q.val = 16 + (q.val - 16); omega) c).trans ?_
    rw [if_pos (by omega), hup (by omega)]

/-- A shifted window of the stored up projection is a tap. -/
theorem tap_apply (hi : i < 8) (k : ℕ) (off : Fin 3 → ℕ) (inb) (ho0 : off 0 = 0) (ho1 : off 1 = 14 + k) (ho2 : off 2 = 0) (hk : k < 3) (r c : Fin 512) :
    (VecWindow.window (s := S1x528x512) (aTile (F := Ideal) i h x4 x2) off S1x512x512.size inb (ix3 (0 : Fin 1) r c) : EReal)
      = tap x g wu b (512 * i + r.val) k (512 * f + c.val) := by
  have hr := r.isLt
  refine (window3 (n := 1) (m := 528) (v := 512) (p := 512) (w := 512) _ off inb r c (0 : Fin 1) ⟨14 + k + r.val, by omega⟩ c (by rw [ho0]; rfl)
    (by show off 1 + r.val = 14 + k + r.val; rw [ho1]) (by rw [ho2]; omega)).trans ?_
  refine (aTile_apply x g wu b i f h x2 x4 hh hst hwa hi _ c).trans ?_
  unfold tap
  dsimp only
  by_cases hc : 2 ≤ 512 * i + r.val + k
  · rw [if_pos hc, if_pos (by omega)]
    congr 1
    omega
  · rw [if_neg hc, if_neg (by omega)]

/-- The stored last rows of the up projection. -/
theorem tail_apply (hi : i < 8) (r : Fin 8) (c : Fin 512) :
    (tail (F := Ideal) (aTile i h x4 x2) (ix4 (0 : Fin 1) (0 : Fin 1) r c) : EReal) = up x g wu b (512 * i + 504 + r.val) (512 * f + c.val) := by
  have hr := r.isLt
  unfold tail
  refine (pay1_apply _ _ _).trans ?_
  refine (window3 (n := 1) (m := 528) (v := 512) (p := 8) (w := 512) _ ![0, 520, 0] _ r c (0 : Fin 1) ⟨520 + r.val, by omega⟩ c rfl rfl (by show 0 + c.val = _; omega)).trans ?_
  refine (aTile_apply x g wu b i f h x2 x4 hh hst hwa hi _ c).trans ?_
  dsimp only
  rw [if_pos (by omega)]
  congr 1
  omega

include hwg hcw hcb

/-- The stored gated units. -/
theorem yTile_inv (gi : grid0.Coords) (hgi : (gi 1).val = i) : YInv x g wu cw cb b i f (yTile (F := Ideal) gi h x2 x4 x5 x6 x7) := by
  have hi : i < 8 := by rw [← hgi]; exact (gi 1).isLt
  intro r c
  have hr := r.isLt
  unfold yTile
  rw [hgi]
  refine (pay16_apply _ _ _ _ _ _ r c).trans ?_
  have t2 := tap_apply x g wu b i f h x2 x4 hh hst hwa hi 2 ![0, 16, 0] inb_S1x528x512_S1x512x512_0_16_0 rfl rfl rfl (by omega) r c
  have t1 := tap_apply x g wu b i f h x2 x4 hh hst hwa hi 1 ![0, 15, 0] inb_S1x528x512_S1x512x512_0_15_0 rfl rfl rfl (by omega) r c
  have t0 := tap_apply x g wu b i f h x2 x4 hh hst hwa hi 0 ![0, 14, 0] inb_S1x528x512_S1x512x512_0_14_0 rfl rfl rfl (by omega) r c
  have w2 := window2 (n := 3) (m := 512) (p := 1) (w := 512) x6 ![2, 0] inb_S3x512_S1x512_2_0 (0 : Fin 1) c (2 : Fin 3) c rfl (by show 0 + c.val = _; omega)
  have w1 := window2 (n := 3) (m := 512) (p := 1) (w := 512) x6 ![1, 0] inb_S3x512_S1x512_1_0 (0 : Fin 1) c (1 : Fin 3) c rfl (by show 0 + c.val = _; omega)
  have w0 := window2 (n := 3) (m := 512) (p := 1) (w := 512) x6 ![0, 0] inb_S3x512_S1x512_0_0 (0 : Fin 1) c (0 : Fin 3) c rfl (by show 0 + c.val = _; omega)
  have hgate : (k0_pay8 (F := Ideal) h x5 (ix3 (0 : Fin 1) r c) : EReal) = up x g wu b (512 * i + r.val) (5632 + (512 * f + c.val)) := by
    rw [pay8_apply h x5 r ⟨16 + r.val, by omega⟩ rfl c, up]
    refine Finset.sum_congr rfl fun d _ => ?_
    rw [hh _ d (by show 16 ≤ 512 * i + (16 + r.val); omega), hwg]
    rw [show 512 * i + (16 + r.val) - 16 = 512 * i + r.val by omega]
  rw [pay14_apply, hgate]
  unfold act conv
  refine congrArg (fun u : EReal => gelu u * up x g wu b (512 * i + r.val) (5632 + (512 * f + c.val))) ?_
  refine (congrArg₂ (fun u v : EReal => u + v) (congrArg₂ (fun u v : EReal => u + v) (congrArg₂ (fun u v : EReal => u + v) (hcb c)
    (congrArg₂ (fun u v : EReal => u * v) t2 (w2.trans (hcw 2 c)))) (congrArg₂ (fun u v : EReal => u * v) t1 (w1.trans (hcw 1 c))))
    (congrArg₂ (fun u v : EReal => u * v) t0 (w0.trans (hcw 0 c)))).trans ?_
  show _ + _ * cw 2 _ + _ * cw 1 _ + _ * cw 0 _ = _
  abel

omit hh hst hwa hwg hcw hcb

/-- A block of lanes' down projection carries the running output over it. -/
theorem step_inv (n : ℕ) (o : Vec Ideal S1x512x2048 .f32) (y : Vec Ideal S1x512x512 .bf16) (w : Vec Ideal S1x512x2048 .bf16)
    (ho : OInv x g wu cw cb wd b i (512 * n) o) (hy : YInv x g wu cw cb b i n y)
    (hw : ∀ (c : Fin 512) (d : Fin 2048), (w (ix3 (0 : Fin 1) c d) : EReal) = wd (512 * n + c.val) d.val) :
    OInv x g wu cw cb wd b i (512 * (n + 1)) (step (F := Ideal) o y w) := by
  intro r d
  unfold step
  refine (pay11_apply _ _ _ r d).trans ?_
  rw [ho r d, show 512 * (n + 1) = 512 * n + 512 by omega, Finset.sum_range_add, ← add_assoc]
  refine congrArg₂ (fun u v : EReal => u + v) rfl ?_
  rw [Finset.sum_range]
  exact Finset.sum_congr rfl fun c _ => by rw [hy, hw]

/-- The first point adds zeros. -/
theorem step_zero (x0 : Vec Ideal S1x512x2048 .f32) (w : Vec Ideal S1x512x2048 .bf16)
    (hx : ∀ (r : Fin 512) (e : Fin 2048), (x0 (ix3 (0 : Fin 1) r e) : EReal) = x b (512 * i + r.val) e.val) :
    OInv x g wu cw cb wd b i 0 (step (F := Ideal) x0 (k0_pay6 (F := Ideal)) w) := by
  intro r d
  unfold step
  refine (pay11_apply _ _ _ r d).trans ?_
  rw [hx, Finset.range_zero, Finset.sum_empty]
  refine congrArg (fun u : EReal => _ + u) ?_
  exact Finset.sum_eq_zero fun c _ => by rw [pay6_apply, zero_mul]

end Tile

end Cert.FfnIdeal.Gen

end
-- ==== Proof.FfnValue.lean ====
/- The feed-forward call: what each point writes back to the two result arrays, and the run with both arrays named. -/
module

public import proofs.«01_k».proof.Proof.FfnRun
public import Idealize.ShloMosaic.Lib.Pipeline.Value

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the run's contents for that window after the body (`Gen.outsAt0`: its component 0), read through the window's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 11 = 0) (h1 : ¬t.val % 11 = 10) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 11 = 0) (h1 : ¬t.val % 11 = 10) (h2 : (t.val % 11 = 1 ∨ t.val % 11 = 3 ∨ t.val % 11 = 5 ∨ t.val % 11 = 7 ∨ t.val % 11 = 9)) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed10, outsAt0_B m c t h0 h1 h2]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 11 = 0) (h1 : ¬t.val % 11 = 10) (h2 : ¬(t.val % 11 = 1 ∨ t.val % 11 = 3 ∨ t.val % 11 = 5 ∨ t.val % 11 = 7 ∨ t.val % 11 = 9)) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed10, outsAt0_C m c t h0 h1 h2]

/-- … so at a point where case D runs, what its write-back would write is that case's NAMED TERM for the window (`Gen.out0_D_10`: the pieces
    its run found, read back) at the point's memrefs and input blocks, and for an output the case reads back what the point before left (`Gen.outsAt0` at `t - 1`) — by the frame's rewriting lemma for the case. -/
theorem flushed10_D (c : Dev nD) (t : Fin cfg0.N) (h0 : ¬t.val % 11 = 0) (h1 : t.val % 11 = 10) (h2 : ¬(t.val % 11 = 1 ∨ t.val % 11 = 3 ∨ t.val % 11 = 5 ∨ t.val % 11 = 7 ∨ t.val % 11 = 9)) :
    (dats m 0 c).flushed 10 t = (cfg0.win 10).cut (grid0.coords t) (out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed10, outsAt0_D m c t h0 h1 h2]

/-- An index that no flushing point's block covers keeps output window 10's array contents at region entry. -/
theorem entry10 (c : Dev nD) (i : S2x4096x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 1), read through the window's block. -/
theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 11 = 0) (h1 : ¬t.val % 11 = 10) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) (fun h => h1 ((hcond0_1 t).mp h)) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 11 = 0) (h1 : ¬t.val % 11 = 10) (h2 : (t.val % 11 = 1 ∨ t.val % 11 = 3 ∨ t.val % 11 = 5 ∨ t.val % 11 = 7 ∨ t.val % 11 = 9)) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (hoff0_k0_off1_c2 t h2) (hoff0_k0_off2_c2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed11, outsAt0_B m c t h0 h1 h2]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 11 = 0) (h1 : ¬t.val % 11 = 10) (h2 : ¬(t.val % 11 = 1 ∨ t.val % 11 = 3 ∨ t.val % 11 = 5 ∨ t.val % 11 = 7 ∨ t.val % 11 = 9)) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (hoff0_k0_off1_n2 t h2) (hoff0_k0_off2_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed11, outsAt0_C m c t h0 h1 h2]

/-- … so at a point where case D runs, what its write-back would write is that case's NAMED TERM for the window (`Gen.out0_D_11`: the pieces
    its run found, read back) at the point's memrefs and input blocks, and for an output the case reads back what the point before left (`Gen.outsAt0` at `t - 1`) — by the frame's rewriting lemma for the case. -/
theorem flushed11_D (c : Dev nD) (t : Fin cfg0.N) (h0 : ¬t.val % 11 = 0) (h1 : t.val % 11 = 10) (h2 : ¬(t.val % 11 = 1 ∨ t.val % 11 = 3 ∨ t.val % 11 = 5 ∨ t.val % 11 = 7 ∨ t.val % 11 = 9)) :
    (dats m 0 c).flushed 11 t = (cfg0.win 11).cut (grid0.coords t) (out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (hoff0_k0_off1_n2 t h2) (hoff0_k0_off2_n2 t h2) (hoff0_k0_off3_n2 t h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed11, outsAt0_D m c t h0 h1 h2]

/-- The index map sends distinct grid points to distinct block indices (decided over the 176 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S2x8x8x5632.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v12_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v12_1) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v12_0) = (dats m 0 c).arrAt 10 cfg0.N
      ∧ r.2.mem ((c : Thread nD τ).loc main_v12_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post10 m r h c,
      post11 m r h c,
      kept_main_arg0 m r h c,
      kept_main_arg1 m r h c,
      kept_main_arg2 m r h c,
      kept_main_arg3 m r h c,
      kept_main_arg4 m r h c,
      kept_main_arg5 m r h c⟩)
    (run_main m ρ)

end Cert.FfnIdeal.Value

end
-- ==== Proof.FfnBlocks.lean ====
/- What a grid point of the feed-forward kernel finds in its windows: blocks of the arguments, the rows before its tile, and a
   state of zeros. -/
module

public import proofs.«01_k».proof.Proof.FfnTile
public import proofs.«01_k».proof.Proof.FfnValue
public import Idealize.ShloMosaic.Lib.Pipeline.Value
public import Idealize.ShloMosaic.Lib.KernelVsHost
public import Idealize.ShloMosaic.Lib.StableHlo.Run

@[expose] public section

set_option maxRecDepth 16384

noncomputable section

namespace Cert.FfnIdeal.Gen

open Cert.FfnIdeal Idealize.ShloMosaic Idealize.ShloMosaic.TcCoe Idealize.ShloMosaic.ValueIdx Idealize.SL Idealize.SL.Sem Cert.FeedForward
open Idealize.ShloMosaic.Pipeline (Dat)

/-! ## The grid -/

theorem point_lt (t : Fin cfg0.N) : t.val < 176 := lt_of_lt_of_eq t.isLt N_0

/-- A grid point's tile. -/
theorem coord1 : ∀ t : Fin cfg0.N, (grid0.coords t 1).val = t.val / 11 % 8 :=
  (by decide +kernel : ∀ t : Fin grid0.N, (grid0.coords t 1).val = t.val / 11 % 8)

theorem index0 : ∀ t : Fin cfg0.N, win0_0.index t 0 * win0_0.size 0 = t.val / 88 ∧ win0_0.index t 1 * win0_0.size 1 = t.val / 11 % 8 * 512 ∧ win0_0.index t 2 * win0_0.size 2 = 0 :=
  (by decide +kernel : ∀ t : Fin grid0.N, win0_0.index t 0 * win0_0.size 0 = t.val / 88 ∧ win0_0.index t 1 * win0_0.size 1 = t.val / 11 % 8 * 512 ∧ win0_0.index t 2 * win0_0.size 2 = 0)
theorem index1 : ∀ t : Fin cfg0.N, win0_1.index t 0 * win0_1.size 0 = t.val / 88 ∧ win0_1.index t 1 * win0_1.size 1 = t.val / 11 % 8 ∧ win0_1.index t 2 * win0_1.size 2 = 0 ∧ win0_1.index t 3 * win0_1.size 3 = 0 :=
  (by decide +kernel : ∀ t : Fin grid0.N, win0_1.index t 0 * win0_1.size 0 = t.val / 88 ∧ win0_1.index t 1 * win0_1.size 1 = t.val / 11 % 8 ∧ win0_1.index t 2 * win0_1.size 2 = 0 ∧ win0_1.index t 3 * win0_1.size 3 = 0)
theorem index3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem index4 : ∀ t : Fin cfg0.N, win0_4.index t 0 * win0_4.size 0 = 0 ∧ win0_4.index t 1 * win0_4.size 1 = 0 ∧ win0_4.index t 2 * win0_4.size 2 = 512 * (t.val % 11) :=
  (by decide +kernel : ∀ t : Fin grid0.N, win0_4.index t 0 * win0_4.size 0 = 0 ∧ win0_4.index t 1 * win0_4.size 1 = 0 ∧ win0_4.index t 2 * win0_4.size 2 = 512 * (t.val % 11))
theorem index5 : ∀ t : Fin cfg0.N, win0_5.index t 0 * win0_5.size 0 = 0 ∧ win0_5.index t 1 * win0_5.size 1 = 0 ∧ win0_5.index t 2 * win0_5.size 2 = 5632 + 512 * (t.val % 11) :=
  (by decide +kernel : ∀ t : Fin grid0.N, win0_5.index t 0 * win0_5.size 0 = 0 ∧ win0_5.index t 1 * win0_5.size 1 = 0 ∧ win0_5.index t 2 * win0_5.size 2 = 5632 + 512 * (t.val % 11))
theorem index6 : ∀ t : Fin cfg0.N, win0_6.index t 0 * win0_6.size 0 = 0 ∧ win0_6.index t 1 * win0_6.size 1 = 512 * (t.val % 11) :=
  (by decide +kernel : ∀ t : Fin grid0.N, win0_6.index t 0 * win0_6.size 0 = 0 ∧ win0_6.index t 1 * win0_6.size 1 = 512 * (t.val % 11))
theorem index7 : ∀ t : Fin cfg0.N, win0_7.index t 0 * win0_7.size 0 = 0 ∧ win0_7.index t 1 * win0_7.size 1 = 512 * (t.val % 11) :=
  (by decide +kernel : ∀ t : Fin grid0.N, win0_7.index t 0 * win0_7.size 0 = 0 ∧ win0_7.index t 1 * win0_7.size 1 = 512 * (t.val % 11))
theorem index8 : ∀ t : Fin cfg0.N, win0_8.index t 0 * win0_8.size 0 = 0 ∧ win0_8.index t 1 * win0_8.size 1 = 512 * (t.val % 11 - 1) ∧ win0_8.index t 2 * win0_8.size 2 = 0 :=
  (by decide +kernel : ∀ t : Fin grid0.N, win0_8.index t 0 * win0_8.size 0 = 0 ∧ win0_8.index t 1 * win0_8.size 1 = 512 * (t.val % 11 - 1) ∧ win0_8.index t 2 * win0_8.size 2 = 0)
theorem index9 : ∀ t : Fin cfg0.N, win0_9.index t 0 * win0_9.size 0 = 0 ∧ win0_9.index t 1 * win0_9.size 1 = 5120 ∧ win0_9.index t 2 * win0_9.size 2 = 0 :=
  (by decide +kernel : ∀ t : Fin grid0.N, win0_9.index t 0 * win0_9.size 0 = 0 ∧ win0_9.index t 1 * win0_9.size 1 = 5120 ∧ win0_9.index t 2 * win0_9.size 2 = 0)

/-! ## The arrays the region reads -/

variable (m : (ℓ : Loc nD τ sig) → Buf (Elt Ideal) ℓ) (c : Dev nD)

/-- The rows before each tile, as the host cuts them. -/
def haloHost (x : Vec Ideal S2x4096x2048 .f32) : Vec Ideal S2x8x16x2048 .f32 :=
  concatenate S2x8x16x2048 1
    [⟨S2x1x16x2048, broadcastInDim S2x1x16x2048 ![0, 2, 3] bcast_S2x16x2048_S2x1x16x2048_0_2_3
        (pad S2x16x2048 ![0, 16, 0] ![0, 0, 0] ![0, 0, 0]
          (broadcastInDim S2x0x2048 ![] bcast_S_S2x0x2048 (constant (F := Ideal) S_ .f32 0x00000000#32))
          (sitofp (F := Ideal) .f32 (constantI S_ 32 0#32)) pads_S2x0x2048_S2x16x2048_000_1600_000 h_S_)⟩,
      ⟨S2x7x16x2048, extractStridedSlice S2x7x16x2048 ![0, 0, 496, 0] (shapeCast S2x8x512x2048 x shapeCasts_S2x4096x2048_S2x8x512x2048)
        slices_S2x8x512x2048_S2x7x16x2048_0_0_496_0⟩]
    concatenates_S2x1x16x2048_S2x7x16x2048_S2x8x16x2048_d1

/-- The state as the host pads it. -/
def stateHost : Vec Ideal S2x16x5632 .f32 :=
  pad S2x16x5632 ![0, 14, 0] ![0, 0, 0] ![0, 0, 0] (broadcastInDim S2x2x5632 ![] bcast_S_S2x2x5632 (constant (F := Ideal) S_ .f32 0x00000000#32))
    (sitofp (F := Ideal) .f32 (constantI S_ 32 0#32)) pads_S2x2x5632_S2x16x5632_000_1400_000 h_S_

theorem V_main_v5 : V m c main_v5 = haloHost (m ((c : Thread nD τ).loc main_arg0)) := by
  show StableHlo.after (List.flatten [hostOps0, hostOps0_1, hostOps0_2, hostOps0_3, hostOps0_4]) _ (Proc.devRef .tc main_v5) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem V_main_v7 : V m c main_v7 = stateHost := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem V_main_v8 : V m c main_v8 = broadcastInDim S1x2048 ![1] bcast_S2048_S1x2048_1 (m ((c : Thread nD τ).loc main_arg1) : Vec Ideal S2048 .f32) := by
  show StableHlo.after (List.flatten [hostOps0, hostOps0_1, hostOps0_2, hostOps0_3, hostOps0_4]) _ (Proc.devRef .tc main_v8) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem V_main_v9 : V m c main_v9 = (truncf (F := Ideal) (s := S1x2048x11264) (φ := .f32) .bf16 (m ((c : Thread nD τ).loc main_arg2)) bitsLt_bf16_f32 : Vec Ideal S1x2048x11264 .bf16) := by
  show StableHlo.after (List.flatten [hostOps0, hostOps0_1, hostOps0_2, hostOps0_3, hostOps0_4]) _ (Proc.devRef .tc main_v9) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem V_main_v10 : V m c main_v10 = broadcastInDim S1x5632 ![1] bcast_S5632_S1x5632_1 (m ((c : Thread nD τ).loc main_arg4) : Vec Ideal S5632 .f32) := by
  show StableHlo.after (List.flatten [hostOps0, hostOps0_1, hostOps0_2, hostOps0_3, hostOps0_4]) _ (Proc.devRef .tc main_v10) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
theorem V_main_v11 : V m c main_v11 = (truncf (F := Ideal) (s := S1x5632x2048) (φ := .f32) .bf16 (m ((c : Thread nD τ).loc main_arg5)) bitsLt_bf16_f32 : Vec Ideal S1x5632x2048 .bf16) := by
  show StableHlo.after (List.flatten [hostOps0, hostOps0_1, hostOps0_2, hostOps0_3, hostOps0_4]) _ (Proc.devRef .tc main_v11) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem haloHost_apply (x : Vec Ideal S2x4096x2048 .f32) (b : Fin 2) (i : Fin 8) (r : Fin 16) (e : Fin 2048) (R : Fin 4096) (hi : 1 ≤ i.val)
    (hR : R.val = 512 * i.val + r.val - 16) : haloHost x (ix4 b i r e) = x (ix3 b R e) := by
  have hil := i.isLt
  have hrl := r.isLt
  unfold haloHost
  refine (concatenate_pair_apply_right (α := Elt Ideal .f32) (t := S2x8x16x2048) (s₁ := S2x1x16x2048) (s₂ := S2x7x16x2048) 1 _ _ _ _ rfl rfl (ix4 b (⟨i.val - 1, by omega⟩ : Fin 7) r e) (fun a ha => ?_) ?_).trans ?_
  · match a with
    | ⟨0, _⟩ => rfl
    | ⟨1, _⟩ => exact absurd rfl ha
    | ⟨2, _⟩ => rfl
    | ⟨3, _⟩ => rfl
  · show i.val - 1 + 1 = i.val
    omega
  · refine (extractStridedSlice_apply _ _ _ _ (ix4 b (⟨i.val - 1, by omega⟩ : Fin 8) (⟨496 + r.val, by omega⟩ : Fin 512) e) (fun a => ?_)).trans ?_
    · match a with
      | ⟨0, _⟩ => exact (by show b.val = 0 + b.val; omega)
      | ⟨1, _⟩ => exact (by show i.val - 1 = 0 + (i.val - 1); omega)
      | ⟨2, _⟩ => rfl
      | ⟨3, _⟩ => exact (by show e.val = 0 + e.val; omega)
    · refine shapeCast_apply _ _ _ _ ?_
      rw [Shape.rowMajor_val_four, Shape.rowMajor_val_three]
      show _ = _
      simp [ix3, ix4]
      omega

theorem zero_f32 : (Ideal.ofBits .f32 0x00000000#32 : EReal) = 0 := by
  simp [Ideal.ofBits, Ideal.ieee]

theorem stateHost_apply (j : S2x16x5632.Idx) : (stateHost j : EReal) = 0 := by
  unfold stateHost
  unfold pad
  split
  · exact zero_f32
  · show (((0#32 : BitVec 32).toInt : ℝ) : EReal) = 0
    simp

/-! ## The blocks -/

section Blocks

variable (x : ℕ → ℕ → ℕ → EReal) (g : ℕ → EReal) (wu : ℕ → ℕ → EReal) (cw : ℕ → ℕ → EReal) (cb : ℕ → EReal) (wd : ℕ → ℕ → EReal)
  (hx : ∀ b t e, ((m ((c : Thread nD τ).loc main_arg0) : Vec Ideal S2x4096x2048 .f32) (ix3 b t e) : EReal) = x b.val t.val e.val)
  (hg : ∀ e, ((m ((c : Thread nD τ).loc main_arg1) : Vec Ideal S2048 .f32) (ix1 e) : EReal) = g e.val)
  (hwu : ∀ d n, ((m ((c : Thread nD τ).loc main_arg2) : Vec Ideal S1x2048x11264 .f32) (ix3 (0 : Fin 1) d n) : EReal) = wu d.val n.val)
  (hcw : ∀ k n, ((m ((c : Thread nD τ).loc main_arg3) : Vec Ideal S3x5632 .f32) (ix2 k n) : EReal) = cw k.val n.val)
  (hcb : ∀ n, ((m ((c : Thread nD τ).loc main_arg4) : Vec Ideal S5632 .f32) (ix1 n) : EReal) = cb n.val)
  (hwd : ∀ n d, ((m ((c : Thread nD τ).loc main_arg5) : Vec Ideal S1x5632x2048 .f32) (ix3 (0 : Fin 1) n d) : EReal) = wd n.val d.val)
  (t : Fin cfg0.N)

include hx in
theorem x_blk (r : Fin 512) (e : Fin 2048) :
    ((iblk m c 0 t : Vec Ideal S1x512x2048 .f32) (ix3 (0 : Fin 1) r e) : EReal) = x (t.val / 88) (512 * (t.val / 11 % 8) + r.val) e.val := by
  have ht := point_lt t
  have hr := r.isLt
  refine Eq.trans ?_ (hx ⟨t.val / 88, by omega⟩ ⟨512 * (t.val / 11 % 8) + r.val, by omega⟩ e)
  rw [← V_main_arg0 m c]
  refine congrArg (V m c main_arg0 : Vec Ideal S2x4096x2048 .f32) (funext fun a => Fin.ext ?_)
  match a with
  | ⟨0, _⟩ => exact (by show win0_0.index t 0 * win0_0.size 0 + 1 * 0 = t.val / 88; rw [(index0 t).1]; omega)
  | ⟨1, _⟩ => exact (by show win0_0.index t 1 * win0_0.size 1 + 1 * r.val = 512 * (t.val / 11 % 8) + r.val; rw [(index0 t).2.1]; omega)
  | ⟨2, _⟩ => exact (by show win0_0.index t 2 * win0_0.size 2 + 1 * e.val = e.val; rw [(index0 t).2.2]; omega)

include hx in
theorem halo_blk (hi : 1 ≤ t.val / 11 % 8) (r : Fin 16) (e : Fin 2048) :
    ((iblk m c 1 t : Vec Ideal S1x1x16x2048 .f32) (ix4 (0 : Fin 1) (0 : Fin 1) r e) : EReal) = x (t.val / 88) (512 * (t.val / 11 % 8) + r.val - 16) e.val := by
  have ht := point_lt t
  have hr := r.isLt
  have h : V m c (Pipeline.arrRef spec0 1) = haloHost (m ((c : Thread nD τ).loc main_arg0)) := V_main_v5 m c
  unfold iblk
  rw [h]
  refine Eq.trans (congrArg (haloHost (m ((c : Thread nD τ).loc main_arg0))) (funext fun a => Fin.ext ?_))
    ((haloHost_apply _ ⟨t.val / 88, by omega⟩ ⟨t.val / 11 % 8, by omega⟩ r e ⟨512 * (t.val / 11 % 8) + r.val - 16, by omega⟩ hi rfl).trans
      (hx ⟨t.val / 88, by omega⟩ ⟨512 * (t.val / 11 % 8) + r.val - 16, by omega⟩ e))
  match a with
  | ⟨0, _⟩ => exact (by show win0_1.index t 0 * win0_1.size 0 + 1 * 0 = t.val / 88; rw [(index1 t).1]; omega)
  | ⟨1, _⟩ => exact (by show win0_1.index t 1 * win0_1.size 1 + 1 * 0 = t.val / 11 % 8; rw [(index1 t).2.1]; omega)
  | ⟨2, _⟩ => exact (by show win0_1.index t 2 * win0_1.size 2 + 1 * r.val = r.val; rw [(index1 t).2.2.1]; omega)
  | ⟨3, _⟩ => exact (by show win0_1.index t 3 * win0_1.size 3 + 1 * e.val = e.val; rw [(index1 t).2.2.2]; omega)

theorem state_blk (r : Fin 16) (n : Fin 512) : ((iblk m c 2 t : Vec Ideal S1x16x512 .f32) (ix3 (0 : Fin 1) r n) : EReal) = (0 : EReal) := by
  have h : V m c (Pipeline.arrRef spec0 2) = stateHost := V_main_v7 m c
  unfold iblk
  rw [h]
  exact stateHost_apply _

include hg in
theorem g_blk (e : Fin 2048) : ((iblk m c 3 t : Vec Ideal S1x2048 .f32) (ix2 (0 : Fin 1) e) : EReal) = g e.val := by
  have h := V_main_v8 m c
  refine Eq.trans ?_ (hg e)
  refine Eq.trans (b := (V m c main_v8 : Vec Ideal S1x2048 .f32) (ix2 (0 : Fin 1) e))
    (congrArg (V m c main_v8 : Vec Ideal S1x2048 .f32) (funext fun a => Fin.ext ?_)) ?_
  · match a with
    | ⟨0, _⟩ => exact (by show win0_3.index t 0 * win0_3.size 0 + 1 * 0 = 0; rw [(index3 t).1])
    | ⟨1, _⟩ => exact (by show win0_3.index t 1 * win0_3.size 1 + 1 * e.val = e.val; rw [(index3 t).2]; omega)
  · rw [h]
    exact broadcastInDim_apply _ _ _ _ (ix1 e) (fun a => by match a with | ⟨0, _⟩ => rfl)

include hwu in
theorem wa_blk (d : Fin 2048) (n : Fin 512) :
    ((iblk m c 4 t : Vec Ideal S1x2048x512 .bf16) (ix3 (0 : Fin 1) d n) : EReal) = wu d.val (512 * (t.val % 11) + n.val) := by
  have hn := n.isLt
  have h := V_main_v9 m c
  refine Eq.trans ?_ (hwu d ⟨512 * (t.val % 11) + n.val, by omega⟩)
  refine Eq.trans (b := (V m c main_v9 : Vec Ideal S1x2048x11264 .bf16) (ix3 (0 : Fin 1) d ⟨512 * (t.val % 11) + n.val, by omega⟩))
    (congrArg (V m c main_v9 : Vec Ideal S1x2048x11264 .bf16) (funext fun a => Fin.ext ?_)) ?_
  · match a with
    | ⟨0, _⟩ => exact (by show win0_4.index t 0 * win0_4.size 0 + 1 * 0 = 0; rw [(index4 t).1])
    | ⟨1, _⟩ => exact (by show win0_4.index t 1 * win0_4.size 1 + 1 * d.val = d.val; rw [(index4 t).2.1]; omega)
    | ⟨2, _⟩ => exact (by show win0_4.index t 2 * win0_4.size 2 + 1 * n.val = 512 * (t.val % 11) + n.val; rw [(index4 t).2.2]; omega)
  · rw [h]
    rfl

include hwu in
theorem wg_blk (d : Fin 2048) (n : Fin 512) :
    ((iblk m c 5 t : Vec Ideal S1x2048x512 .bf16) (ix3 (0 : Fin 1) d n) : EReal) = wu d.val (5632 + (512 * (t.val % 11) + n.val)) := by
  have hn := n.isLt
  have h := V_main_v9 m c
  refine Eq.trans ?_ (hwu d ⟨5632 + (512 * (t.val % 11) + n.val), by omega⟩)
  refine Eq.trans (b := (V m c main_v9 : Vec Ideal S1x2048x11264 .bf16) (ix3 (0 : Fin 1) d ⟨5632 + (512 * (t.val % 11) + n.val), by omega⟩))
    (congrArg (V m c main_v9 : Vec Ideal S1x2048x11264 .bf16) (funext fun a => Fin.ext ?_)) ?_
  · match a with
    | ⟨0, _⟩ => exact (by show win0_5.index t 0 * win0_5.size 0 + 1 * 0 = 0; rw [(index5 t).1])
    | ⟨1, _⟩ => exact (by show win0_5.index t 1 * win0_5.size 1 + 1 * d.val = d.val; rw [(index5 t).2.1]; omega)
    | ⟨2, _⟩ => exact (by show win0_5.index t 2 * win0_5.size 2 + 1 * n.val = 5632 + (512 * (t.val % 11) + n.val); rw [(index5 t).2.2]; omega)
  · rw [h]
    rfl

include hcw in
theorem cw_blk (k : Fin 3) (n : Fin 512) :
    ((iblk m c 6 t : Vec Ideal S3x512 .f32) (ix2 k n) : EReal) = cw k.val (512 * (t.val % 11) + n.val) := by
  have hn := n.isLt
  refine Eq.trans ?_ (hcw k ⟨512 * (t.val % 11) + n.val, by omega⟩)
  rw [← V_main_arg3 m c]
  refine congrArg (V m c main_arg3 : Vec Ideal S3x5632 .f32) (funext fun a => Fin.ext ?_)
  match a with
  | ⟨0, _⟩ => exact (by show win0_6.index t 0 * win0_6.size 0 + 1 * k.val = k.val; rw [(index6 t).1]; omega)
  | ⟨1, _⟩ => exact (by show win0_6.index t 1 * win0_6.size 1 + 1 * n.val = 512 * (t.val % 11) + n.val; rw [(index6 t).2]; omega)

include hcb in
theorem cb_blk (n : Fin 512) : ((iblk m c 7 t : Vec Ideal S1x512 .f32) (ix2 (0 : Fin 1) n) : EReal) = cb (512 * (t.val % 11) + n.val) := by
  have hn := n.isLt
  have h := V_main_v10 m c
  refine Eq.trans ?_ (hcb ⟨512 * (t.val % 11) + n.val, by omega⟩)
  refine Eq.trans (b := (V m c main_v10 : Vec Ideal S1x5632 .f32) (ix2 (0 : Fin 1) ⟨512 * (t.val % 11) + n.val, by omega⟩))
    (congrArg (V m c main_v10 : Vec Ideal S1x5632 .f32) (funext fun a => Fin.ext ?_)) ?_
  · match a with
    | ⟨0, _⟩ => exact (by show win0_7.index t 0 * win0_7.size 0 + 1 * 0 = 0; rw [(index7 t).1])
    | ⟨1, _⟩ => exact (by show win0_7.index t 1 * win0_7.size 1 + 1 * n.val = 512 * (t.val % 11) + n.val; rw [(index7 t).2]; omega)
  · rw [h]
    exact broadcastInDim_apply _ _ _ _ (ix1 ⟨512 * (t.val % 11) + n.val, by omega⟩) (fun a => by match a with | ⟨0, _⟩ => rfl)

include hwd in
theorem wdp_blk (n : Fin 512) (d : Fin 2048) :
    ((iblk m c 8 t : Vec Ideal S1x512x2048 .bf16) (ix3 (0 : Fin 1) n d) : EReal) = wd (512 * (t.val % 11 - 1) + n.val) d.val := by
  have hn := n.isLt
  have h := V_main_v11 m c
  refine Eq.trans ?_ (hwd ⟨512 * (t.val % 11 - 1) + n.val, by omega⟩ d)
  refine Eq.trans (b := (V m c main_v11 : Vec Ideal S1x5632x2048 .bf16) (ix3 (0 : Fin 1) ⟨512 * (t.val % 11 - 1) + n.val, by omega⟩ d))
    (congrArg (V m c main_v11 : Vec Ideal S1x5632x2048 .bf16) (funext fun a => Fin.ext ?_)) ?_
  · match a with
    | ⟨0, _⟩ => exact (by show win0_8.index t 0 * win0_8.size 0 + 1 * 0 = 0; rw [(index8 t).1])
    | ⟨1, _⟩ => exact (by show win0_8.index t 1 * win0_8.size 1 + 1 * n.val = 512 * (t.val % 11 - 1) + n.val; rw [(index8 t).2.1]; omega)
    | ⟨2, _⟩ => exact (by show win0_8.index t 2 * win0_8.size 2 + 1 * d.val = d.val; rw [(index8 t).2.2]; omega)
  · rw [h]
    rfl

include hwd in
theorem wdl_blk (n : Fin 512) (d : Fin 2048) :
    ((iblk m c 9 t : Vec Ideal S1x512x2048 .bf16) (ix3 (0 : Fin 1) n d) : EReal) = wd (512 * 10 + n.val) d.val := by
  have hn := n.isLt
  have h := V_main_v11 m c
  refine Eq.trans ?_ (hwd ⟨512 * 10 + n.val, by omega⟩ d)
  refine Eq.trans (b := (V m c main_v11 : Vec Ideal S1x5632x2048 .bf16) (ix3 (0 : Fin 1) ⟨512 * 10 + n.val, by omega⟩ d))
    (congrArg (V m c main_v11 : Vec Ideal S1x5632x2048 .bf16) (funext fun a => Fin.ext ?_)) ?_
  · match a with
    | ⟨0, _⟩ => exact (by show win0_9.index t 0 * win0_9.size 0 + 1 * 0 = 0; rw [(index9 t).1])
    | ⟨1, _⟩ => exact (by show win0_9.index t 1 * win0_9.size 1 + 1 * n.val = 512 * 10 + n.val; rw [(index9 t).2.1]; omega)
    | ⟨2, _⟩ => exact (by show win0_9.index t 2 * win0_9.size 2 + 1 * d.val = d.val; rw [(index9 t).2.2]; omega)
  · rw [h]
    rfl

end Blocks

end Cert.FfnIdeal.Gen

end
-- ==== Proof.FfnArray.lean ====
/- What the feed-forward kernel's result arrays hold after the run: the part's output at every position, and the last rows of
   the up projection of every tile. Along a tile's points the running output takes in one block of lanes after another. -/
module

public import proofs.«01_k».proof.Proof.FfnBlocks

@[expose] public section

set_option maxRecDepth 16384

noncomputable section

namespace Cert.FfnIdeal.Gen

open Cert.FfnIdeal Idealize.ShloMosaic Idealize.ShloMosaic.TcCoe Idealize.ShloMosaic.ValueIdx Idealize.SL Idealize.SL.Sem Cert.FeedForward
open Idealize.ShloMosaic.Pipeline (Dat)

variable (m : (ℓ : Loc nD τ sig) → Buf (Elt Ideal) ℓ) (c : Dev nD)

variable (x : ℕ → ℕ → ℕ → EReal) (g : ℕ → EReal) (wu : ℕ → ℕ → EReal) (cw : ℕ → ℕ → EReal) (cb : ℕ → EReal) (wd : ℕ → ℕ → EReal)

/-- What a point leaves: its output, its rows, its slot, and its last rows of the up projection. -/
def PInv (n : ℕ) (s : Vec Ideal S1x512x2048 .f32 × Vec Ideal S1x1x8x512 .f32 × Vec Ideal S528x2048 .bf16 × Vec Ideal S2x512x512 .bf16) : Prop :=
  OInv x g wu cw cb wd (n / 88) (n / 11 % 8) (if n % 11 = 10 then 5632 else 512 * (n % 11)) s.1
  ∧ HInv x g (n / 88) (n / 11 % 8) s.2.2.1
  ∧ (n % 11 % 2 = 0 → YInv x g wu cw cb (n / 88) (n / 11 % 8) (n % 11) (slot0 s.2.2.2))
  ∧ (n % 11 % 2 = 1 → YInv x g wu cw cb (n / 88) (n / 11 % 8) (n % 11) (slot1 s.2.2.2))
  ∧ ∀ (r : Fin 8) (l : Fin 512), (s.2.1 (ix4 (0 : Fin 1) (0 : Fin 1) r l) : EReal) = up x g wu (n / 88) (512 * (n / 11 % 8) + 504 + r.val) (512 * (n % 11) + l.val)

variable
  (hx : ∀ b t e, ((m ((c : Thread nD τ).loc main_arg0) : Vec Ideal S2x4096x2048 .f32) (ix3 b t e) : EReal) = x b.val t.val e.val)
  (hg : ∀ e, ((m ((c : Thread nD τ).loc main_arg1) : Vec Ideal S2048 .f32) (ix1 e) : EReal) = g e.val)
  (hwu : ∀ d n, ((m ((c : Thread nD τ).loc main_arg2) : Vec Ideal S1x2048x11264 .f32) (ix3 (0 : Fin 1) d n) : EReal) = wu d.val n.val)
  (hcw : ∀ k n, ((m ((c : Thread nD τ).loc main_arg3) : Vec Ideal S3x5632 .f32) (ix2 k n) : EReal) = cw k.val n.val)
  (hcb : ∀ n, ((m ((c : Thread nD τ).loc main_arg4) : Vec Ideal S5632 .f32) (ix1 n) : EReal) = cb n.val)
  (hwd : ∀ n d, ((m ((c : Thread nD τ).loc main_arg5) : Vec Ideal S1x5632x2048 .f32) (ix3 (0 : Fin 1) n d) : EReal) = wd n.val d.val)

include hwu in
theorem at_point (t : Fin cfg0.N) (h : Vec Ideal S528x2048 .bf16) (hh : HInv x g (t.val / 88) (t.val / 11 % 8) h) (r : Fin 8) (l : Fin 512) :
    (tail (F := Ideal) (aTile (grid0.coords t 1).val h (iblk m c 4 t) (iblk m c 2 t)) (ix4 (0 : Fin 1) (0 : Fin 1) r l) : EReal)
      = up x g wu (t.val / 88) (512 * (t.val / 11 % 8) + 504 + r.val) (512 * (t.val % 11) + l.val) := by
  rw [coord1 t]
  exact tail_apply x g wu _ _ _ h (iblk m c 2 t) (iblk m c 4 t) hh (state_blk m c t) (wa_blk m c wu hwu t) (by omega) r l

include hwu hcw hcb in
theorem y_point (t : Fin cfg0.N) (h : Vec Ideal S528x2048 .bf16) (hh : HInv x g (t.val / 88) (t.val / 11 % 8) h) :
    YInv x g wu cw cb (t.val / 88) (t.val / 11 % 8) (t.val % 11)
      (yTile (F := Ideal) (grid0.coords t) h (iblk m c 2 t) (iblk m c 4 t) (iblk m c 5 t) (iblk m c 6 t) (iblk m c 7 t)) :=
  yTile_inv x g wu cw cb _ _ _ h (iblk m c 2 t) (iblk m c 4 t) (iblk m c 5 t) (iblk m c 6 t) (iblk m c 7 t) hh (state_blk m c t) (wa_blk m c wu hwu t)
    (wg_blk m c wu hwu t) (cw_blk m c cw hcw t) (cb_blk m c cb hcb t) (grid0.coords t) (coord1 t)

include hwd in
theorem o_point (t : Fin cfg0.N) (h0 : t.val % 11 ≠ 0) (o : Vec Ideal S1x512x2048 .f32) (y : Vec Ideal S1x512x512 .bf16)
    (ho : OInv x g wu cw cb wd (t.val / 88) (t.val / 11 % 8) (512 * (t.val % 11 - 1)) o)
    (hy : YInv x g wu cw cb (t.val / 88) (t.val / 11 % 8) (t.val % 11 - 1) y) :
    OInv x g wu cw cb wd (t.val / 88) (t.val / 11 % 8) (512 * (t.val % 11)) (step (F := Ideal) o y (iblk m c 8 t)) := by
  have h := step_inv x g wu cw cb wd _ _ (t.val % 11 - 1) o y (iblk m c 8 t) ho hy (wdp_blk m c wd hwd t)
  rwa [show t.val % 11 - 1 + 1 = t.val % 11 by omega] at h

include hx hg hwu hcw hcb hwd

theorem points (n : ℕ) : ∀ t : Fin cfg0.N, t.val = n → PInv x g wu cw cb wd t.val (outsAt0 m c t.val t.isLt) := by
  induction n using Nat.strong_induction_on with
  | _ n ih =>
    intro t htn
    by_cases h0 : t.val % 11 = 0
    · have h1 : ¬t.val % 11 = 10 := by omega
      have hh : HInv x g (t.val / 88) (t.val / 11 % 8) (hTile (F := Ideal) (iblk m c 0 t) (iblk m c 1 t) (iblk m c 3 t)) :=
        hTile_inv x g _ _ (iblk m c 0 t) (iblk m c 1 t) (iblk m c 3 t) (x_blk m c x hx t) (fun hi => halo_blk m c x hx t hi) (g_blk m c g hg t)
      rw [outsAt0_A m c t h0 h1, out0_A_10_eq, out0_A_11_eq, sout0_A_0_eq, sout0_A_2_eq]
      refine ⟨?_, hh, fun _ => ?_, fun h => absurd h (by omega), at_point m c x g wu hwu t _ hh⟩
      · rw [if_neg h1, h0]
        exact step_zero x g wu cw cb wd _ _ (iblk m c 0 t) (iblk m c 8 t) (x_blk m c x hx t)
      · dsimp only
        rw [put01, slot0_put0]
        exact y_point m c x g wu cw cb hwu hcw hcb t _ hh
    · obtain ⟨po, ph, py0, py1, -⟩ := ih (n - 1) (by omega) ⟨t.val - 1, Nat.lt_of_le_of_lt (Nat.sub_le _ _) t.isLt⟩ (by show t.val - 1 = n - 1; omega)
      dsimp only at po ph py0 py1
      have e0 : (t.val - 1) / 11 = t.val / 11 := by omega
      have e1 : (t.val - 1) / 88 = t.val / 88 := by
        rw [show (88 : ℕ) = 11 * 8 from rfl, ← Nat.div_div_eq_div_mul, ← Nat.div_div_eq_div_mul, e0]
      have e2 : (t.val - 1) / 11 % 8 = t.val / 11 % 8 := by rw [e0]
      have e3 : (t.val - 1) % 11 = t.val % 11 - 1 := by omega
      rw [e1, e2, e3, if_neg (by omega)] at po
      rw [e1, e2] at ph
      rw [e1, e2, e3] at py0 py1
      by_cases h1 : t.val % 11 = 10
      · have h2 : ¬(t.val % 11 = 1 ∨ t.val % 11 = 3 ∨ t.val % 11 = 5 ∨ t.val % 11 = 7 ∨ t.val % 11 = 9) := by omega
        rw [outsAt0_D m c t h0 h1 h2, out0_D_10_eq, out0_D_11_eq, sout0_D_2_eq]
        refine ⟨?_, ph, fun _ => ?_, fun h => absurd h (by omega), at_point m c x g wu hwu t _ ph⟩
        · rw [if_pos h1]
          have ho := o_point m c x g wu cw cb wd hwd t h0 _ _ po (py1 (by omega))
          have hy := y_point m c x g wu cw cb hwu hcw hcb t _ ph
          rw [h1] at ho hy
          exact step_inv x g wu cw cb wd _ _ 10 _ _ (iblk m c 9 t) ho hy (wdl_blk m c wd hwd t)
        · dsimp only
          rw [slot0_put0]
          exact y_point m c x g wu cw cb hwu hcw hcb t _ ph
      · by_cases h2 : t.val % 11 = 1 ∨ t.val % 11 = 3 ∨ t.val % 11 = 5 ∨ t.val % 11 = 7 ∨ t.val % 11 = 9
        · rw [outsAt0_B m c t h0 h1 h2, out0_B_10_eq, out0_B_11_eq, sout0_B_2_eq]
          refine ⟨?_, ph, fun h => absurd h (by omega), fun _ => ?_, at_point m c x g wu hwu t _ ph⟩
          · rw [if_neg h1]
            exact o_point m c x g wu cw cb wd hwd t h0 _ _ po (py0 (by omega))
          · dsimp only
            rw [slot1_put1]
            exact y_point m c x g wu cw cb hwu hcw hcb t _ ph
        · rw [outsAt0_C m c t h0 h1 h2, out0_C_10_eq, out0_C_11_eq, sout0_C_2_eq]
          refine ⟨?_, ph, fun _ => ?_, fun h => absurd h (by omega), at_point m c x g wu hwu t _ ph⟩
          · rw [if_neg h1]
            exact o_point m c x g wu cw cb wd hwd t h0 _ _ po (py1 (by omega))
          · dsimp only
            rw [slot0_put0]
            exact y_point m c x g wu cw cb hwu hcw hcb t _ ph

omit hx hg hwu hcw hcb hwd

/-! ## The arrays -/

/-- The part's output as an array. -/
def outArr : Vec Ideal S2x4096x2048 .f32 := fun j => out x g wu cw cb wd (j 0).val (j 1).val (j 2).val

/-- The last rows of every tile's up projection as an array. -/
def atArr : Vec Ideal S2x8x8x5632 .f32 := fun j => up x g wu (j 0).val (512 * (j 1).val + 504 + (j 2).val) (j 3).val

theorem index10 : ∀ t : Fin cfg0.N, win0_10.index t 0 * win0_10.size 0 = t.val / 88 ∧ win0_10.index t 1 * win0_10.size 1 = t.val / 11 % 8 * 512 ∧ win0_10.index t 2 * win0_10.size 2 = 0 :=
  (by decide +kernel : ∀ t : Fin grid0.N, win0_10.index t 0 * win0_10.size 0 = t.val / 88 ∧ win0_10.index t 1 * win0_10.size 1 = t.val / 11 % 8 * 512 ∧ win0_10.index t 2 * win0_10.size 2 = 0)
theorem index11 : ∀ t : Fin cfg0.N, win0_11.index t 0 * win0_11.size 0 = t.val / 88 ∧ win0_11.index t 1 * win0_11.size 1 = t.val / 11 % 8 ∧ win0_11.index t 2 * win0_11.size 2 = 0 ∧ win0_11.index t 3 * win0_11.size 3 = 512 * (t.val % 11) :=
  (by decide +kernel : ∀ t : Fin grid0.N, win0_11.index t 0 * win0_11.size 0 = t.val / 88 ∧ win0_11.index t 1 * win0_11.size 1 = t.val / 11 % 8 ∧ win0_11.index t 2 * win0_11.size 2 = 0 ∧ win0_11.index t 3 * win0_11.size 3 = 512 * (t.val % 11))
theorem xsize10 : ∀ t : Fin cfg0.N, win0_10.xsize (grid0.coords t) 0 = 1 ∧ win0_10.xsize (grid0.coords t) 1 = 512 ∧ win0_10.xsize (grid0.coords t) 2 = 2048 :=
  (by decide +kernel : ∀ t : Fin grid0.N, win0_10.xsize (grid0.coords t) 0 = 1 ∧ win0_10.xsize (grid0.coords t) 1 = 512 ∧ win0_10.xsize (grid0.coords t) 2 = 2048)
theorem xsize11 : ∀ t : Fin cfg0.N, win0_11.xsize (grid0.coords t) 0 = 1 ∧ win0_11.xsize (grid0.coords t) 1 = 1 ∧ win0_11.xsize (grid0.coords t) 2 = 8 ∧ win0_11.xsize (grid0.coords t) 3 = 512 :=
  (by decide +kernel : ∀ t : Fin grid0.N, win0_11.xsize (grid0.coords t) 0 = 1 ∧ win0_11.xsize (grid0.coords t) 1 = 1 ∧ win0_11.xsize (grid0.coords t) 2 = 8 ∧ win0_11.xsize (grid0.coords t) 3 = 512)

include hx hg hwu hcw hcb hwd

/-- What a tile's last point writes back is its block of the output. -/
theorem flushed10_eq (t : Fin cfg0.N) (hf : (cfg0.win 10).flush t = true) :
    (dats m 0 c).flushed 10 t = (win0_10.blk t).view.read (Elt Ideal) (outArr x g wu cw cb wd) := by
  have ht := point_lt t
  have h10 : t.val % 11 = 10 := (flush0_10 t).mp hf
  obtain ⟨po, -⟩ := points m c x g wu cw cb wd hx hg hwu hcw hcb hwd t.val t rfl
  rw [if_pos h10] at po
  rw [Value.flushed10]
  funext j
  have h0 : (j 0).val < 1 := lt_of_lt_of_eq (j 0).isLt (xsize10 t).1
  have h1 : (j 1).val < 512 := lt_of_lt_of_eq (j 1).isLt (xsize10 t).2.1
  have h2 : (j 2).val < 2048 := lt_of_lt_of_eq (j 2).isLt (xsize10 t).2.2
  refine Eq.trans (congrArg (outsAt0 m c t.val t.isLt).1 (a₂ := ix3 (0 : Fin 1) (⟨(j 1).val, h1⟩ : Fin 512) (⟨(j 2).val, h2⟩ : Fin 2048)) (funext fun a => Fin.ext ?_)) ?_
  · match a with
    | ⟨0, _⟩ => exact (by show (j 0).val = 0; omega)
    | ⟨1, _⟩ => rfl
    | ⟨2, _⟩ => rfl
  · refine (po _ _).trans ?_
    refine congrArg (outArr x g wu cw cb wd)
      (a₁ := ix3 (⟨t.val / 88, by omega⟩ : Fin 2) (⟨512 * (t.val / 11 % 8) + (j 1).val, by omega⟩ : Fin 4096) (⟨(j 2).val, h2⟩ : Fin 2048)) (funext fun a => Fin.ext ?_)
    match a with
    | ⟨0, _⟩ => exact (by show t.val / 88 = win0_10.index t 0 * win0_10.size 0 + 1 * (j 0).val; rw [(index10 t).1]; omega)
    | ⟨1, _⟩ => exact (by show 512 * (t.val / 11 % 8) + (j 1).val = win0_10.index t 1 * win0_10.size 1 + 1 * (j 1).val; rw [(index10 t).2.1]; omega)
    | ⟨2, _⟩ => exact (by show (j 2).val = win0_10.index t 2 * win0_10.size 2 + 1 * (j 2).val; rw [(index10 t).2.2]; omega)

/-- What a point writes back of the up projection is its block of the last rows. -/
theorem flushed11_eq (t : Fin cfg0.N) :
    (dats m 0 c).flushed 11 t = (win0_11.blk t).view.read (Elt Ideal) (atArr x g wu) := by
  have ht := point_lt t
  obtain ⟨-, -, -, -, pa⟩ := points m c x g wu cw cb wd hx hg hwu hcw hcb hwd t.val t rfl
  rw [Value.flushed11]
  funext j
  have h0 : (j 0).val < 1 := lt_of_lt_of_eq (j 0).isLt (xsize11 t).1
  have h1 : (j 1).val < 1 := lt_of_lt_of_eq (j 1).isLt (xsize11 t).2.1
  have h2 : (j 2).val < 8 := lt_of_lt_of_eq (j 2).isLt (xsize11 t).2.2.1
  have h3 : (j 3).val < 512 := lt_of_lt_of_eq (j 3).isLt (xsize11 t).2.2.2
  refine Eq.trans (congrArg (outsAt0 m c t.val t.isLt).2.1 (a₂ := ix4 (0 : Fin 1) (0 : Fin 1) (⟨(j 2).val, h2⟩ : Fin 8) (⟨(j 3).val, h3⟩ : Fin 512)) (funext fun a => Fin.ext ?_)) ?_
  · match a with
    | ⟨0, _⟩ => exact (by show (j 0).val = 0; omega)
    | ⟨1, _⟩ => exact (by show (j 1).val = 0; omega)
    | ⟨2, _⟩ => rfl
    | ⟨3, _⟩ => rfl
  · refine (pa _ _).trans ?_
    refine congrArg (atArr x g wu)
      (a₁ := ix4 (⟨t.val / 88, by omega⟩ : Fin 2) (⟨t.val / 11 % 8, by omega⟩ : Fin 8) (⟨(j 2).val, h2⟩ : Fin 8) (⟨512 * (t.val % 11) + (j 3).val, by omega⟩ : Fin 5632)) (funext fun a => Fin.ext ?_)
    match a with
    | ⟨0, _⟩ => exact (by show t.val / 88 = win0_11.index t 0 * win0_11.size 0 + 1 * (j 0).val; rw [(index11 t).1]; omega)
    | ⟨1, _⟩ => exact (by show t.val / 11 % 8 = win0_11.index t 1 * win0_11.size 1 + 1 * (j 1).val; rw [(index11 t).2.1]; omega)
    | ⟨2, _⟩ => exact (by show (j 2).val = win0_11.index t 2 * win0_11.size 2 + 1 * (j 2).val; rw [(index11 t).2.2.1]; omega)
    | ⟨3, _⟩ => exact (by show 512 * (t.val % 11) + (j 3).val = win0_11.index t 3 * win0_11.size 3 + 1 * (j 3).val; rw [(index11 t).2.2.2]; omega)

omit hx hg hwu hcw hcb hwd

theorem mem10 (t : Fin cfg0.N) (j : S2x4096x2048.Idx) (h0 : (j 0).val = t.val / 88) (h1 : (j 1).val / 512 = t.val / 11 % 8) : j ∈ ((cfg0.win 10).blk t).view.set := by
  have h2 : (j 2).val < 2048 := (j 2).isLt
  show j ∈ ((View.whole main_v12_0).slice (win0_10.rect t)).set
  rw [View.set_slice_whole, Rect.mem_set_unit]
  obtain ⟨e0, e1, e2⟩ := index10 t
  obtain ⟨x0, x1, x2⟩ := xsize10 t
  intro a
  match a with
  | ⟨0, _⟩ => show win0_10.index t 0 * win0_10.size 0 ≤ (j 0 : Nat) ∧ (j 0 : Nat) < win0_10.index t 0 * win0_10.size 0 + win0_10.xsize (grid0.coords t) 0
              rw [e0, x0]; omega
  | ⟨1, _⟩ => show win0_10.index t 1 * win0_10.size 1 ≤ (j 1 : Nat) ∧ (j 1 : Nat) < win0_10.index t 1 * win0_10.size 1 + win0_10.xsize (grid0.coords t) 1
              rw [e1, x1]; omega
  | ⟨2, _⟩ => show win0_10.index t 2 * win0_10.size 2 ≤ (j 2 : Nat) ∧ (j 2 : Nat) < win0_10.index t 2 * win0_10.size 2 + win0_10.xsize (grid0.coords t) 2
              rw [e2, x2]; omega

theorem mem11 (t : Fin cfg0.N) (j : S2x8x8x5632.Idx) (h0 : (j 0).val = t.val / 88) (h1 : (j 1).val = t.val / 11 % 8) (h3 : (j 3).val / 512 = t.val % 11) :
    j ∈ ((cfg0.win 11).blk t).view.set := by
  have h2 : (j 2).val < 8 := (j 2).isLt
  show j ∈ ((View.whole main_v12_1).slice (win0_11.rect t)).set
  rw [View.set_slice_whole, Rect.mem_set_unit]
  obtain ⟨e0, e1, e2, e3⟩ := index11 t
  obtain ⟨x0, x1, x2, x3⟩ := xsize11 t
  intro a
  match a with
  | ⟨0, _⟩ => show win0_11.index t 0 * win0_11.size 0 ≤ (j 0 : Nat) ∧ (j 0 : Nat) < win0_11.index t 0 * win0_11.size 0 + win0_11.xsize (grid0.coords t) 0
              rw [e0, x0]; omega
  | ⟨1, _⟩ => show win0_11.index t 1 * win0_11.size 1 ≤ (j 1 : Nat) ∧ (j 1 : Nat) < win0_11.index t 1 * win0_11.size 1 + win0_11.xsize (grid0.coords t) 1
              rw [e1, x1]; omega
  | ⟨2, _⟩ => show win0_11.index t 2 * win0_11.size 2 ≤ (j 2 : Nat) ∧ (j 2 : Nat) < win0_11.index t 2 * win0_11.size 2 + win0_11.xsize (grid0.coords t) 2
              rw [e2, x2]; omega
  | ⟨3, _⟩ => show win0_11.index t 3 * win0_11.size 3 ≤ (j 3 : Nat) ∧ (j 3 : Nat) < win0_11.index t 3 * win0_11.size 3 + win0_11.xsize (grid0.coords t) 3
              rw [e3, x3]; omega

/-- The tiles' blocks cover the output. -/
theorem cover10 (j : S2x4096x2048.Idx) : ∃ t : Fin cfg0.N, (cfg0.win 10).flush t = true ∧ j ∈ ((cfg0.win 10).blk t).view.set := by
  have h0 : (j 0).val < 2 := (j 0).isLt
  have h1 : (j 1).val < 4096 := (j 1).isLt
  have hN : cfg0.N = 176 := N_0
  exact ⟨⟨(j 0).val * 88 + (j 1).val / 512 * 11 + 10, by omega⟩, (flush0_10 _).mpr (by dsimp only; omega), mem10 _ j (by dsimp only; omega) (by dsimp only; omega)⟩

/-- The points' blocks cover the last rows. -/
theorem cover11 (j : S2x8x8x5632.Idx) : ∃ t : Fin cfg0.N, (cfg0.win 11).flush t = true ∧ j ∈ ((cfg0.win 11).blk t).view.set := by
  have h0 : (j 0).val < 2 := (j 0).isLt
  have h1 : (j 1).val < 8 := (j 1).isLt
  have h3 : (j 3).val < 5632 := (j 3).isLt
  have hN : cfg0.N = 176 := N_0
  exact ⟨⟨(j 0).val * 88 + (j 1).val * 11 + (j 3).val / 512, by omega⟩, flush0_11 _, mem11 _ j (by dsimp only; omega) (by dsimp only; omega) (by dsimp only; omega)⟩

include hx hg hwu hcw hcb hwd

/-- After the run the first result array is the part's output. -/
theorem final10 : (dats m 0 c).arrAt 10 cfg0.N = outArr x g wu cw cb wd :=
  (dats m 0 c).arrAt_eq_of_cover 10 (outArr x g wu cw cb wd) (fun t h => flushed10_eq m c x g wu cw cb wd hx hg hwu hcw hcb hwd t h) cover10

/-- After the run the second result array is the last rows of the up projection. -/
theorem final11 : (dats m 0 c).arrAt 11 cfg0.N = atArr x g wu :=
  (dats m 0 c).arrAt_eq_of_cover 11 (atArr x g wu) (fun t _ => flushed11_eq m c x g wu cw cb wd hx hg hwu hcw hcb hwd t) cover11

end Cert.FfnIdeal.Gen

end
-- ==== Proof.FfnRef.lean ====
/- What the feed-forward reference computes: entry by entry, the part's output, and the last rows of each tile's up
   projection. -/
module

public import proofs.«01_k».proof.Proof.FfnSpec
public import proofs.«01_k».proof.Proof.Gen.FfnReferenceIdeal.Read

@[expose] public section

set_option maxRecDepth 16384

noncomputable section

namespace Cert.FfnReferenceIdeal.Read

open Cert.FfnReferenceIdeal Cert.FfnReferenceIdeal.Gen Idealize.ShloMosaic Idealize.ShloMosaic.ValueIdx Cert.FeedForward

variable (x : ℕ → ℕ → ℕ → EReal) (g : ℕ → EReal) (wu : ℕ → ℕ → EReal) (cw : ℕ → ℕ → EReal) (cb : ℕ → EReal) (wd : ℕ → ℕ → EReal)
  (x0 : Vec Ideal S2x4096x2048 .f32) (x1 : Vec Ideal S2048 .f32) (x2 : Vec Ideal S1x2048x11264 .f32)
  (x3 : Vec Ideal S3x5632 .f32) (x4 : Vec Ideal S5632 .f32) (x5 : Vec Ideal S1x5632x2048 .f32)
  (hx : ∀ b t e, (x0 (ix3 b t e) : EReal) = x b.val t.val e.val)
  (hg : ∀ e, (x1 (ix1 e) : EReal) = g e.val)
  (hwu : ∀ d n, (x2 (ix3 (0 : Fin 1) d n) : EReal) = wu d.val n.val)
  (hcw : ∀ k n, (x3 (ix2 k n) : EReal) = cw k.val n.val)
  (hcb : ∀ n, (x4 (ix1 n) : EReal) = cb n.val)
  (hwd : ∀ n d, (x5 (ix3 (0 : Fin 1) n d) : EReal) = wd n.val d.val)

include hx in
/-- A row's mean of squares and the small number, under the root. -/
theorem mean_val (b : Fin 2) (t : Fin 4096) :
    (val_main_v6 (F := Ideal) x0 (ix3 b t (0 : Fin 1)) : EReal)
      = Ideal.div (∑ e : Fin 2048, x b.val t.val e.val * x b.val t.val e.val) (Ideal.ofBits .f32 0x45000000#32) + Ideal.ofBits .f32 0x358637BD#32 := by
  have e2 : idx_main_v2 (ix3 b t (0 : Fin 1)) = ix2 b t := funext fun a => Fin.ext (match a with | ⟨0, _⟩ => rfl | ⟨1, _⟩ => rfl)
  rw [val_main_v6_apply, val_main_v4_apply, val_main_v2_apply, e2, val_main_v1_apply, val_main_v3_apply, val_main_v5_apply, val_main_cst_apply,
    val_main_cst_0_apply, val_main_cst_1_apply]
  refine congrArg (fun u : EReal => Ideal.div u (Ideal.ofBits .f32 0x45000000#32) + Ideal.ofBits .f32 0x358637BD#32) ?_
  refine (congrArg₂ (fun u w : EReal => u + w) Ideal.ofBits_zero_f32 (Finset.sum_congr rfl fun e _ => ?_)).trans (zero_add _)
  have e1 : idx_main_v1 (ix2 b t) e = ix3 b t e := funext fun a => Fin.ext (match a with | ⟨0, _⟩ => rfl | ⟨1, _⟩ => rfl | ⟨2, _⟩ => rfl)
  rw [val_main_v0_apply, e1]
  exact congrArg₂ (fun u w : EReal => u * w) (hx b t e) (hx b t e)

include hx hg in
/-- The scaled row. -/
theorem scaled_val (b : Fin 2) (t : Fin 4096) (d : Fin 2048) :
    (val_main_v12 (F := Ideal) x0 x1 (ix3 b t d) : EReal) = scaled (fun e => x b.val t.val e.val) (fun e => g e.val) d := by
  have e8 : idx_main_v8 (ix3 b t d) = ix3 b t (0 : Fin 1) := funext fun a => Fin.ext (match a with | ⟨0, _⟩ => rfl | ⟨1, _⟩ => rfl | ⟨2, _⟩ => rfl)
  have e10 : idx_main_v10 (idx_main_v11 (ix3 b t d)) = ix1 d := funext fun a => Fin.ext (match a with | ⟨0, _⟩ => rfl)
  rw [val_main_v12_apply, val_main_v9_apply, val_main_v8_apply, e8, val_main_v7_apply, val_main_v11_apply, val_main_v10_apply, e10]
  exact congrArg₂ (fun u w : EReal => u * w)
    (congrArg₂ (fun u w : EReal => u * Ideal.rsqrt w) (hx b t d) (mean_val x x0 hx b t)) (hg d)

include hx hg hwu in
/-- The up projection. -/
theorem up_val (b : Fin 2) (t : Fin 4096) (n : Fin 11264) :
    (val_main_v14 (F := Ideal) x0 x1 x2 (ix3 b t n) : EReal) = up x g wu b.val t.val n.val := by
  rw [val_main_v14_apply, up]
  refine Finset.sum_congr rfl fun d _ => ?_
  have hd := d.isLt
  have hn := n.isLt
  have el : lidx_main_v14 (ix3 b t n) d = ix3 b t d := funext fun a => Fin.ext (match a with | ⟨0, _⟩ => rfl | ⟨1, _⟩ => rfl | ⟨2, _⟩ => rfl)
  rw [el, val_main_v13_apply]
  refine congrArg₂ (fun u w : EReal => u * w) (scaled_val x g x0 x1 hx hg b t d) (Eq.trans (congrArg x2 (funext fun a => Fin.ext ?_)) (hwu d n))
  match a with
  | ⟨0, _⟩ => rfl
  | ⟨1, _⟩ => exact (by show (d.val * 11264 + n.val) / 11264 % 2048 = d.val; omega)
  | ⟨2, _⟩ => exact (by show (d.val * 11264 + n.val) % 11264 = n.val; omega)

include hx hg hwu in
theorem a_val (b : Fin 2) (t : Fin 4096) (n : Fin 5632) :
    (val_main_v15 (F := Ideal) x0 x1 x2 (ix3 b t n) : EReal) = up x g wu b.val t.val n.val := by
  have hn := n.isLt
  have e : idx_main_v15 (ix3 b t n) = ix3 b t (⟨n.val, by omega⟩ : Fin 11264) := funext fun a => Fin.ext (match a with | ⟨0, _⟩ => rfl | ⟨1, _⟩ => rfl | ⟨2, _⟩ => rfl)
  rw [val_main_v15_apply, e]
  exact up_val x g wu x0 x1 x2 hx hg hwu b t _

include hx hg hwu in
theorem gate_val (b : Fin 2) (t : Fin 4096) (n : Fin 5632) :
    (val_main_v16 (F := Ideal) x0 x1 x2 (ix3 b t n) : EReal) = up x g wu b.val t.val (5632 + n.val) := by
  have hn := n.isLt
  have e : idx_main_v16 (ix3 b t n) = ix3 b t (⟨5632 + n.val, by omega⟩ : Fin 11264) := funext fun a => Fin.ext (match a with | ⟨0, _⟩ => rfl | ⟨1, _⟩ => rfl | ⟨2, _⟩ => rfl)
  rw [val_main_v16_apply, e]
  exact up_val x g wu x0 x1 x2 hx hg hwu b t _

include hx hg hwu in
/-- The extended rows: two of zeros, then the up projection. -/
theorem ext_val (b : Fin 2) (s : Fin 4098) (n : Fin 5632) :
    (val_main_v18 (F := Ideal) x0 x1 x2 (ix3 b s n) : EReal) = if 2 ≤ s.val then up x g wu b.val (s.val - 2) n.val else 0 := by
  have hs := s.isLt
  unfold val_main_v18
  by_cases h : 2 ≤ s.val
  · rw [if_pos h, ← a_val x g wu x0 x1 x2 hx hg hwu b ⟨s.val - 2, by omega⟩ n]
    exact concatenate_pair_apply_right (α := EReal) (t := S2x4098x5632) (s₁ := S2x2x5632) (s₂ := S2x4096x5632) 1 _ _ _ (ix3 b s n) rfl rfl
      (ix3 b ⟨s.val - 2, by omega⟩ n) (fun a ha => by match a with | ⟨0, _⟩ => rfl | ⟨1, _⟩ => exact absurd rfl ha | ⟨2, _⟩ => rfl)
      (by show s.val - 2 + 2 = s.val; omega)
  · rw [if_neg h]
    refine (concatenate_pair_apply_left (α := EReal) (t := S2x4098x5632) (s₁ := S2x2x5632) (s₂ := S2x4096x5632) 1 _ _ _ (ix3 b s n) rfl
      (ix3 b (⟨s.val, by omega⟩ : Fin 2) n) (fun a => by match a with | ⟨0, _⟩ => rfl | ⟨1, _⟩ => rfl | ⟨2, _⟩ => rfl)).trans ?_
    rw [val_main_v17_apply]
    exact Ideal.ofBits_zero_f32

include hx hg hwu hcw in
/-- One tap's term. -/
theorem tap_val (b : Fin 2) (t : Fin 4096) (n : Fin 5632) (k : Fin 3) (i : S2x4098x5632.Idx) (j : S3x5632.Idx)
    (hi : i = ix3 b (⟨k.val + t.val, by omega⟩ : Fin 4098) n) (hj : j = ix2 k n) :
    (val_main_v18 (F := Ideal) x0 x1 x2 i : EReal) * x3 j = tap x g wu b.val t.val k.val n.val * cw k.val n.val := by
  subst hi hj
  rw [ext_val x g wu x0 x1 x2 hx hg hwu, tap, hcw, add_comm t.val k.val]

include hx hg hwu hcw hcb in
/-- The convolution. -/
theorem conv_val (b : Fin 2) (t : Fin 4096) (n : Fin 5632) :
    (val_main_v43 (F := Ideal) x0 x1 x2 x3 x4 (ix3 b t n) : EReal) = conv x g wu cw cb b.val t.val n.val := by
  have hn := n.isLt
  have e4 : idx_main_v41 (idx_main_v42 (ix3 b t n)) = ix1 n := funext fun a => Fin.ext (match a with | ⟨0, _⟩ => rfl)
  rw [val_main_v43_apply, val_main_v42_apply, val_main_v41_apply, e4, val_main_v40_apply, val_main_v33_apply, val_main_v26_apply, val_main_v25_apply,
    val_main_cst_3_apply, val_main_v24_apply, val_main_v32_apply, val_main_v39_apply, val_main_v19_apply, val_main_v27_apply, val_main_v34_apply,
    val_main_v23_apply, val_main_v22_apply, val_main_v21_apply, val_main_v20_apply,
    val_main_v31_apply, val_main_v30_apply, val_main_v29_apply, val_main_v28_apply,
    val_main_v38_apply, val_main_v37_apply, val_main_v36_apply, val_main_v35_apply, conv]
  have e : ∀ (z c a0 a1 a2 : EReal), z = 0 → c + (z + a0 + a1 + a2) = c + a0 + a1 + a2 := fun z c a0 a1 a2 hz => by
    rw [hz, zero_add, ← add_assoc, ← add_assoc]
  refine (e _ _ _ _ _ Ideal.ofBits_zero_f32).trans (congrArg₂ (fun u w : EReal => u + w) (congrArg₂ (fun u w : EReal => u + w)
    (congrArg₂ (fun u w : EReal => u + w) (hcb n) ?_) ?_) ?_)
  · refine tap_val x g wu cw x0 x1 x2 x3 hx hg hwu hcw b t n 0 _ _ (funext fun a => Fin.ext ?_) (funext fun a => Fin.ext ?_)
    · match a with | ⟨0, _⟩ => rfl | ⟨1, _⟩ => exact (by show t.val = 0 + t.val; omega) | ⟨2, _⟩ => rfl
    · match a with | ⟨0, _⟩ => rfl | ⟨1, _⟩ => exact (by show n.val % 5632 = n.val; omega)
  · refine tap_val x g wu cw x0 x1 x2 x3 hx hg hwu hcw b t n 1 _ _ (funext fun a => Fin.ext ?_) (funext fun a => Fin.ext ?_)
    · match a with | ⟨0, _⟩ => rfl | ⟨1, _⟩ => rfl | ⟨2, _⟩ => rfl
    · match a with | ⟨0, _⟩ => rfl | ⟨1, _⟩ => exact (by show n.val % 5632 = n.val; omega)
  · refine tap_val x g wu cw x0 x1 x2 x3 hx hg hwu hcw b t n 2 _ _ (funext fun a => Fin.ext ?_) (funext fun a => Fin.ext ?_)
    · match a with | ⟨0, _⟩ => rfl | ⟨1, _⟩ => rfl | ⟨2, _⟩ => rfl
    · match a with | ⟨0, _⟩ => rfl | ⟨1, _⟩ => exact (by show n.val % 5632 = n.val; omega)

include hx hg hwu hcw hcb in
/-- The gated unit. -/
theorem act_val (b : Fin 2) (t : Fin 4096) (n : Fin 5632) :
    (val_main_v57 (F := Ideal) x0 x1 x2 x3 x4 (ix3 b t n) : EReal) = act x g wu cw cb b.val t.val n.val := by
  have hc := conv_val x g wu cw cb x0 x1 x2 x3 x4 hx hg hwu hcw hcb b t n
  rw [val_main_v57_apply, val_main_v56_apply, val_main_v55_apply, val_main_v54_apply, val_main_v53_apply, val_main_v52_apply, val_main_v51_apply,
    val_main_v50_apply, val_main_v49_apply, val_main_v48_apply, val_main_v47_apply, val_main_v46_apply, val_main_v45_apply, val_main_v44_apply,
    val_main_cst_4_apply, val_main_cst_5_apply, val_main_cst_6_apply, val_main_cst_7_apply, hc, act]
  refine congrArg₂ (fun u w : EReal => u * w) ?_ (gate_val x g wu x0 x1 x2 hx hg hwu b t n)
  unfold gelu
  rw [← mul_assoc (conv x g wu cw cb b.val t.val n.val) (conv x g wu cw cb b.val t.val n.val)]
  rfl

include hx hg hwu hcw hcb hwd in
/-- The first result's entry: the part's output. -/
theorem out_val (b : Fin 2) (t : Fin 4096) (d : Fin 2048) :
    (val_main_v60 (F := Ideal) x0 x1 x2 x3 x4 x5 (ix3 b t d) : EReal) = out x g wu cw cb wd b.val t.val d.val := by
  rw [val_main_v60_apply, val_main_v59_apply, out, ← Fin.sum_univ_eq_sum_range (fun n => act x g wu cw cb b.val t.val n * wd n d.val) 5632]
  refine congrArg₂ (fun u w : EReal => u + w) (hx b t d) (Finset.sum_congr rfl fun n _ => ?_)
  have hn := n.isLt
  have hd := d.isLt
  have el : lidx_main_v59 (ix3 b t d) n = ix3 b t n := funext fun a => Fin.ext (match a with | ⟨0, _⟩ => rfl | ⟨1, _⟩ => rfl | ⟨2, _⟩ => rfl)
  rw [el, val_main_v58_apply]
  refine congrArg₂ (fun u w : EReal => u * w) (act_val x g wu cw cb x0 x1 x2 x3 x4 hx hg hwu hcw hcb b t n) (Eq.trans (congrArg x5 (funext fun a => Fin.ext ?_)) (hwd n d))
  match a with
  | ⟨0, _⟩ => rfl
  | ⟨1, _⟩ => exact (by show (n.val * 2048 + d.val) / 2048 % 5632 = n.val; omega)
  | ⟨2, _⟩ => exact (by show (n.val * 2048 + d.val) % 2048 = d.val; omega)

include hx hg hwu in
/-- The second result's entry: the tiles' last rows of the up projection. -/
theorem at_val (b : Fin 2) (p r : Fin 8) (n : Fin 5632) :
    (val_main_v62 (F := Ideal) x0 x1 x2 (ix4 b p r n) : EReal) = up x g wu b.val (512 * p.val + 504 + r.val) n.val := by
  have hb := b.isLt
  have hp := p.isLt
  have hr := r.isLt
  have hn := n.isLt
  have e : idx_main_v61 (idx_main_v62 (ix4 b p r n)) = ix3 b (⟨512 * p.val + 504 + r.val, by omega⟩ : Fin 4096) n := funext fun a => Fin.ext (by
    match a with
    | ⟨0, _⟩ => exact (by show (((b.val * 8 + p.val) * 512 + (504 + r.val)) * 5632 + n.val) / 23068672 = b.val; omega)
    | ⟨1, _⟩ => exact (by show (((b.val * 8 + p.val) * 512 + (504 + r.val)) * 5632 + n.val) / 5632 % 4096 = 512 * p.val + 504 + r.val; omega)
    | ⟨2, _⟩ => exact (by show (((b.val * 8 + p.val) * 512 + (504 + r.val)) * 5632 + n.val) % 5632 = n.val; omega))
  rw [val_main_v62_apply, val_main_v61_apply, e]
  exact a_val x g wu x0 x1 x2 hx hg hwu b _ n

end Cert.FfnReferenceIdeal.Read

end
-- ==== Proof.FfnAlg.lean ====
/- The feed-forward call equals its reference: the first result holds the part's output, the second the last rows of every
   tile's up projection. -/
module

public import proofs.«01_k».proof.Defs
public import proofs.«01_k».proof.Proof.FfnArray
public import proofs.«01_k».proof.Proof.FfnRef
public import proofs.«01_k».proof.Proof.Gen.FfnReferenceIdeal.Run

@[expose] public section

set_option maxRecDepth 16384

noncomputable section

open Idealize.ShloMosaic Idealize.ShloMosaic.TcCoe Idealize.ShloMosaic.ValueIdx Idealize.SL.Sem Cert.FeedForward

namespace Cert.Proof.FfnClaims

/-! ## The arguments read by plain numbers -/

/-- A vector's entry at a number, zero outside. -/
def read1 {p : ℕ} (v : (⟨1, ![p]⟩ : Shape).Idx → EReal) (n : ℕ) : EReal := if h : n < p then v (ix1 ⟨n, h⟩) else 0
/-- A matrix's entry at two numbers, zero outside. -/
def read2 {p q : ℕ} (v : (⟨2, ![p, q]⟩ : Shape).Idx → EReal) (r c : ℕ) : EReal :=
  if h : r < p ∧ c < q then v (ix2 ⟨r, h.1⟩ ⟨c, h.2⟩) else 0
/-- A stack of matrices' entry at three numbers, zero outside. -/
def read3 {o p q : ℕ} (v : (⟨3, ![o, p, q]⟩ : Shape).Idx → EReal) (b r c : ℕ) : EReal :=
  if h : b < o ∧ r < p ∧ c < q then v (ix3 ⟨b, h.1⟩ ⟨r, h.2.1⟩ ⟨c, h.2.2⟩) else 0

theorem read1_val {p : ℕ} (v : (⟨1, ![p]⟩ : Shape).Idx → EReal) (n : Fin p) : v (ix1 n) = read1 v n.val := by
  unfold read1
  rw [dif_pos n.isLt]
theorem read2_val {p q : ℕ} (v : (⟨2, ![p, q]⟩ : Shape).Idx → EReal) (r : Fin p) (c : Fin q) : v (ix2 r c) = read2 v r.val c.val := by
  unfold read2
  rw [dif_pos ⟨r.isLt, c.isLt⟩]
theorem read3_val {o p q : ℕ} (v : (⟨3, ![o, p, q]⟩ : Shape).Idx → EReal) (b : Fin o) (r : Fin p) (c : Fin q) :
    v (ix3 b r c) = read3 v b.val r.val c.val := by
  unfold read3
  rw [dif_pos ⟨b.isLt, r.isLt, c.isLt⟩]

section Equation

variable (m : (ℓ : Loc Cert.FfnIdeal.nD Cert.FfnIdeal.τ Cert.FfnIdeal.sig) → Buf (Elt Ideal) ℓ) (c : Dev Cert.FfnIdeal.nD)

/-- The input. -/
def xR : ℕ → ℕ → ℕ → EReal := read3 (o := 2) (p := 4096) (q := 2048) (m ((c.tc : Thread Cert.FfnIdeal.nD Cert.FfnIdeal.τ).loc Cert.FfnIdeal.main_arg0))
/-- The gain. -/
def gR : ℕ → EReal := read1 (p := 2048) (m ((c.tc : Thread Cert.FfnIdeal.nD Cert.FfnIdeal.τ).loc Cert.FfnIdeal.main_arg1))
/-- The up projection's weights. -/
def wuR : ℕ → ℕ → EReal := read3 (o := 1) (p := 2048) (q := 11264) (m ((c.tc : Thread Cert.FfnIdeal.nD Cert.FfnIdeal.τ).loc Cert.FfnIdeal.main_arg2)) 0
/-- The convolution's weights. -/
def cwR : ℕ → ℕ → EReal := read2 (p := 3) (q := 5632) (m ((c.tc : Thread Cert.FfnIdeal.nD Cert.FfnIdeal.τ).loc Cert.FfnIdeal.main_arg3))
/-- The convolution's bias. -/
def cbR : ℕ → EReal := read1 (p := 5632) (m ((c.tc : Thread Cert.FfnIdeal.nD Cert.FfnIdeal.τ).loc Cert.FfnIdeal.main_arg4))
/-- The down projection's weights. -/
def wdR : ℕ → ℕ → EReal := read3 (o := 1) (p := 5632) (q := 2048) (m ((c.tc : Thread Cert.FfnIdeal.nD Cert.FfnIdeal.τ).loc Cert.FfnIdeal.main_arg5)) 0

/-- The kernel's first result is the part's output. -/
theorem kernel_out : (Cert.FfnIdeal.Gen.dats m 0 c).arrAt 10 Cert.FfnIdeal.cfg0.N
    = Cert.FfnIdeal.Gen.outArr (xR m c) (gR m c) (wuR m c) (cwR m c) (cbR m c) (wdR m c) :=
  Cert.FfnIdeal.Gen.final10 m c _ _ _ _ _ _ (read3_val _) (read1_val _) (read3_val _ 0) (read2_val _) (read1_val _) (read3_val _ 0)

/-- The kernel's second result is the last rows of the up projection. -/
theorem kernel_at : (Cert.FfnIdeal.Gen.dats m 0 c).arrAt 11 Cert.FfnIdeal.cfg0.N
    = Cert.FfnIdeal.Gen.atArr (xR m c) (gR m c) (wuR m c) :=
  Cert.FfnIdeal.Gen.final11 m c _ _ _ (cwR m c) (cbR m c) (wdR m c) (read3_val _) (read1_val _) (read3_val _ 0) (read2_val _) (read1_val _) (read3_val _ 0)

/-- The reference's first result is the part's output. -/
theorem reference_out : Cert.FfnReferenceIdeal.Read.val_main_v60 (F := Ideal)
      (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5))
    = Cert.FfnIdeal.Gen.outArr (xR m c) (gR m c) (wuR m c) (cwR m c) (cbR m c) (wdR m c) := by
  funext i
  obtain ⟨b, t, d, rfl⟩ : ∃ (b : Fin 2) (t : Fin 4096) (d : Fin 2048), i = ix3 b t d := ⟨i 0, i 1, i 2, eq_ix3 i⟩
  exact Cert.FfnReferenceIdeal.Read.out_val (xR m c) (gR m c) (wuR m c) (cwR m c) (cbR m c) (wdR m c) _ _ _ _ _ _
    (read3_val _) (read1_val _) (read3_val _ 0) (read2_val _) (read1_val _) (read3_val _ 0) b t d

/-- The reference's second result is the last rows of the up projection. -/
theorem reference_at : Cert.FfnReferenceIdeal.Read.val_main_v62 (F := Ideal)
      (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
    = Cert.FfnIdeal.Gen.atArr (xR m c) (gR m c) (wuR m c) := by
  funext i
  obtain ⟨b, p, r, n, rfl⟩ : ∃ (b : Fin 2) (p r : Fin 8) (n : Fin 5632), i = ix4 b p r n := ⟨i 0, i 1, i 2, i 3, eq_ix4 i⟩
  exact Cert.FfnReferenceIdeal.Read.at_val (xR m c) (gR m c) (wuR m c) _ _ _ (read3_val _) (read1_val _) (read3_val _ 0) b p r n

end Equation

/-- The kernel and the reference end with the same two arrays. -/
theorem algebraic : Cert.algebraic_FfnIdeal_FfnReferenceIdeal := by
  intro m g m' g' _ hm
  refine ⟨fun c => Cert.FfnIdeal.Gen.outArr (xR m c) (gR m c) (wuR m c) (cwR m c) (cbR m c) (wdR m c),
    fun c => Cert.FfnIdeal.Gen.atArr (xR m c) (gR m c) (wuR m c), ?_, ?_⟩
  · exact (θ_run Cert.FfnIdeal.defs _ _).mono
      (fun r hr c => ⟨(hr c).1.trans (kernel_out m c), (hr c).2.1.trans (kernel_at m c), (hr c).2.2⟩) (Cert.FfnIdeal.Value.run_blocks (F := Ideal) m g)
  · refine (θ_run Cert.FfnReferenceIdeal.defs _ _).mono
      (fun r hr c => ⟨(hr c).1.trans ?_, (hr c).2.1.trans ?_, (hr c).2.2⟩) (Cert.FfnReferenceIdeal.Value.run (F := Ideal) m' g')
    · obtain ⟨e0, e1, e2, e3, e4, e5⟩ := hm c
      rw [Cert.FfnReferenceIdeal.Read.val_main_v60_eq, e0, e1, e2, e3, e4, e5]
      exact reference_out m c
    · obtain ⟨e0, e1, e2, e3, e4, e5⟩ := hm c
      rw [Cert.FfnReferenceIdeal.Read.val_main_v62_eq, e0, e1, e2]
      exact reference_at m c

end Cert.Proof.FfnClaims

end
-- ==== Proof.lean ====
module

public import proofs.«01_k».proof.Defs
public import proofs.«01_k».proof.Proof.AttnFrames
public import proofs.«01_k».proof.Proof.AttnAlg
public import proofs.«01_k».proof.Proof.FfnFrames
public import proofs.«01_k».proof.Proof.FfnAlg
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Ffn
public import proofs.«01_k».proof.Proof.Gen.FfnIdeal
public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnReferenceIdeal
public import proofs.«01_k».proof.Proof.Gen.FfnReferenceIdeal.Run
public import proofs.«01_k».proof.Proof.Gen.FfnReferenceIdeal.Read
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Pre_finite_scores.Gen.facts,
    AttnClaims.frame_p, AttnClaims.frame_pi, fun m g _ => AttnClaims.frame_pi m g trivial, AttnClaims.frame_ri,
    fun m g _ => AttnClaims.frame_ri m g trivial, FfnClaims.frame_p, FfnClaims.frame_pi, FfnClaims.frame_ri,
    AttnClaims.preserves, AttnClaims.algebraic, FfnClaims.preserves, FfnClaims.algebraic⟩

end Cert.Proof

end
